-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradReferenceIdeal (m : (ℓ : Loc Cert.WgradReferenceIdeal.nD Cert.WgradReferenceIdeal.τ Cert.WgradReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinReferenceIdeal (m : (ℓ : Loc Cert.WinReferenceIdeal.nD Cert.WinReferenceIdeal.τ Cert.WinReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Misc (m : (ℓ : Loc Cert.Misc.nD Cert.Misc.τ Cert.Misc.sig) → Buf (Elt Bits) ℓ) : Prop :=
  True

def Pre_MiscIdeal (m : (ℓ : Loc Cert.MiscIdeal.nD Cert.MiscIdeal.τ Cert.MiscIdeal.sig) → Buf (Elt Ideal) ℓ) : Prop :=
  True

def Pre_MiscReferenceIdeal (m : (ℓ : Loc Cert.MiscReferenceIdeal.nD Cert.MiscReferenceIdeal.τ Cert.MiscReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1)
      ∧ r.2.mem ((c.tc : Thread Cert.Wgrad.nD Cert.Wgrad.τ).loc Cert.Wgrad.main_arg2) = m ((c.tc : Thread Cert.Wgrad.nD Cert.Wgrad.τ).loc Cert.Wgrad.main_arg2)
      ∧ r.2.mem ((c.tc : Thread Cert.Wgrad.nD Cert.Wgrad.τ).loc Cert.Wgrad.main_arg3) = m ((c.tc : Thread Cert.Wgrad.nD Cert.Wgrad.τ).loc Cert.Wgrad.main_arg3)
      ∧ r.2.mem ((c.tc : Thread Cert.Wgrad.nD Cert.Wgrad.τ).loc Cert.Wgrad.main_arg4) = m ((c.tc : Thread Cert.Wgrad.nD Cert.Wgrad.τ).loc Cert.Wgrad.main_arg4))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
      ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
      ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3)
      ∧ r.2.mem ((c.tc : Thread Cert.WgradIdeal.nD Cert.WgradIdeal.τ).loc Cert.WgradIdeal.main_arg4) = m ((c.tc : Thread Cert.WgradIdeal.nD Cert.WgradIdeal.τ).loc Cert.WgradIdeal.main_arg4))
      ∧ r.2.sem = fun _ => 0)

def quiescent_WgradReferenceIdeal [hWgradReferenceIdeal : Cert.WgradReferenceIdeal.Facts] : Prop :=
  ∀ (m : (ℓ : Loc Cert.WgradReferenceIdeal.nD Cert.WgradReferenceIdeal.τ Cert.WgradReferenceIdeal.sig) → Buf (Elt Ideal) ℓ) (g : Dev Cert.WgradReferenceIdeal.nD → PrngReg), Pre_WgradReferenceIdeal m →
    θ_run (Cert.WgradReferenceIdeal.defs (F := Ideal)) (onTc (τ := Cert.WgradReferenceIdeal.τ) (Cert.WgradReferenceIdeal.main (F := Ideal))) ⟨m, fun _ => 0, g⟩ (fun r => (∀ c : Dev Cert.WgradReferenceIdeal.nD,
      r.2.mem ((c.tc : Thread Cert.WgradReferenceIdeal.nD Cert.WgradReferenceIdeal.τ).loc Cert.WgradReferenceIdeal.main_arg0) = m ((c.tc : Thread Cert.WgradReferenceIdeal.nD Cert.WgradReferenceIdeal.τ).loc Cert.WgradReferenceIdeal.main_arg0)
      ∧ r.2.mem ((c.tc : Thread Cert.WgradReferenceIdeal.nD Cert.WgradReferenceIdeal.τ).loc Cert.WgradReferenceIdeal.main_arg1) = m ((c.tc : Thread Cert.WgradReferenceIdeal.nD Cert.WgradReferenceIdeal.τ).loc Cert.WgradReferenceIdeal.main_arg1)
      ∧ r.2.mem ((c.tc : Thread Cert.WgradReferenceIdeal.nD Cert.WgradReferenceIdeal.τ).loc Cert.WgradReferenceIdeal.main_arg2) = m ((c.tc : Thread Cert.WgradReferenceIdeal.nD Cert.WgradReferenceIdeal.τ).loc Cert.WgradReferenceIdeal.main_arg2)
      ∧ r.2.mem ((c.tc : Thread Cert.WgradReferenceIdeal.nD Cert.WgradReferenceIdeal.τ).loc Cert.WgradReferenceIdeal.main_arg3) = m ((c.tc : Thread Cert.WgradReferenceIdeal.nD Cert.WgradReferenceIdeal.τ).loc Cert.WgradReferenceIdeal.main_arg3)
      ∧ r.2.mem ((c.tc : Thread Cert.WgradReferenceIdeal.nD Cert.WgradReferenceIdeal.τ).loc Cert.WgradReferenceIdeal.main_arg4) = m ((c.tc : Thread Cert.WgradReferenceIdeal.nD Cert.WgradReferenceIdeal.τ).loc Cert.WgradReferenceIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ r.2.sem = fun _ => 0)

def quiescent_WinReferenceIdeal [hWinReferenceIdeal : Cert.WinReferenceIdeal.Facts] : Prop :=
  ∀ (m : (ℓ : Loc Cert.WinReferenceIdeal.nD Cert.WinReferenceIdeal.τ Cert.WinReferenceIdeal.sig) → Buf (Elt Ideal) ℓ) (g : Dev Cert.WinReferenceIdeal.nD → PrngReg), Pre_WinReferenceIdeal m →
    θ_run (Cert.WinReferenceIdeal.defs (F := Ideal)) (onTc (τ := Cert.WinReferenceIdeal.τ) (Cert.WinReferenceIdeal.main (F := Ideal))) ⟨m, fun _ => 0, g⟩ (fun r => (∀ c : Dev Cert.WinReferenceIdeal.nD,
      r.2.mem ((c.tc : Thread Cert.WinReferenceIdeal.nD Cert.WinReferenceIdeal.τ).loc Cert.WinReferenceIdeal.main_arg0) = m ((c.tc : Thread Cert.WinReferenceIdeal.nD Cert.WinReferenceIdeal.τ).loc Cert.WinReferenceIdeal.main_arg0)
      ∧ r.2.mem ((c.tc : Thread Cert.WinReferenceIdeal.nD Cert.WinReferenceIdeal.τ).loc Cert.WinReferenceIdeal.main_arg1) = m ((c.tc : Thread Cert.WinReferenceIdeal.nD Cert.WinReferenceIdeal.τ).loc Cert.WinReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_Misc [hMisc : Cert.Misc.Facts] : Prop :=
  ∀ (m : (ℓ : Loc Cert.Misc.nD Cert.Misc.τ Cert.Misc.sig) → Buf (Elt Bits) ℓ) (g : Dev Cert.Misc.nD → PrngReg), Pre_Misc m →
    θ_run (Cert.Misc.defs (F := Bits)) (onTc (τ := Cert.Misc.τ) (Cert.Misc.main (F := Bits))) ⟨m, fun _ => 0, g⟩ (fun r => (∀ c : Dev Cert.Misc.nD,
      r.2.mem ((c.tc : Thread Cert.Misc.nD Cert.Misc.τ).loc Cert.Misc.main_arg0) = m ((c.tc : Thread Cert.Misc.nD Cert.Misc.τ).loc Cert.Misc.main_arg0)
      ∧ r.2.mem ((c.tc : Thread Cert.Misc.nD Cert.Misc.τ).loc Cert.Misc.main_arg1) = m ((c.tc : Thread Cert.Misc.nD Cert.Misc.τ).loc Cert.Misc.main_arg1)
      ∧ r.2.mem ((c.tc : Thread Cert.Misc.nD Cert.Misc.τ).loc Cert.Misc.main_arg2) = m ((c.tc : Thread Cert.Misc.nD Cert.Misc.τ).loc Cert.Misc.main_arg2)
      ∧ r.2.mem ((c.tc : Thread Cert.Misc.nD Cert.Misc.τ).loc Cert.Misc.main_arg3) = m ((c.tc : Thread Cert.Misc.nD Cert.Misc.τ).loc Cert.Misc.main_arg3)
      ∧ r.2.mem ((c.tc : Thread Cert.Misc.nD Cert.Misc.τ).loc Cert.Misc.main_arg4) = m ((c.tc : Thread Cert.Misc.nD Cert.Misc.τ).loc Cert.Misc.main_arg4)
      ∧ r.2.mem ((c.tc : Thread Cert.Misc.nD Cert.Misc.τ).loc Cert.Misc.main_arg5) = m ((c.tc : Thread Cert.Misc.nD Cert.Misc.τ).loc Cert.Misc.main_arg5)
      ∧ r.2.mem ((c.tc : Thread Cert.Misc.nD Cert.Misc.τ).loc Cert.Misc.main_arg6) = m ((c.tc : Thread Cert.Misc.nD Cert.Misc.τ).loc Cert.Misc.main_arg6))
      ∧ r.2.sem = fun _ => 0)

def quiescent_MiscIdeal [hMiscIdeal : Cert.MiscIdeal.Facts] : Prop :=
  ∀ (m : (ℓ : Loc Cert.MiscIdeal.nD Cert.MiscIdeal.τ Cert.MiscIdeal.sig) → Buf (Elt Ideal) ℓ) (g : Dev Cert.MiscIdeal.nD → PrngReg), Pre_MiscIdeal m →
    θ_run (Cert.MiscIdeal.defs (F := Ideal)) (onTc (τ := Cert.MiscIdeal.τ) (Cert.MiscIdeal.main (F := Ideal))) ⟨m, fun _ => 0, g⟩ (fun r => (∀ c : Dev Cert.MiscIdeal.nD,
      r.2.mem ((c.tc : Thread Cert.MiscIdeal.nD Cert.MiscIdeal.τ).loc Cert.MiscIdeal.main_arg0) = m ((c.tc : Thread Cert.MiscIdeal.nD Cert.MiscIdeal.τ).loc Cert.MiscIdeal.main_arg0)
      ∧ r.2.mem ((c.tc : Thread Cert.MiscIdeal.nD Cert.MiscIdeal.τ).loc Cert.MiscIdeal.main_arg1) = m ((c.tc : Thread Cert.MiscIdeal.nD Cert.MiscIdeal.τ).loc Cert.MiscIdeal.main_arg1)
      ∧ r.2.mem ((c.tc : Thread Cert.MiscIdeal.nD Cert.MiscIdeal.τ).loc Cert.MiscIdeal.main_arg2) = m ((c.tc : Thread Cert.MiscIdeal.nD Cert.MiscIdeal.τ).loc Cert.MiscIdeal.main_arg2)
      ∧ r.2.mem ((c.tc : Thread Cert.MiscIdeal.nD Cert.MiscIdeal.τ).loc Cert.MiscIdeal.main_arg3) = m ((c.tc : Thread Cert.MiscIdeal.nD Cert.MiscIdeal.τ).loc Cert.MiscIdeal.main_arg3)
      ∧ r.2.mem ((c.tc : Thread Cert.MiscIdeal.nD Cert.MiscIdeal.τ).loc Cert.MiscIdeal.main_arg4) = m ((c.tc : Thread Cert.MiscIdeal.nD Cert.MiscIdeal.τ).loc Cert.MiscIdeal.main_arg4)
      ∧ r.2.mem ((c.tc : Thread Cert.MiscIdeal.nD Cert.MiscIdeal.τ).loc Cert.MiscIdeal.main_arg5) = m ((c.tc : Thread Cert.MiscIdeal.nD Cert.MiscIdeal.τ).loc Cert.MiscIdeal.main_arg5)
      ∧ r.2.mem ((c.tc : Thread Cert.MiscIdeal.nD Cert.MiscIdeal.τ).loc Cert.MiscIdeal.main_arg6) = m ((c.tc : Thread Cert.MiscIdeal.nD Cert.MiscIdeal.τ).loc Cert.MiscIdeal.main_arg6))
      ∧ r.2.sem = fun _ => 0)

def quiescent_MiscReferenceIdeal [hMiscReferenceIdeal : Cert.MiscReferenceIdeal.Facts] : Prop :=
  ∀ (m : (ℓ : Loc Cert.MiscReferenceIdeal.nD Cert.MiscReferenceIdeal.τ Cert.MiscReferenceIdeal.sig) → Buf (Elt Ideal) ℓ) (g : Dev Cert.MiscReferenceIdeal.nD → PrngReg), Pre_MiscReferenceIdeal m →
    θ_run (Cert.MiscReferenceIdeal.defs (F := Ideal)) (onTc (τ := Cert.MiscReferenceIdeal.τ) (Cert.MiscReferenceIdeal.main (F := Ideal))) ⟨m, fun _ => 0, g⟩ (fun r => (∀ c : Dev Cert.MiscReferenceIdeal.nD,
      r.2.mem ((c.tc : Thread Cert.MiscReferenceIdeal.nD Cert.MiscReferenceIdeal.τ).loc Cert.MiscReferenceIdeal.main_arg0) = m ((c.tc : Thread Cert.MiscReferenceIdeal.nD Cert.MiscReferenceIdeal.τ).loc Cert.MiscReferenceIdeal.main_arg0)
      ∧ r.2.mem ((c.tc : Thread Cert.MiscReferenceIdeal.nD Cert.MiscReferenceIdeal.τ).loc Cert.MiscReferenceIdeal.main_arg1) = m ((c.tc : Thread Cert.MiscReferenceIdeal.nD Cert.MiscReferenceIdeal.τ).loc Cert.MiscReferenceIdeal.main_arg1)
      ∧ r.2.mem ((c.tc : Thread Cert.MiscReferenceIdeal.nD Cert.MiscReferenceIdeal.τ).loc Cert.MiscReferenceIdeal.main_arg2) = m ((c.tc : Thread Cert.MiscReferenceIdeal.nD Cert.MiscReferenceIdeal.τ).loc Cert.MiscReferenceIdeal.main_arg2)
      ∧ r.2.mem ((c.tc : Thread Cert.MiscReferenceIdeal.nD Cert.MiscReferenceIdeal.τ).loc Cert.MiscReferenceIdeal.main_arg3) = m ((c.tc : Thread Cert.MiscReferenceIdeal.nD Cert.MiscReferenceIdeal.τ).loc Cert.MiscReferenceIdeal.main_arg3)
      ∧ r.2.mem ((c.tc : Thread Cert.MiscReferenceIdeal.nD Cert.MiscReferenceIdeal.τ).loc Cert.MiscReferenceIdeal.main_arg4) = m ((c.tc : Thread Cert.MiscReferenceIdeal.nD Cert.MiscReferenceIdeal.τ).loc Cert.MiscReferenceIdeal.main_arg4)
      ∧ r.2.mem ((c.tc : Thread Cert.MiscReferenceIdeal.nD Cert.MiscReferenceIdeal.τ).loc Cert.MiscReferenceIdeal.main_arg5) = m ((c.tc : Thread Cert.MiscReferenceIdeal.nD Cert.MiscReferenceIdeal.τ).loc Cert.MiscReferenceIdeal.main_arg5)
      ∧ r.2.mem ((c.tc : Thread Cert.MiscReferenceIdeal.nD Cert.MiscReferenceIdeal.τ).loc Cert.MiscReferenceIdeal.main_arg6) = m ((c.tc : Thread Cert.MiscReferenceIdeal.nD Cert.MiscReferenceIdeal.τ).loc Cert.MiscReferenceIdeal.main_arg6))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v49_1)) (v2 : (c : Dev Cert.KernelIdeal.nD) → Buf (Elt Ideal) ((c.tc : Thread Cert.KernelIdeal.nD Cert.KernelIdeal.τ).loc Cert.KernelIdeal.main_v49_2)) (v3 : (c : Dev Cert.KernelIdeal.nD) → Buf (Elt Ideal) ((c.tc : Thread Cert.KernelIdeal.nD Cert.KernelIdeal.τ).loc Cert.KernelIdeal.main_v49_3)) (v4 : (c : Dev Cert.KernelIdeal.nD) → Buf (Elt Ideal) ((c.tc : Thread Cert.KernelIdeal.nD Cert.KernelIdeal.τ).loc Cert.KernelIdeal.main_v49_4)) (v5 : (c : Dev Cert.KernelIdeal.nD) → Buf (Elt Ideal) ((c.tc : Thread Cert.KernelIdeal.nD Cert.KernelIdeal.τ).loc Cert.KernelIdeal.main_v49_5)) (v6 : (c : Dev Cert.KernelIdeal.nD) → Buf (Elt Ideal) ((c.tc : Thread Cert.KernelIdeal.nD Cert.KernelIdeal.τ).loc Cert.KernelIdeal.main_v49_6)) (v7 : (c : Dev Cert.KernelIdeal.nD) → Buf (Elt Ideal) ((c.tc : Thread Cert.KernelIdeal.nD Cert.KernelIdeal.τ).loc Cert.KernelIdeal.main_v49_7)) (v8 : (c : Dev Cert.KernelIdeal.nD) → Buf (Elt Ideal) ((c.tc : Thread Cert.KernelIdeal.nD Cert.KernelIdeal.τ).loc Cert.KernelIdeal.main_v49_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v49_1) = v1 c
          ∧ r.2.mem ((c.tc : Thread Cert.KernelIdeal.nD Cert.KernelIdeal.τ).loc Cert.KernelIdeal.main_v49_2) = v2 c
          ∧ r.2.mem ((c.tc : Thread Cert.KernelIdeal.nD Cert.KernelIdeal.τ).loc Cert.KernelIdeal.main_v49_3) = v3 c
          ∧ r.2.mem ((c.tc : Thread Cert.KernelIdeal.nD Cert.KernelIdeal.τ).loc Cert.KernelIdeal.main_v49_4) = v4 c
          ∧ r.2.mem ((c.tc : Thread Cert.KernelIdeal.nD Cert.KernelIdeal.τ).loc Cert.KernelIdeal.main_v49_5) = v5 c
          ∧ r.2.mem ((c.tc : Thread Cert.KernelIdeal.nD Cert.KernelIdeal.τ).loc Cert.KernelIdeal.main_v49_6) = v6 c
          ∧ r.2.mem ((c.tc : Thread Cert.KernelIdeal.nD Cert.KernelIdeal.τ).loc Cert.KernelIdeal.main_v49_7) = v7 c
          ∧ r.2.mem ((c.tc : Thread Cert.KernelIdeal.nD Cert.KernelIdeal.τ).loc Cert.KernelIdeal.main_v49_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v118) = v1 c
          ∧ r.2.mem ((c.tc : Thread Cert.ReferenceIdeal.nD Cert.ReferenceIdeal.τ).loc Cert.ReferenceIdeal.main_v119) = v2 c
          ∧ r.2.mem ((c.tc : Thread Cert.ReferenceIdeal.nD Cert.ReferenceIdeal.τ).loc Cert.ReferenceIdeal.main_v120) = v3 c
          ∧ r.2.mem ((c.tc : Thread Cert.ReferenceIdeal.nD Cert.ReferenceIdeal.τ).loc Cert.ReferenceIdeal.main_v111) = v4 c
          ∧ r.2.mem ((c.tc : Thread Cert.ReferenceIdeal.nD Cert.ReferenceIdeal.τ).loc Cert.ReferenceIdeal.main_v116) = v5 c
          ∧ r.2.mem ((c.tc : Thread Cert.ReferenceIdeal.nD Cert.ReferenceIdeal.τ).loc Cert.ReferenceIdeal.main_v115) = v6 c
          ∧ r.2.mem ((c.tc : Thread Cert.ReferenceIdeal.nD Cert.ReferenceIdeal.τ).loc Cert.ReferenceIdeal.main_v85) = v7 c
          ∧ r.2.mem ((c.tc : Thread Cert.ReferenceIdeal.nD Cert.ReferenceIdeal.τ).loc Cert.ReferenceIdeal.main_v82) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Wgrad_WgradIdeal : Prop :=
  True

def algebraic_WgradIdeal_WgradReferenceIdeal [hWgradIdeal : Cert.WgradIdeal.Facts] [hWgradReferenceIdeal : Cert.WgradReferenceIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradReferenceIdeal.nD Cert.WgradReferenceIdeal.τ Cert.WgradReferenceIdeal.sig) → Buf (Elt Ideal) ℓ) (g' : Dev Cert.WgradReferenceIdeal.nD → PrngReg), Pre_WgradIdeal m →
    (∀ c : Dev Cert.WgradIdeal.nD,
      m' ((c.tc : Thread Cert.WgradReferenceIdeal.nD Cert.WgradReferenceIdeal.τ).loc Cert.WgradReferenceIdeal.main_arg0) = m ((c.tc : Thread Cert.WgradIdeal.nD Cert.WgradIdeal.τ).loc Cert.WgradIdeal.main_arg0)
      ∧ m' ((c.tc : Thread Cert.WgradReferenceIdeal.nD Cert.WgradReferenceIdeal.τ).loc Cert.WgradReferenceIdeal.main_arg1) = m ((c.tc : Thread Cert.WgradIdeal.nD Cert.WgradIdeal.τ).loc Cert.WgradIdeal.main_arg1)
      ∧ m' ((c.tc : Thread Cert.WgradReferenceIdeal.nD Cert.WgradReferenceIdeal.τ).loc Cert.WgradReferenceIdeal.main_arg2) = m ((c.tc : Thread Cert.WgradIdeal.nD Cert.WgradIdeal.τ).loc Cert.WgradIdeal.main_arg2)
      ∧ m' ((c.tc : Thread Cert.WgradReferenceIdeal.nD Cert.WgradReferenceIdeal.τ).loc Cert.WgradReferenceIdeal.main_arg3) = m ((c.tc : Thread Cert.WgradIdeal.nD Cert.WgradIdeal.τ).loc Cert.WgradIdeal.main_arg3)
      ∧ m' ((c.tc : Thread Cert.WgradReferenceIdeal.nD Cert.WgradReferenceIdeal.τ).loc Cert.WgradReferenceIdeal.main_arg4) = m ((c.tc : Thread Cert.WgradIdeal.nD Cert.WgradIdeal.τ).loc Cert.WgradIdeal.main_arg4)) →
    ∃ (v0 : (c : Dev Cert.WgradIdeal.nD) → Buf (Elt Ideal) ((c.tc : Thread Cert.WgradIdeal.nD Cert.WgradIdeal.τ).loc Cert.WgradIdeal.main_v0_0)) (v1 : (c : Dev Cert.WgradIdeal.nD) → Buf (Elt Ideal) ((c.tc : Thread Cert.WgradIdeal.nD Cert.WgradIdeal.τ).loc Cert.WgradIdeal.main_v0_1)) (v2 : (c : Dev Cert.WgradIdeal.nD) → Buf (Elt Ideal) ((c.tc : Thread Cert.WgradIdeal.nD Cert.WgradIdeal.τ).loc Cert.WgradIdeal.main_v0_2)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v0_0) = v0 c
          ∧ r.2.mem ((c.tc : Thread Cert.WgradIdeal.nD Cert.WgradIdeal.τ).loc Cert.WgradIdeal.main_v0_1) = v1 c
          ∧ r.2.mem ((c.tc : Thread Cert.WgradIdeal.nD Cert.WgradIdeal.τ).loc Cert.WgradIdeal.main_v0_2) = v2 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
          ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
          ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3)
          ∧ r.2.mem ((c.tc : Thread Cert.WgradIdeal.nD Cert.WgradIdeal.τ).loc Cert.WgradIdeal.main_arg4) = m ((c.tc : Thread Cert.WgradIdeal.nD Cert.WgradIdeal.τ).loc Cert.WgradIdeal.main_arg4))
      ∧ θ_run (Cert.WgradReferenceIdeal.defs (F := Ideal)) (onTc (τ := Cert.WgradReferenceIdeal.τ) (Cert.WgradReferenceIdeal.main (F := Ideal))) ⟨m', fun _ => 0, g'⟩ (fun r => ∀ c : Dev Cert.WgradReferenceIdeal.nD,
          r.2.mem ((c.tc : Thread Cert.WgradReferenceIdeal.nD Cert.WgradReferenceIdeal.τ).loc Cert.WgradReferenceIdeal.main_v13) = v0 c
          ∧ r.2.mem ((c.tc : Thread Cert.WgradReferenceIdeal.nD Cert.WgradReferenceIdeal.τ).loc Cert.WgradReferenceIdeal.main_v12) = v1 c
          ∧ r.2.mem ((c.tc : Thread Cert.WgradReferenceIdeal.nD Cert.WgradReferenceIdeal.τ).loc Cert.WgradReferenceIdeal.main_v11) = v2 c
          ∧ r.2.mem ((c.tc : Thread Cert.WgradReferenceIdeal.nD Cert.WgradReferenceIdeal.τ).loc Cert.WgradReferenceIdeal.main_arg0) = m' ((c.tc : Thread Cert.WgradReferenceIdeal.nD Cert.WgradReferenceIdeal.τ).loc Cert.WgradReferenceIdeal.main_arg0)
          ∧ r.2.mem ((c.tc : Thread Cert.WgradReferenceIdeal.nD Cert.WgradReferenceIdeal.τ).loc Cert.WgradReferenceIdeal.main_arg1) = m' ((c.tc : Thread Cert.WgradReferenceIdeal.nD Cert.WgradReferenceIdeal.τ).loc Cert.WgradReferenceIdeal.main_arg1)
          ∧ r.2.mem ((c.tc : Thread Cert.WgradReferenceIdeal.nD Cert.WgradReferenceIdeal.τ).loc Cert.WgradReferenceIdeal.main_arg2) = m' ((c.tc : Thread Cert.WgradReferenceIdeal.nD Cert.WgradReferenceIdeal.τ).loc Cert.WgradReferenceIdeal.main_arg2)
          ∧ r.2.mem ((c.tc : Thread Cert.WgradReferenceIdeal.nD Cert.WgradReferenceIdeal.τ).loc Cert.WgradReferenceIdeal.main_arg3) = m' ((c.tc : Thread Cert.WgradReferenceIdeal.nD Cert.WgradReferenceIdeal.τ).loc Cert.WgradReferenceIdeal.main_arg3)
          ∧ r.2.mem ((c.tc : Thread Cert.WgradReferenceIdeal.nD Cert.WgradReferenceIdeal.τ).loc Cert.WgradReferenceIdeal.main_arg4) = m' ((c.tc : Thread Cert.WgradReferenceIdeal.nD Cert.WgradReferenceIdeal.τ).loc Cert.WgradReferenceIdeal.main_arg4))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v10)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v10) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v9) = v0 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2))

def preserves_Win_WinIdeal : Prop :=
  True

def algebraic_WinIdeal_WinReferenceIdeal [hWinIdeal : Cert.WinIdeal.Facts] [hWinReferenceIdeal : Cert.WinReferenceIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinReferenceIdeal.nD Cert.WinReferenceIdeal.τ Cert.WinReferenceIdeal.sig) → Buf (Elt Ideal) ℓ) (g' : Dev Cert.WinReferenceIdeal.nD → PrngReg), Pre_WinIdeal m →
    (∀ c : Dev Cert.WinIdeal.nD,
      m' ((c.tc : Thread Cert.WinReferenceIdeal.nD Cert.WinReferenceIdeal.τ).loc Cert.WinReferenceIdeal.main_arg0) = m ((c.tc : Thread Cert.WinIdeal.nD Cert.WinIdeal.τ).loc Cert.WinIdeal.main_arg0)
      ∧ m' ((c.tc : Thread Cert.WinReferenceIdeal.nD Cert.WinReferenceIdeal.τ).loc Cert.WinReferenceIdeal.main_arg1) = m ((c.tc : Thread Cert.WinIdeal.nD Cert.WinIdeal.τ).loc Cert.WinIdeal.main_arg1)) →
    ∃ (v0 : (c : Dev Cert.WinIdeal.nD) → Buf (Elt Ideal) ((c.tc : Thread Cert.WinIdeal.nD Cert.WinIdeal.τ).loc Cert.WinIdeal.main_v10)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v10) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ θ_run (Cert.WinReferenceIdeal.defs (F := Ideal)) (onTc (τ := Cert.WinReferenceIdeal.τ) (Cert.WinReferenceIdeal.main (F := Ideal))) ⟨m', fun _ => 0, g'⟩ (fun r => ∀ c : Dev Cert.WinReferenceIdeal.nD,
          r.2.mem ((c.tc : Thread Cert.WinReferenceIdeal.nD Cert.WinReferenceIdeal.τ).loc Cert.WinReferenceIdeal.main_v3) = v0 c
          ∧ r.2.mem ((c.tc : Thread Cert.WinReferenceIdeal.nD Cert.WinReferenceIdeal.τ).loc Cert.WinReferenceIdeal.main_arg0) = m' ((c.tc : Thread Cert.WinReferenceIdeal.nD Cert.WinReferenceIdeal.τ).loc Cert.WinReferenceIdeal.main_arg0)
          ∧ r.2.mem ((c.tc : Thread Cert.WinReferenceIdeal.nD Cert.WinReferenceIdeal.τ).loc Cert.WinReferenceIdeal.main_arg1) = m' ((c.tc : Thread Cert.WinReferenceIdeal.nD Cert.WinReferenceIdeal.τ).loc Cert.WinReferenceIdeal.main_arg1))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v2) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_Misc_MiscIdeal : Prop :=
  True

def algebraic_MiscIdeal_MiscReferenceIdeal [hMiscIdeal : Cert.MiscIdeal.Facts] [hMiscReferenceIdeal : Cert.MiscReferenceIdeal.Facts] : Prop :=
  ∀ (m : (ℓ : Loc Cert.MiscIdeal.nD Cert.MiscIdeal.τ Cert.MiscIdeal.sig) → Buf (Elt Ideal) ℓ) (g : Dev Cert.MiscIdeal.nD → PrngReg)
    (m' : (ℓ : Loc Cert.MiscReferenceIdeal.nD Cert.MiscReferenceIdeal.τ Cert.MiscReferenceIdeal.sig) → Buf (Elt Ideal) ℓ) (g' : Dev Cert.MiscReferenceIdeal.nD → PrngReg), Pre_MiscIdeal m →
    (∀ c : Dev Cert.MiscIdeal.nD,
      m' ((c.tc : Thread Cert.MiscReferenceIdeal.nD Cert.MiscReferenceIdeal.τ).loc Cert.MiscReferenceIdeal.main_arg0) = m ((c.tc : Thread Cert.MiscIdeal.nD Cert.MiscIdeal.τ).loc Cert.MiscIdeal.main_arg0)
      ∧ m' ((c.tc : Thread Cert.MiscReferenceIdeal.nD Cert.MiscReferenceIdeal.τ).loc Cert.MiscReferenceIdeal.main_arg1) = m ((c.tc : Thread Cert.MiscIdeal.nD Cert.MiscIdeal.τ).loc Cert.MiscIdeal.main_arg1)
      ∧ m' ((c.tc : Thread Cert.MiscReferenceIdeal.nD Cert.MiscReferenceIdeal.τ).loc Cert.MiscReferenceIdeal.main_arg2) = m ((c.tc : Thread Cert.MiscIdeal.nD Cert.MiscIdeal.τ).loc Cert.MiscIdeal.main_arg2)
      ∧ m' ((c.tc : Thread Cert.MiscReferenceIdeal.nD Cert.MiscReferenceIdeal.τ).loc Cert.MiscReferenceIdeal.main_arg3) = m ((c.tc : Thread Cert.MiscIdeal.nD Cert.MiscIdeal.τ).loc Cert.MiscIdeal.main_arg3)
      ∧ m' ((c.tc : Thread Cert.MiscReferenceIdeal.nD Cert.MiscReferenceIdeal.τ).loc Cert.MiscReferenceIdeal.main_arg4) = m ((c.tc : Thread Cert.MiscIdeal.nD Cert.MiscIdeal.τ).loc Cert.MiscIdeal.main_arg4)
      ∧ m' ((c.tc : Thread Cert.MiscReferenceIdeal.nD Cert.MiscReferenceIdeal.τ).loc Cert.MiscReferenceIdeal.main_arg5) = m ((c.tc : Thread Cert.MiscIdeal.nD Cert.MiscIdeal.τ).loc Cert.MiscIdeal.main_arg5)
      ∧ m' ((c.tc : Thread Cert.MiscReferenceIdeal.nD Cert.MiscReferenceIdeal.τ).loc Cert.MiscReferenceIdeal.main_arg6) = m ((c.tc : Thread Cert.MiscIdeal.nD Cert.MiscIdeal.τ).loc Cert.MiscIdeal.main_arg6)) →
    ∃ (v0 : (c : Dev Cert.MiscIdeal.nD) → Buf (Elt Ideal) ((c.tc : Thread Cert.MiscIdeal.nD Cert.MiscIdeal.τ).loc Cert.MiscIdeal.main_v0_0)) (v1 : (c : Dev Cert.MiscIdeal.nD) → Buf (Elt Ideal) ((c.tc : Thread Cert.MiscIdeal.nD Cert.MiscIdeal.τ).loc Cert.MiscIdeal.main_v0_1)) (v2 : (c : Dev Cert.MiscIdeal.nD) → Buf (Elt Ideal) ((c.tc : Thread Cert.MiscIdeal.nD Cert.MiscIdeal.τ).loc Cert.MiscIdeal.main_v0_2)),
      θ_run (Cert.MiscIdeal.defs (F := Ideal)) (onTc (τ := Cert.MiscIdeal.τ) (Cert.MiscIdeal.main (F := Ideal))) ⟨m, fun _ => 0, g⟩ (fun r => ∀ c : Dev Cert.MiscIdeal.nD,
          r.2.mem ((c.tc : Thread Cert.MiscIdeal.nD Cert.MiscIdeal.τ).loc Cert.MiscIdeal.main_v0_0) = v0 c
          ∧ r.2.mem ((c.tc : Thread Cert.MiscIdeal.nD Cert.MiscIdeal.τ).loc Cert.MiscIdeal.main_v0_1) = v1 c
          ∧ r.2.mem ((c.tc : Thread Cert.MiscIdeal.nD Cert.MiscIdeal.τ).loc Cert.MiscIdeal.main_v0_2) = v2 c
          ∧ r.2.mem ((c.tc : Thread Cert.MiscIdeal.nD Cert.MiscIdeal.τ).loc Cert.MiscIdeal.main_arg0) = m ((c.tc : Thread Cert.MiscIdeal.nD Cert.MiscIdeal.τ).loc Cert.MiscIdeal.main_arg0)
          ∧ r.2.mem ((c.tc : Thread Cert.MiscIdeal.nD Cert.MiscIdeal.τ).loc Cert.MiscIdeal.main_arg1) = m ((c.tc : Thread Cert.MiscIdeal.nD Cert.MiscIdeal.τ).loc Cert.MiscIdeal.main_arg1)
          ∧ r.2.mem ((c.tc : Thread Cert.MiscIdeal.nD Cert.MiscIdeal.τ).loc Cert.MiscIdeal.main_arg2) = m ((c.tc : Thread Cert.MiscIdeal.nD Cert.MiscIdeal.τ).loc Cert.MiscIdeal.main_arg2)
          ∧ r.2.mem ((c.tc : Thread Cert.MiscIdeal.nD Cert.MiscIdeal.τ).loc Cert.MiscIdeal.main_arg3) = m ((c.tc : Thread Cert.MiscIdeal.nD Cert.MiscIdeal.τ).loc Cert.MiscIdeal.main_arg3)
          ∧ r.2.mem ((c.tc : Thread Cert.MiscIdeal.nD Cert.MiscIdeal.τ).loc Cert.MiscIdeal.main_arg4) = m ((c.tc : Thread Cert.MiscIdeal.nD Cert.MiscIdeal.τ).loc Cert.MiscIdeal.main_arg4)
          ∧ r.2.mem ((c.tc : Thread Cert.MiscIdeal.nD Cert.MiscIdeal.τ).loc Cert.MiscIdeal.main_arg5) = m ((c.tc : Thread Cert.MiscIdeal.nD Cert.MiscIdeal.τ).loc Cert.MiscIdeal.main_arg5)
          ∧ r.2.mem ((c.tc : Thread Cert.MiscIdeal.nD Cert.MiscIdeal.τ).loc Cert.MiscIdeal.main_arg6) = m ((c.tc : Thread Cert.MiscIdeal.nD Cert.MiscIdeal.τ).loc Cert.MiscIdeal.main_arg6))
      ∧ θ_run (Cert.MiscReferenceIdeal.defs (F := Ideal)) (onTc (τ := Cert.MiscReferenceIdeal.τ) (Cert.MiscReferenceIdeal.main (F := Ideal))) ⟨m', fun _ => 0, g'⟩ (fun r => ∀ c : Dev Cert.MiscReferenceIdeal.nD,
          r.2.mem ((c.tc : Thread Cert.MiscReferenceIdeal.nD Cert.MiscReferenceIdeal.τ).loc Cert.MiscReferenceIdeal.main_v16) = v0 c
          ∧ r.2.mem ((c.tc : Thread Cert.MiscReferenceIdeal.nD Cert.MiscReferenceIdeal.τ).loc Cert.MiscReferenceIdeal.main_v14) = v1 c
          ∧ r.2.mem ((c.tc : Thread Cert.MiscReferenceIdeal.nD Cert.MiscReferenceIdeal.τ).loc Cert.MiscReferenceIdeal.main_v18) = v2 c
          ∧ r.2.mem ((c.tc : Thread Cert.MiscReferenceIdeal.nD Cert.MiscReferenceIdeal.τ).loc Cert.MiscReferenceIdeal.main_arg0) = m' ((c.tc : Thread Cert.MiscReferenceIdeal.nD Cert.MiscReferenceIdeal.τ).loc Cert.MiscReferenceIdeal.main_arg0)
          ∧ r.2.mem ((c.tc : Thread Cert.MiscReferenceIdeal.nD Cert.MiscReferenceIdeal.τ).loc Cert.MiscReferenceIdeal.main_arg1) = m' ((c.tc : Thread Cert.MiscReferenceIdeal.nD Cert.MiscReferenceIdeal.τ).loc Cert.MiscReferenceIdeal.main_arg1)
          ∧ r.2.mem ((c.tc : Thread Cert.MiscReferenceIdeal.nD Cert.MiscReferenceIdeal.τ).loc Cert.MiscReferenceIdeal.main_arg2) = m' ((c.tc : Thread Cert.MiscReferenceIdeal.nD Cert.MiscReferenceIdeal.τ).loc Cert.MiscReferenceIdeal.main_arg2)
          ∧ r.2.mem ((c.tc : Thread Cert.MiscReferenceIdeal.nD Cert.MiscReferenceIdeal.τ).loc Cert.MiscReferenceIdeal.main_arg3) = m' ((c.tc : Thread Cert.MiscReferenceIdeal.nD Cert.MiscReferenceIdeal.τ).loc Cert.MiscReferenceIdeal.main_arg3)
          ∧ r.2.mem ((c.tc : Thread Cert.MiscReferenceIdeal.nD Cert.MiscReferenceIdeal.τ).loc Cert.MiscReferenceIdeal.main_arg4) = m' ((c.tc : Thread Cert.MiscReferenceIdeal.nD Cert.MiscReferenceIdeal.τ).loc Cert.MiscReferenceIdeal.main_arg4)
          ∧ r.2.mem ((c.tc : Thread Cert.MiscReferenceIdeal.nD Cert.MiscReferenceIdeal.τ).loc Cert.MiscReferenceIdeal.main_arg5) = m' ((c.tc : Thread Cert.MiscReferenceIdeal.nD Cert.MiscReferenceIdeal.τ).loc Cert.MiscReferenceIdeal.main_arg5)
          ∧ r.2.mem ((c.tc : Thread Cert.MiscReferenceIdeal.nD Cert.MiscReferenceIdeal.τ).loc Cert.MiscReferenceIdeal.main_arg6) = m' ((c.tc : Thread Cert.MiscReferenceIdeal.nD Cert.MiscReferenceIdeal.τ).loc Cert.MiscReferenceIdeal.main_arg6))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)
      ∧ m' ((c.tc : Thread Cert.NormReferenceIdeal.nD Cert.NormReferenceIdeal.τ).loc Cert.NormReferenceIdeal.main_arg4) = m ((c.tc : Thread Cert.NormIdeal.nD Cert.NormIdeal.τ).loc Cert.NormIdeal.main_arg4)
      ∧ m' ((c.tc : Thread Cert.NormReferenceIdeal.nD Cert.NormReferenceIdeal.τ).loc Cert.NormReferenceIdeal.main_arg5) = m ((c.tc : Thread Cert.NormIdeal.nD Cert.NormIdeal.τ).loc Cert.NormIdeal.main_arg5)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v23) = v0 c
          ∧ r.2.mem ((c.tc : Thread Cert.NormReferenceIdeal.nD Cert.NormReferenceIdeal.τ).loc Cert.NormReferenceIdeal.main_v21) = v1 c
          ∧ r.2.mem ((c.tc : Thread Cert.NormReferenceIdeal.nD Cert.NormReferenceIdeal.τ).loc Cert.NormReferenceIdeal.main_v46) = v2 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4)
          ∧ r.2.mem ((c.tc : Thread Cert.NormReferenceIdeal.nD Cert.NormReferenceIdeal.τ).loc Cert.NormReferenceIdeal.main_arg5) = m' ((c.tc : Thread Cert.NormReferenceIdeal.nD Cert.NormReferenceIdeal.τ).loc Cert.NormReferenceIdeal.main_arg5))

def Claim : Prop :=
  ∃ (hKernel : Cert.Kernel.Facts) (hKernelIdeal : Cert.KernelIdeal.Facts) (hReferenceIdeal : Cert.ReferenceIdeal.Facts) (hWgrad : Cert.Wgrad.Facts) (hWgradIdeal : Cert.WgradIdeal.Facts) (hWgradReferenceIdeal : Cert.WgradReferenceIdeal.Facts) (hInproj : Cert.Inproj.Facts) (hInprojIdeal : Cert.InprojIdeal.Facts) (hInprojReferenceIdeal : Cert.InprojReferenceIdeal.Facts) (hWin : Cert.Win.Facts) (hWinIdeal : Cert.WinIdeal.Facts) (hWinReferenceIdeal : Cert.WinReferenceIdeal.Facts) (hProj : Cert.Proj.Facts) (hProjIdeal : Cert.ProjIdeal.Facts) (hProjReferenceIdeal : Cert.ProjReferenceIdeal.Facts) (hMisc : Cert.Misc.Facts) (hMiscIdeal : Cert.MiscIdeal.Facts) (hMiscReferenceIdeal : Cert.MiscReferenceIdeal.Facts) (hNorm : Cert.Norm.Facts) (hNormIdeal : Cert.NormIdeal.Facts) (hNormReferenceIdeal : Cert.NormReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Wgrad (hWgrad := hWgrad)
    ∧ quiescent_WgradIdeal (hWgradIdeal := hWgradIdeal)
    ∧ quiescent_WgradReferenceIdeal (hWgradReferenceIdeal := hWgradReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Win (hWin := hWin)
    ∧ quiescent_WinIdeal (hWinIdeal := hWinIdeal)
    ∧ quiescent_WinReferenceIdeal (hWinReferenceIdeal := hWinReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Misc (hMisc := hMisc)
    ∧ quiescent_MiscIdeal (hMiscIdeal := hMiscIdeal)
    ∧ quiescent_MiscReferenceIdeal (hMiscReferenceIdeal := hMiscReferenceIdeal)
    ∧ quiescent_Norm (hNorm := hNorm)
    ∧ quiescent_NormIdeal (hNormIdeal := hNormIdeal)
    ∧ quiescent_NormReferenceIdeal (hNormReferenceIdeal := hNormReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Wgrad_WgradIdeal
    ∧ algebraic_WgradIdeal_WgradReferenceIdeal (hWgradIdeal := hWgradIdeal) (hWgradReferenceIdeal := hWgradReferenceIdeal)
    ∧ preserves_Inproj_InprojIdeal
    ∧ algebraic_InprojIdeal_InprojReferenceIdeal (hInprojIdeal := hInprojIdeal) (hInprojReferenceIdeal := hInprojReferenceIdeal)
    ∧ preserves_Win_WinIdeal
    ∧ algebraic_WinIdeal_WinReferenceIdeal (hWinIdeal := hWinIdeal) (hWinReferenceIdeal := hWinReferenceIdeal)
    ∧ preserves_Proj_ProjIdeal
    ∧ algebraic_ProjIdeal_ProjReferenceIdeal (hProjIdeal := hProjIdeal) (hProjReferenceIdeal := hProjReferenceIdeal)
    ∧ preserves_Misc_MiscIdeal
    ∧ algebraic_MiscIdeal_MiscReferenceIdeal (hMiscIdeal := hMiscIdeal) (hMiscReferenceIdeal := hMiscReferenceIdeal)
    ∧ preserves_Norm_NormIdeal
    ∧ algebraic_NormIdeal_NormReferenceIdeal (hNormIdeal := hNormIdeal) (hNormReferenceIdeal := hNormReferenceIdeal)
-- ==== Pre_finite.lean ====
abbrev S4096x1024 : Shape := ⟨2, ![4096, 1024]⟩
abbrev S4096x512 : Shape := ⟨2, ![4096, 512]⟩
abbrev S4096x256 : Shape := ⟨2, ![4096, 256]⟩
abbrev S1x1024 : Shape := ⟨2, ![1, 1024]⟩
abbrev S1024x1024 : Shape := ⟨2, ![1024, 1024]⟩
abbrev S4x704x1024 : Shape := ⟨3, ![4, 704, 1024]⟩
abbrev S256x1024 : Shape := ⟨2, ![256, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S4096x512 : S_.BroadcastsInDim S4096x512 (![] : Fin 0 → Fin S4096x512.rank)
  reducesTo_S4096x512_S_d0_1 : S4096x512.ReducesTo [0, 1] S_
  bcast_S_S4096x256 : S_.BroadcastsInDim S4096x256 (![] : Fin 0 → Fin S4096x256.rank)
  reducesTo_S4096x256_S_d0_1 : S4096x256.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S4x704x1024 : S_.BroadcastsInDim S4x704x1024 (![] : Fin 0 → Fin S4x704x1024.rank)
  reducesTo_S4x704x1024_S_d0_1_2 : S4x704x1024.ReducesTo [0, 1, 2] S_
  bcast_S_S256x1024 : S_.BroadcastsInDim S256x1024 (![] : Fin 0 → Fin S256x1024.rank)
  reducesTo_S256x1024_S_d0_1 : S256x1024.ReducesTo [0, 1] S_

variable [Facts]

def fn_part4 {F : FTy → Type} [FloatOps F] (main_v65 : IVec S_ 1) (main_v69 : IVec S1024x1024 1) (main_c_23 : IVec S_ 1) : IVec S_ 1 :=
  let main_v70 : IVec S_ 1 := (fun x v => Host.reduce IntOp.andi x v reducesTo_S1024x1024_S_d0_1 h_S_) main_v69 main_c_23
  let main_v71 : IVec S_ 1 := andi main_v65 main_v70
  main_v71

def fn_part3 {F : FTy → Type} [FloatOps F] (main_arg10 : FVec F S4x704x1024 .bf16) (main_arg11 : FVec F S256x1024 .bf16) (main_arg12 : FVec F S1024x1024 .bf16) (main_v47 : IVec S_ 1) (main_v51 : IVec S4x704x1024 1) (main_c_17 : IVec S_ 1) : IVec S_ 1 :=
  let main_v52 : IVec S_ 1 := (fun x v => Host.reduce IntOp.andi x v reducesTo_S4x704x1024_S_d0_1_2 h_S_) main_v51 main_c_17
  let main_v53 : IVec S_ 1 := andi main_v47 main_v52
  let main_v54 : FVec F S4x704x1024 .f32 := (extf .f32 · bitsLt_bf16_f32) main_arg10
  let main_v55 : FVec F S4x704x1024 .f32 := Host.absf main_v54
  let main_cst_18 : FVec F S_ .f32 := constant S_ .f32 0x7F800000#32
  let main_v56 : FVec F S4x704x1024 .f32 := broadcastInDim S4x704x1024 ![] bcast_S_S4x704x1024 main_cst_18
  let main_v57 : IVec S4x704x1024 1 := cmpf .olt main_v55 main_v56
  let main_c_19 : IVec S_ 1 := constantI S_ 1 1#1
  let main_v58 : IVec S_ 1 := (fun x v => Host.reduce IntOp.andi x v reducesTo_S4x704x1024_S_d0_1_2 h_S_) main_v57 main_c_19
  let main_v59 : IVec S_ 1 := andi main_v53 main_v58
  let main_v60 : FVec F S256x1024 .f32 := (extf .f32 · bitsLt_bf16_f32) main_arg11
  let main_v61 : FVec F S256x1024 .f32 := Host.absf main_v60
  let main_cst_20 : FVec F S_ .f32 := constant S_ .f32 0x7F800000#32
  let main_v62 : FVec F S256x1024 .f32 := broadcastInDim S256x1024 ![] bcast_S_S256x1024 main_cst_20
  let main_v63 : IVec S256x1024 1 := cmpf .olt main_v61 main_v62
  let main_c_21 : IVec S_ 1 := constantI S_ 1 1#1
  let main_v64 : IVec S_ 1 := (fun x v => Host.reduce IntOp.andi x v reducesTo_S256x1024_S_d0_1 h_S_) main_v63 main_c_21
  let main_v65 : IVec S_ 1 := andi main_v59 main_v64
  let main_v66 : FVec F S1024x1024 .f32 := (extf .f32 · bitsLt_bf16_f32) main_arg12
  let main_v67 : FVec F S1024x1024 .f32 := Host.absf main_v66
  let main_cst_22 : FVec F S_ .f32 := constant S_ .f32 0x7F800000#32
  let main_v68 : FVec F S1024x1024 .f32 := broadcastInDim S1024x1024 ![] bcast_S_S1024x1024 main_cst_22
  let main_v69 : IVec S1024x1024 1 := cmpf .olt main_v67 main_v68
  let main_c_23 : IVec S_ 1 := constantI S_ 1 1#1
  fn_part4 (F := F) main_v65 main_v69 main_c_23

def fn_part2 {F : FTy → Type} [FloatOps F] (main_arg7 : FVec F S1024x1024 .bf16) (main_arg8 : FVec F S4x704x1024 .bf16) (main_arg9 : FVec F S4x704x1024 .bf16) (main_arg10 : FVec F S4x704x1024 .bf16) (main_arg11 : FVec F S256x1024 .bf16) (main_arg12 : FVec F S1024x1024 .bf16) (main_v30 : IVec S_ 1) (main_v33 : IVec S1x1024 1) (main_c_11 : IVec S_ 1) : IVec S_ 1 :=
  let main_v34 : IVec S_ 1 := (fun x v => Host.reduce IntOp.andi x v reducesTo_S1x1024_S_d0_1 h_S_) main_v33 main_c_11
  let main_v35 : IVec S_ 1 := andi main_v30 main_v34
  let main_v36 : FVec F S1024x1024 .f32 := (extf .f32 · bitsLt_bf16_f32) main_arg7
  let main_v37 : FVec F S1024x1024 .f32 := Host.absf main_v36
  let main_cst_12 : FVec F S_ .f32 := constant S_ .f32 0x7F800000#32
  let main_v38 : FVec F S1024x1024 .f32 := broadcastInDim S1024x1024 ![] bcast_S_S1024x1024 main_cst_12
  let main_v39 : IVec S1024x1024 1 := cmpf .olt main_v37 main_v38
  let main_c_13 : IVec S_ 1 := constantI S_ 1 1#1
  let main_v40 : IVec S_ 1 := (fun x v => Host.reduce IntOp.andi x v reducesTo_S1024x1024_S_d0_1 h_S_) main_v39 main_c_13
  let main_v41 : IVec S_ 1 := andi main_v35 main_v40
  let main_v42 : FVec F S4x704x1024 .f32 := (extf .f32 · bitsLt_bf16_f32) main_arg8
  let main_v43 : FVec F S4x704x1024 .f32 := Host.absf main_v42
  let main_cst_14 : FVec F S_ .f32 := constant S_ .f32 0x7F800000#32
  let main_v44 : FVec F S4x704x1024 .f32 := broadcastInDim S4x704x1024 ![] bcast_S_S4x704x1024 main_cst_14
  let main_v45 : IVec S4x704x1024 1 := cmpf .olt main_v43 main_v44
  let main_c_15 : IVec S_ 1 := constantI S_ 1 1#1
  let main_v46 : IVec S_ 1 := (fun x v => Host.reduce IntOp.andi x v reducesTo_S4x704x1024_S_d0_1_2 h_S_) main_v45 main_c_15
  let main_v47 : IVec S_ 1 := andi main_v41 main_v46
  let main_v48 : FVec F S4x704x1024 .f32 := (extf .f32 · bitsLt_bf16_f32) main_arg9
  let main_v49 : FVec F S4x704x1024 .f32 := Host.absf main_v48
  let main_cst_16 : FVec F S_ .f32 := constant S_ .f32 0x7F800000#32
  let main_v50 : FVec F S4x704x1024 .f32 := broadcastInDim S4x704x1024 ![] bcast_S_S4x704x1024 main_cst_16
  let main_v51 : IVec S4x704x1024 1 := cmpf .olt main_v49 main_v50
  let main_c_17 : IVec S_ 1 := constantI S_ 1 1#1
  fn_part3 (F := F) main_arg10 main_arg11 main_arg12 main_v47 main_v51 main_c_17

def fn_part1 {F : FTy → Type} [FloatOps F] (main_arg4 : FVec F S4096x1024 .f32) (main_arg5 : FVec F S1x1024 .f32) (main_arg6 : FVec F S1x1024 .f32) (main_arg7 : FVec F S1024x1024 .bf16) (main_arg8 : FVec F S4x704x1024 .bf16) (main_arg9 : FVec F S4x704x1024 .bf16) (main_arg10 : FVec F S4x704x1024 .bf16) (main_arg11 : FVec F S256x1024 .bf16) (main_arg12 : FVec F S1024x1024 .bf16) (main_v15 : IVec S_ 1) (main_v16 : FVec F S4096x256 .f32) (main_cst_4 : FVec F S_ .f32) : IVec S_ 1 :=
  let main_v17 : FVec F S4096x256 .f32 := broadcastInDim S4096x256 ![] bcast_S_S4096x256 main_cst_4
  let main_v18 : IVec S4096x256 1 := cmpf .olt main_v16 main_v17
  let main_c_5 : IVec S_ 1 := constantI S_ 1 1#1
  let main_v19 : IVec S_ 1 := (fun x v => Host.reduce IntOp.andi x v reducesTo_S4096x256_S_d0_1 h_S_) main_v18 main_c_5
  let main_v20 : IVec S_ 1 := andi main_v15 main_v19
  let main_v21 : FVec F S4096x1024 .f32 := Host.absf main_arg4
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  let main_c_7 : IVec S_ 1 := constantI S_ 1 1#1
  let main_v24 : IVec S_ 1 := (fun x v => Host.reduce IntOp.andi x v reducesTo_S4096x1024_S_d0_1 h_S_) main_v23 main_c_7
  let main_v25 : IVec S_ 1 := andi main_v20 main_v24
  let main_v26 : FVec F S1x1024 .f32 := Host.absf main_arg5
  let main_cst_8 : FVec F S_ .f32 := constant S_ .f32 0x7F800000#32
  let main_v27 : FVec F S1x1024 .f32 := broadcastInDim S1x1024 ![] bcast_S_S1x1024 main_cst_8
  let main_v28 : IVec S1x1024 1 := cmpf .olt main_v26 main_v27
  let main_c_9 : IVec S_ 1 := constantI S_ 1 1#1
  let main_v29 : IVec S_ 1 := (fun x v => Host.reduce IntOp.andi x v reducesTo_S1x1024_S_d0_1 h_S_) main_v28 main_c_9
  let main_v30 : IVec S_ 1 := andi main_v25 main_v29
  let main_v31 : FVec F S1x1024 .f32 := Host.absf main_arg6
  let main_cst_10 : FVec F S_ .f32 := constant S_ .f32 0x7F800000#32
  let main_v32 : FVec F S1x1024 .f32 := broadcastInDim S1x1024 ![] bcast_S_S1x1024 main_cst_10
  let main_v33 : IVec S1x1024 1 := cmpf .olt main_v31 main_v32
  let main_c_11 : IVec S_ 1 := constantI S_ 1 1#1
  fn_part2 (F := F) main_arg7 main_arg8 main_arg9 main_arg10 main_arg11 main_arg12 main_v30 main_v33 main_c_11

def fn {F : FTy → Type} [FloatOps F] (main_arg0 : FVec F S4096x1024 .f32) (main_arg1 : FVec F S4096x512 .bf16) (main_arg2 : FVec F S4096x512 .bf16) (main_arg3 : FVec F S4096x256 .f32) (main_arg4 : FVec F S4096x1024 .f32) (main_arg5 : FVec F S1x1024 .f32) (main_arg6 : FVec F S1x1024 .f32) (main_arg7 : FVec F S1024x1024 .bf16) (main_arg8 : FVec F S4x704x1024 .bf16) (main_arg9 : FVec F S4x704x1024 .bf16) (main_arg10 : FVec F S4x704x1024 .bf16) (main_arg11 : FVec F S256x1024 .bf16) (main_arg12 : FVec F S1024x1024 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x512 .f32 := (extf .f32 · bitsLt_bf16_f32) main_arg1
  let main_v5 : FVec F S4096x512 .f32 := Host.absf main_v4
  let main_cst_0 : FVec F S_ .f32 := constant S_ .f32 0x7F800000#32
  let main_v6 : FVec F S4096x512 .f32 := broadcastInDim S4096x512 ![] bcast_S_S4096x512 main_cst_0
  let main_v7 : IVec S4096x512 1 := cmpf .olt main_v5 main_v6
  let main_c_1 : IVec S_ 1 := constantI S_ 1 1#1
  let main_v8 : IVec S_ 1 := (fun x v => Host.reduce IntOp.andi x v reducesTo_S4096x512_S_d0_1 h_S_) main_v7 main_c_1
  let main_v9 : IVec S_ 1 := andi main_v3 main_v8
  let main_v10 : FVec F S4096x512 .f32 := (extf .f32 · bitsLt_bf16_f32) main_arg2
  let main_v11 : FVec F S4096x512 .f32 := Host.absf main_v10
  let main_cst_2 : FVec F S_ .f32 := constant S_ .f32 0x7F800000#32
  let main_v12 : FVec F S4096x512 .f32 := broadcastInDim S4096x512 ![] bcast_S_S4096x512 main_cst_2
  let main_v13 : IVec S4096x512 1 := cmpf .olt main_v11 main_v12
  let main_c_3 : IVec S_ 1 := constantI S_ 1 1#1
  let main_v14 : IVec S_ 1 := (fun x v => Host.reduce IntOp.andi x v reducesTo_S4096x512_S_d0_1 h_S_) main_v13 main_c_3
  let main_v15 : IVec S_ 1 := andi main_v9 main_v14
  let main_v16 : FVec F S4096x256 .f32 := Host.absf main_arg3
  let main_cst_4 : FVec F S_ .f32 := constant S_ .f32 0x7F800000#32
  fn_part1 (F := F) main_arg4 main_arg5 main_arg6 main_arg7 main_arg8 main_arg9 main_arg10 main_arg11 main_arg12 main_v15 main_v16 main_cst_4
-- ==== Kernel.lean ====
abbrev S4096x1024 : Shape := ⟨2, ![4096, 1024]⟩
abbrev S4096x512 : Shape := ⟨2, ![4096, 512]⟩
abbrev S4096x256 : Shape := ⟨2, ![4096, 256]⟩
abbrev S1x1024 : Shape := ⟨2, ![1, 1024]⟩
abbrev S1024x1024 : Shape := ⟨2, ![1024, 1024]⟩
abbrev S4x704x1024 : Shape := ⟨3, ![4, 704, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S2816x1024 : Shape := ⟨2, ![2816, 1024]⟩
abbrev S4096x2816 : Shape := ⟨2, ![4096, 2816]⟩
abbrev S256x2816 : Shape := ⟨2, ![256, 2816]⟩
abbrev S256x1 : Shape := ⟨2, ![256, 1]⟩
abbrev S256x512 : Shape := ⟨2, ![256, 512]⟩
abbrev S14 : Shape := ⟨1, ![14]⟩
abbrev S1 : Shape := ⟨1, ![1]⟩
abbrev S704x1024 : Shape := ⟨2, ![704, 1024]⟩
abbrev S256x256 : Shape := ⟨2, ![256, 256]⟩
abbrev S1024 : Shape := ⟨1, ![1024]⟩
abbrev S256 : Shape := ⟨1, ![256]⟩

abbrev nBuf : Space → Nat
  | .hbm => 79
  | .vmem => 36
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S4096x256, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S1024x1024, .bf16⟩
  | .hbm, ⟨8, _⟩ => ⟨S4x704x1024, .bf16⟩
  | .hbm, ⟨9, _⟩ => ⟨S4x704x1024, .bf16⟩
  | .hbm, ⟨10, _⟩ => ⟨S4x704x1024, .bf16⟩
  | .hbm, ⟨11, _⟩ => ⟨S256x1024, .bf16⟩
  | .hbm, ⟨12, _⟩ => ⟨S1024x1024, .bf16⟩
  | .hbm, ⟨13, _⟩ => ⟨S4096x512, .f32⟩
  | .hbm, ⟨14, _⟩ => ⟨S4096x512, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S1024x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S2816x1024, .bf16⟩
  | .hbm, ⟨48, _⟩ => ⟨S2816x1024, .bf16⟩
  | .hbm, ⟨49, _⟩ => ⟨S2816x1024, .bf16⟩
  | .hbm, ⟨50, _⟩ => ⟨S2816x1024, .f32⟩
  | .hbm, ⟨51, _⟩ => ⟨S4096x2816, .f32⟩
  | .hbm, ⟨52, _⟩ => ⟨S2816x1024, .f32⟩
  | .hbm, ⟨53, _⟩ => ⟨S4096x2816, .f32⟩
  | .hbm, ⟨54, _⟩ => ⟨S1024x1024, .f32⟩
  | .hbm, ⟨55, _⟩ => ⟨S4096x1024, .f32⟩
  | .hbm, ⟨56, _⟩ => ⟨S256x1024, .f32⟩
  | .hbm, ⟨57, _⟩ => ⟨S4096x1024, .f32⟩
  | .hbm, ⟨58, _⟩ => ⟨S4096x2816, .bf16⟩
  | .hbm, ⟨59, _⟩ => ⟨S4096x2816, .bf16⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096x1024, .f32⟩
  | .hbm, ⟨67, _⟩ => ⟨S4096x1024, .f32⟩
  | .hbm, ⟨68, _⟩ => ⟨S4096x1024, .bf16⟩
  | .hbm, ⟨69, _⟩ => ⟨S4096x1024, .bf16⟩
  | .hbm, ⟨70, _⟩ => ⟨S4096x2816, .bf16⟩
  | .hbm, ⟨71, _⟩ => ⟨S4096x2816, .bf16⟩
  | .hbm, ⟨72, _⟩ => ⟨S4096x1024, .bf16⟩
  | .hbm, ⟨73, _⟩ => ⟨S4096x1024, .bf16⟩
  | .hbm, ⟨74, _⟩ => ⟨S4096x1024, .f32⟩
  | .hbm, ⟨75, _⟩ => ⟨S4096x512, .bf16⟩
  | .hbm, ⟨76, _⟩ => ⟨S4096x512, .bf16⟩
  | .hbm, ⟨77, _⟩ => ⟨S1x1024, .f32⟩
  | .hbm, ⟨78, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S256x1, .f32⟩
  | .local _ .vmem, ⟨13, _⟩ => ⟨S256x1, .f32⟩
  | .local _ .vmem, ⟨14, _⟩ => ⟨S1x1024, .f32⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .f32⟩
  | .local _ .vmem, ⟨24, _⟩ => ⟨S256x1024, .f32⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S1x1024, .f32⟩
  | .local _ .vmem, ⟨30, _⟩ => ⟨S1x1024, .f32⟩
  | .local _ .vmem, ⟨31, _⟩ => ⟨S2816x1024, .bf16⟩
  | .local _ .vmem, ⟨32, _⟩ => ⟨S2816x1024, .bf16⟩
  | .local _ .vmem, ⟨33, _⟩ => ⟨S2816x1024, .bf16⟩
  | .local _ .vmem, ⟨34, _⟩ => ⟨S1024x1024, .bf16⟩
  | .local _ .vmem, ⟨35, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_cst_6 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49_0 : Ref sig .tc := ⟨.hbm, 70, rfl⟩
abbrev main_v49_1 : Ref sig .tc := ⟨.hbm, 71, rfl⟩
abbrev main_v49_2 : Ref sig .tc := ⟨.hbm, 72, rfl⟩
abbrev main_v49_3 : Ref sig .tc := ⟨.hbm, 73, rfl⟩
abbrev main_v49_4 : Ref sig .tc := ⟨.hbm, 74, rfl⟩
abbrev main_v49_5 : Ref sig .tc := ⟨.hbm, 75, rfl⟩
abbrev main_v49_6 : Ref sig .tc := ⟨.hbm, 76, rfl⟩
abbrev main_v49_7 : Ref sig .tc := ⟨.hbm, 77, rfl⟩
abbrev main_v49_8 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg16_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem16_0 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S4096x1024 : Shape := ⟨2, ![4096, 1024]⟩
abbrev S4096x512 : Shape := ⟨2, ![4096, 512]⟩
abbrev S4096x256 : Shape := ⟨2, ![4096, 256]⟩
abbrev S1x1024 : Shape := ⟨2, ![1, 1024]⟩
abbrev S1024x1024 : Shape := ⟨2, ![1024, 1024]⟩
abbrev S4x704x1024 : Shape := ⟨3, ![4, 704, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S2816x1024 : Shape := ⟨2, ![2816, 1024]⟩
abbrev S4096x2816 : Shape := ⟨2, ![4096, 2816]⟩
abbrev S1024 : Shape := ⟨1, ![1024]⟩

abbrev nBuf : Space → Nat
  | .hbm => 171
  | .vmem => 0
  | .smem => 0
  | _ => 0

abbrev hbmTy0_0 (i : Nat) : BufTy := match i % 128 with
  | 0 => ⟨S4096x1024, .f32⟩
  | 1 => ⟨S4096x512, .bf16⟩
  | 2 => ⟨S4096x512, .bf16⟩
  | 3 => ⟨S4096x256, .f32⟩
  | 4 => ⟨S4096x1024, .f32⟩
  | 5 => ⟨S1x1024, .f32⟩
  | 6 => ⟨S1x1024, .f32⟩
  | 7 => ⟨S1024x1024, .bf16⟩
  | 8 => ⟨S4x704x1024, .bf16⟩
  | 9 => ⟨S4x704x1024, .bf16⟩
  | 10 => ⟨S4x704x1024, .bf16⟩
  | 11 => ⟨S256x1024, .bf16⟩
  | 12 => ⟨S1024x1024, .bf16⟩
  | 13 => ⟨S4096x512, .f32⟩
  | 14 => ⟨S4096x512, .f32⟩
  | 15 => ⟨S4096x1024, .f32⟩
  | 16 => ⟨S_, .f32⟩
  | 17 => ⟨S4096x1024, .f32⟩
  | 18 => ⟨S4096x1024, .f32⟩
  | 19 => ⟨S1024x1024, .f32⟩
  | 20 => ⟨S4096x1024, .f32⟩
  | 21 => ⟨S4096x1024, .f32⟩
  | 22 => ⟨S_, .f32⟩
  | 23 => ⟨S4096, .f32⟩
  | 24 => ⟨S4096x1, .f32⟩
  | 25 => ⟨S_, .f32⟩
  | 26 => ⟨S4096x1, .f32⟩
  | 27 => ⟨S4096x1, .f32⟩
  | 28 => ⟨S4096x1024, .f32⟩
  | 29 => ⟨S4096x1024, .f32⟩
  | 30 => ⟨S4096x1024, .f32⟩
  | 31 => ⟨S_, .f32⟩
  | 32 => ⟨S4096x1024, .f32⟩
  | 33 => ⟨S4096x1024, .f32⟩
  | 34 => ⟨S_, .f32⟩
  | 35 => ⟨S4096, .f32⟩
  | 36 => ⟨S4096x1, .f32⟩
  | 37 => ⟨S_, .f32⟩
  | 38 => ⟨S4096x1, .f32⟩
  | 39 => ⟨S4096x1, .f32⟩
  | 40 => ⟨S4096x1024, .f32⟩
  | 41 => ⟨S4096x1024, .f32⟩
  | 42 => ⟨S_, .f32⟩
  | 43 => ⟨S4096x1, .f32⟩
  | 44 => ⟨S4096x1, .f32⟩
  | 45 => ⟨S4096x1, .f32⟩
  | 46 => ⟨S4096x1, .f32⟩
  | 47 => ⟨S_, .f32⟩
  | 48 => ⟨S4096x1, .f32⟩
  | 49 => ⟨S4096x1, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S2816x1024, .bf16⟩
  | 57 => ⟨S2816x1024, .bf16⟩
  | 58 => ⟨S2816x1024, .f32⟩
  | 59 => ⟨S4096x2816, .f32⟩
  | 60 => ⟨S2816x1024, .f32⟩
  | 61 => ⟨S4096x2816, .f32⟩
  | 62 => ⟨S1024x1024, .f32⟩
  | 63 => ⟨S4096x1024, .f32⟩
  | 64 => ⟨S256x1024, .f32⟩
  | 65 => ⟨S4096x1024, .f32⟩
  | 66 => ⟨S2816x1024, .bf16⟩
  | 67 => ⟨S4096x2816, .f32⟩
  | 68 => ⟨S4096x2816, .f32⟩
  | 69 => ⟨S_, .f32⟩
  | 70 => ⟨S4096x2816, .f32⟩
  | 71 => ⟨S4096x2816, .f32⟩
  | 72 => ⟨S_, .f32⟩
  | 73 => ⟨S4096x2816, .f32⟩
  | 74 => ⟨S4096x2816, .f32⟩
  | 75 => ⟨S_, .f32⟩
  | 76 => ⟨S4096x2816, .f32⟩
  | 77 => ⟨S4096x2816, .f32⟩
  | 78 => ⟨S4096x2816, .f32⟩
  | 79 => ⟨S4096x2816, .f32⟩
  | 80 => ⟨S4096x2816, .f32⟩
  | 81 => ⟨S2816x1024, .f32⟩
  | 82 => ⟨S4096x1024, .f32⟩
  | 83 => ⟨S_, .f32⟩
  | 84 => ⟨S4096x1024, .f32⟩
  | 85 => ⟨S4096x1024, .f32⟩
  | 86 => ⟨S4096x1024, .f32⟩
  | 87 => ⟨S4096x1024, .f32⟩
  | 88 => ⟨S4096x1024, .f32⟩
  | 89 => ⟨S_, .f32⟩
  | 90 => ⟨S4096x1024, .f32⟩
  | 91 => ⟨S4096x1024, .f32⟩
  | 92 => ⟨S_, .f32⟩
  | 93 => ⟨S4096x1024, .f32⟩
  | 94 => ⟨S4096x1024, .f32⟩
  | 95 => ⟨S_, .f32⟩
  | 96 => ⟨S4096x1024, .f32⟩
  | 97 => ⟨S4096x1024, .f32⟩
  | 98 => ⟨S4096x1024, .f32⟩
  | 99 => ⟨S4096x1024, .f32⟩
  | 100 => ⟨S4096x1024, .f32⟩
  | 101 => ⟨S4096x1024, .f32⟩
  | 102 => ⟨S4096x1024, .f32⟩
  | 103 => ⟨S4096x1024, .f32⟩
  | 104 => ⟨S4096x1024, .f32⟩
  | 105 => ⟨S4096x1024, .f32⟩
  | 106 => ⟨S_, .f32⟩
  | 107 => ⟨S4096x1024, .f32⟩
  | 108 => ⟨S4096x1024, .f32⟩
  | 109 => ⟨S4096x2816, .f32⟩
  | 110 => ⟨S4096x2816, .f32⟩
  | 111 => ⟨S4096x2816, .f32⟩
  | 112 => ⟨S4096x2816, .f32⟩
  | 113 => ⟨S4096x2816, .f32⟩
  | 114 => ⟨S4096x2816, .f32⟩
  | 115 => ⟨S4096x2816, .f32⟩
  | 116 => ⟨S4096x1024, .f32⟩
  | 117 => ⟨S4096x1024, .f32⟩
  | 118 => ⟨S4096x1024, .f32⟩
  | 119 => ⟨S4096x1024, .f32⟩
  | 120 => ⟨S4096x1024, .f32⟩
  | 121 => ⟨S4096x1024, .f32⟩
  | 122 => ⟨S_, .f32⟩
  | 123 => ⟨S1024, .f32⟩
  | 124 => ⟨S1x1024, .f32⟩
  | 125 => ⟨S4096x1024, .f32⟩
  | 126 => ⟨S_, .f32⟩
  | 127 => ⟨S1024, .f32⟩
  | _ => ⟨S4096x1024, .f32⟩

abbrev hbmTy0_1 (i : Nat) : BufTy := match i % 128 with
  | 0 => ⟨S1x1024, .f32⟩
  | 1 => ⟨S4096x1024, .f32⟩
  | 2 => ⟨S4096x1024, .f32⟩
  | 3 => ⟨S4096x1024, .f32⟩
  | 4 => ⟨S_, .f32⟩
  | 5 => ⟨S4096, .f32⟩
  | 6 => ⟨S4096x1, .f32⟩
  | 7 => ⟨S4096x1024, .f32⟩
  | 8 => ⟨S4096x1024, .f32⟩
  | 9 => ⟨S4096x1, .f32⟩
  | 10 => ⟨S4096x1024, .f32⟩
  | 11 => ⟨S_, .f32⟩
  | 12 => ⟨S4096, .f32⟩
  | 13 => ⟨S4096x1, .f32⟩
  | 14 => ⟨S_, .f32⟩
  | 15 => ⟨S4096x1, .f32⟩
  | 16 => ⟨S4096x1, .f32⟩
  | 17 => ⟨S_, .f32⟩
  | 18 => ⟨S4096, .f32⟩
  | 19 => ⟨S4096x1024, .f32⟩
  | 20 => ⟨S4096x1024, .f32⟩
  | 21 => ⟨S4096x1024, .f32⟩
  | 22 => ⟨S_, .f32⟩
  | 23 => ⟨S4096, .f32⟩
  | 24 => ⟨S4096x1, .f32⟩
  | 25 => ⟨S4096x1024, .f32⟩
  | 26 => ⟨S4096x1, .f32⟩
  | 27 => ⟨S_, .f32⟩
  | 28 => ⟨S4096x1, .f32⟩
  | 29 => ⟨S4096x1, .f32⟩
  | 30 => ⟨S_, .f32⟩
  | 31 => ⟨S4096, .f32⟩
  | 32 => ⟨S4096x1024, .f32⟩
  | 33 => ⟨S4096x1024, .f32⟩
  | 34 => ⟨S4096x1024, .f32⟩
  | 35 => ⟨S4096x512, .f32⟩
  | 36 => ⟨S4096x512, .f32⟩
  | 37 => ⟨S4096x512, .bf16⟩
  | 38 => ⟨S4096x512, .bf16⟩
  | 39 => ⟨S4096x2816, .bf16⟩
  | 40 => ⟨S4096x2816, .bf16⟩
  | 41 => ⟨S4096x1024, .bf16⟩
  | 42 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_v46_2 : Ref sig .tc := ⟨.hbm, 74, rfl⟩
abbrev main_call0_cst_1 : Ref sig .tc := ⟨.hbm, 75, rfl⟩
abbrev main_call0_v6 : Ref sig .tc := ⟨.hbm, 76, rfl⟩
abbrev main_call0_v7 : Ref sig .tc := ⟨.hbm, 77, rfl⟩
abbrev main_v46_1 : Ref sig .tc := ⟨.hbm, 78, rfl⟩
abbrev main_v46_0 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_7 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_8 : Ref sig .tc := ⟨.hbm, 89, rfl⟩
abbrev main_v55 : Ref sig .tc := ⟨.hbm, 90, rfl⟩
abbrev main_v56 : Ref sig .tc := ⟨.hbm, 91, rfl⟩
abbrev main_cst_9 : Ref sig .tc := ⟨.hbm, 92, rfl⟩
abbrev main_v57 : Ref sig .tc := ⟨.hbm, 93, rfl⟩
abbrev main_v58 : Ref sig .tc := ⟨.hbm, 94, rfl⟩
abbrev main_cst_10 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_11 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_call1_v0 : Ref sig .tc := ⟨.hbm, 112, rfl⟩
abbrev main_call1_v1 : Ref sig .tc := ⟨.hbm, 113, rfl⟩
abbrev main_call1_v2 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_12 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_13 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_14 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_15 : Ref sig .tc := ⟨.hbm, 139, rfl⟩
abbrev main_v95 : Ref sig .tc := ⟨.hbm, 140, rfl⟩
abbrev main_v96 : Ref sig .tc := ⟨.hbm, 141, rfl⟩
abbrev main_cst_16 : Ref sig .tc := ⟨.hbm, 142, rfl⟩
abbrev main_v97 : Ref sig .tc := ⟨.hbm, 143, rfl⟩
abbrev main_v98 : Ref sig .tc := ⟨.hbm, 144, rfl⟩
abbrev main_cst_17 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_cst_18 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_cst_19 : Ref sig .tc := ⟨.hbm, 155, rfl⟩
abbrev main_v107 : Ref sig .tc := ⟨.hbm, 156, rfl⟩
abbrev main_v108 : Ref sig .tc := ⟨.hbm, 157, rfl⟩
abbrev main_cst_20 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩

abbrev nD : Nat := 1
abbrev τ : Topo := Topo.v7x

variable {F : FTy → Type} [FloatOps F]
-- ==== Wgrad.lean ====
abbrev S4096x2816 : Shape := ⟨2, ![4096, 2816]⟩
abbrev S4096x1024 : Shape := ⟨2, ![4096, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x2816, .bf16⟩
  | .hbm, ⟨3, _⟩ => ⟨S4096x1024, .bf16⟩
  | .hbm, ⟨4, _⟩ => ⟨S4096x1024, .bf16⟩
  | .hbm, ⟨5, _⟩ => ⟨S2816x1024, .f32⟩
  | .hbm, ⟨6, _⟩ => ⟨S2816x1024, .f32⟩
  | .hbm, ⟨7, _⟩ => ⟨S2816x1024, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1408x1024, .f32⟩
  | .local _ .vmem, ⟨11, _⟩ => ⟨S1408x1024, .f32⟩
  | .local _ .vmem, ⟨12, _⟩ => ⟨S1408x1024, .f32⟩
  | .local _ .vmem, ⟨13, _⟩ => ⟨S1408x1024, .f32⟩
  | .local _ .vmem, ⟨14, _⟩ => ⟨S1408x1024, .f32⟩
  | .local _ .vmem, ⟨15, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1408x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1408x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1408x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== WgradReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 20
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x2816, .bf16⟩
  | .hbm, ⟨3, _⟩ => ⟨S4096x1024, .bf16⟩
  | .hbm, ⟨4, _⟩ => ⟨S4096x1024, .bf16⟩
  | .hbm, ⟨5, _⟩ => ⟨S_, .f32⟩
  | .hbm, ⟨6, _⟩ => ⟨S2816x1024, .f32⟩
  | .hbm, ⟨7, _⟩ => ⟨S4096x2816, .f32⟩
  | .hbm, ⟨8, _⟩ => ⟨S4096x2816, .f32⟩
  | .hbm, ⟨9, _⟩ => ⟨S4096x1024, .f32⟩
  | .hbm, ⟨10, _⟩ => ⟨S4096x1024, .f32⟩
  | .hbm, ⟨11, _⟩ => ⟨S4096x2816, .f32⟩
  | .hbm, ⟨12, _⟩ => ⟨S4096x1024, .f32⟩
  | .hbm, ⟨13, _⟩ => ⟨S4096x2816, .f32⟩
  | .hbm, ⟨14, _⟩ => ⟨S4096x2816, .f32⟩
  | .hbm, ⟨15, _⟩ => ⟨S4096x1024, .f32⟩
  | .hbm, ⟨16, _⟩ => ⟨S1024x2816, .f32⟩
  | .hbm, ⟨17, _⟩ => ⟨S2816x1024, .f32⟩
  | .hbm, ⟨18, _⟩ => ⟨S2816x1024, .f32⟩
  | .hbm, ⟨19, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Inproj.lean ====
abbrev S4096x1024 : Shape := ⟨2, ![4096, 1024]⟩
abbrev S4096x2816 : Shape := ⟨2, ![4096, 2816]⟩
abbrev S2816x1024 : Shape := ⟨2, ![2816, 1024]⟩
abbrev S4096x64 : Shape := ⟨2, ![4096, 64]⟩
abbrev S4096x512 : Shape := ⟨2, ![4096, 512]⟩
abbrev S4096x256 : Shape := ⟨2, ![4096, 256]⟩
abbrev S512x1024 : Shape := ⟨2, ![512, 1024]⟩
abbrev S512x512 : Shape := ⟨2, ![512, 512]⟩
abbrev S512x256 : Shape := ⟨2, ![512, 256]⟩
abbrev S64x1024 : Shape := ⟨2, ![64, 1024]⟩
abbrev S256x1024 : Shape := ⟨2, ![256, 1024]⟩

abbrev nBuf : Space → Nat
  | .hbm => 14
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .bf16⟩
  | .hbm, ⟨3, _⟩ => ⟨S4096x64, .bf16⟩
  | .hbm, ⟨4, _⟩ => ⟨S4096x64, .bf16⟩
  | .hbm, ⟨5, _⟩ => ⟨S4096x64, .bf16⟩
  | .hbm, ⟨6, _⟩ => ⟨S4096x64, .bf16⟩
  | .hbm, ⟨7, _⟩ => ⟨S4096x512, .bf16⟩
  | .hbm, ⟨8, _⟩ => ⟨S4096x512, .bf16⟩
  | .hbm, ⟨9, _⟩ => ⟨S4096x512, .bf16⟩
  | .hbm, ⟨10, _⟩ => ⟨S4096x512, .bf16⟩
  | .hbm, ⟨11, _⟩ => ⟨S4096x512, .bf16⟩
  | .hbm, ⟨12, _⟩ => ⟨S4096x256, .bf16⟩
  | .hbm, ⟨13, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x256, .bf16⟩
  | .local _ .vmem, ⟨13, _⟩ => ⟨S512x256, .bf16⟩
  | .local _ .vmem, ⟨14, _⟩ => ⟨S2816x1024, .bf16⟩
  | .local _ .vmem, ⟨15, _⟩ => ⟨S512x1024, .f32⟩
  | .local _ .vmem, ⟨16, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InprojReferenceIdeal.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .bf16⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S2816x1024, .f32⟩
  | .hbm, ⟨9, _⟩ => ⟨S4096x2816, .f32⟩
  | .hbm, ⟨10, _⟩ => ⟨S4096x2816, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Win.lean ====
abbrev S4096x2816 : Shape := ⟨2, ![4096, 2816]⟩
abbrev S4096x1024 : Shape := ⟨2, ![4096, 1024]⟩
abbrev S4096x64 : Shape := ⟨2, ![4096, 64]⟩
abbrev S4096x512 : Shape := ⟨2, ![4096, 512]⟩
abbrev S4096x256 : Shape := ⟨2, ![4096, 256]⟩
abbrev S2816x1024 : Shape := ⟨2, ![2816, 1024]⟩
abbrev S512x512 : Shape := ⟨2, ![512, 512]⟩
abbrev S512x256 : Shape := ⟨2, ![512, 256]⟩
abbrev S512x1024 : Shape := ⟨2, ![512, 1024]⟩
abbrev S256x1024 : Shape := ⟨2, ![256, 1024]⟩
abbrev S64x1024 : Shape := ⟨2, ![64, 1024]⟩

abbrev nBuf : Space → Nat
  | .hbm => 13
  | .vmem => 15
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S4096x64, .bf16⟩
  | .hbm, ⟨3, _⟩ => ⟨S4096x64, .bf16⟩
  | .hbm, ⟨4, _⟩ => ⟨S4096x64, .bf16⟩
  | .hbm, ⟨5, _⟩ => ⟨S4096x64, .bf16⟩
  | .hbm, ⟨6, _⟩ => ⟨S4096x512, .bf16⟩
  | .hbm, ⟨7, _⟩ => ⟨S4096x512, .bf16⟩
  | .hbm, ⟨8, _⟩ => ⟨S4096x512, .bf16⟩
  | .hbm, ⟨9, _⟩ => ⟨S4096x512, .bf16⟩
  | .hbm, ⟨10, _⟩ => ⟨S4096x512, .bf16⟩
  | .hbm, ⟨11, _⟩ => ⟨S4096x256, .bf16⟩
  | .hbm, ⟨12, _⟩ => ⟨S2816x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x256, .bf16⟩
  | .local _ .vmem, ⟨11, _⟩ => ⟨S512x256, .bf16⟩
  | .local _ .vmem, ⟨12, _⟩ => ⟨S512x1024, .f32⟩
  | .local _ .vmem, ⟨13, _⟩ => ⟨S512x1024, .f32⟩
  | .local _ .vmem, ⟨14, _⟩ => ⟨S2816x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2816x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== WinReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x2816, .f32⟩
  | .hbm, ⟨6, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proj.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩
abbrev S256x1024 : Shape := ⟨2, ![256, 1024]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjReferenceIdeal.lean ====
abbrev S4096x1024 : Shape := ⟨2, ![4096, 1024]⟩
abbrev S2816x1024 : Shape := ⟨2, ![2816, 1024]⟩
abbrev S4096x2816 : Shape := ⟨2, ![4096, 2816]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S2816x1024, .f32⟩
  | .hbm, ⟨3, _⟩ => ⟨S4096x2816, .f32⟩
  | .hbm, ⟨4, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Misc.lean ====
abbrev S4096x512 : Shape := ⟨2, ![4096, 512]⟩
abbrev S4096x1024 : Shape := ⟨2, ![4096, 1024]⟩
abbrev S4096x256 : Shape := ⟨2, ![4096, 256]⟩
abbrev S1024x1024 : Shape := ⟨2, ![1024, 1024]⟩
abbrev S4x256x256 : Shape := ⟨3, ![4, 256, 256]⟩
abbrev S512x512 : Shape := ⟨2, ![512, 512]⟩
abbrev S512x1024 : Shape := ⟨2, ![512, 1024]⟩
abbrev S512x256 : Shape := ⟨2, ![512, 256]⟩
abbrev S256x1024 : Shape := ⟨2, ![256, 1024]⟩
abbrev S1x256x256 : Shape := ⟨3, ![1, 256, 256]⟩
abbrev S256x256 : Shape := ⟨2, ![256, 256]⟩

abbrev nBuf : Space → Nat
  | .hbm => 10
  | .vmem => 17
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S4096x256, .f32⟩
  | .hbm, ⟨6, _⟩ => ⟨S4096x1024, .bf16⟩
  | .hbm, ⟨7, _⟩ => ⟨S1024x1024, .f32⟩
  | .hbm, ⟨8, _⟩ => ⟨S1024x1024, .f32⟩
  | .hbm, ⟨9, _⟩ => ⟨S4x256x256, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x256, .f32⟩
  | .local _ .vmem, ⟨11, _⟩ => ⟨S512x256, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .f32⟩
  | .local _ .vmem, ⟨15, _⟩ => ⟨S1024x1024, .f32⟩
  | .local _ .vmem, ⟨16, _⟩ => ⟨S4x256x256, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MiscReferenceIdeal.lean ====
abbrev S4096x512 : Shape := ⟨2, ![4096, 512]⟩
abbrev S4096x1024 : Shape := ⟨2, ![4096, 1024]⟩
abbrev S4096x256 : Shape := ⟨2, ![4096, 256]⟩
abbrev S_ : Shape := ⟨0, ![]⟩
abbrev S1024x1024 : Shape := ⟨2, ![1024, 1024]⟩
abbrev S256x1024 : Shape := ⟨2, ![256, 1024]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 29
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S4096x256, .f32⟩
  | .hbm, ⟨6, _⟩ => ⟨S4096x1024, .bf16⟩
  | .hbm, ⟨7, _⟩ => ⟨S_, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S_, .f32⟩
  | .hbm, ⟨12, _⟩ => ⟨S256x1024, .f32⟩
  | .hbm, ⟨13, _⟩ => ⟨S4096x1024, .bf16⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S1024x256, .f32⟩
  | .hbm, ⟨22, _⟩ => ⟨S256x1024, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S256x4x256, .f32⟩
  | .hbm, ⟨28, _⟩ => ⟨S4x256x256, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Norm.lean ====
abbrev S4096x512 : Shape := ⟨2, ![4096, 512]⟩
abbrev S4096x1024 : Shape := ⟨2, ![4096, 1024]⟩
abbrev S1024x1024 : Shape := ⟨2, ![1024, 1024]⟩
abbrev S1x1024 : Shape := ⟨2, ![1, 1024]⟩
abbrev S4096x1 : Shape := ⟨2, ![4096, 1]⟩
abbrev S512x512 : Shape := ⟨2, ![512, 512]⟩
abbrev S512x1024 : Shape := ⟨2, ![512, 1024]⟩
abbrev S512x1 : Shape := ⟨2, ![512, 1]⟩
abbrev S512 : Shape := ⟨1, ![512]⟩

abbrev nBuf : Space → Nat
  | .hbm => 9
  | .vmem => 15
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x1024, .f32⟩
  | .hbm, ⟨3, _⟩ => ⟨S1024x1024, .bf16⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1, .f32⟩
  | .hbm, ⟨8, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1, .f32⟩
  | .local _ .vmem, ⟨12, _⟩ => ⟨S512x1, .f32⟩
  | .local _ .vmem, ⟨13, _⟩ => ⟨S512x1024, .bf16⟩
  | .local _ .vmem, ⟨14, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== NormReferenceIdeal.lean ====
abbrev S4096x512 : Shape := ⟨2, ![4096, 512]⟩
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 64
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x1024, .f32⟩
  | .hbm, ⟨3, _⟩ => ⟨S1024x1024, .bf16⟩
  | .hbm, ⟨4, _⟩ => ⟨S1x1024, .f32⟩
  | .hbm, ⟨5, _⟩ => ⟨S1x1024, .f32⟩
  | .hbm, ⟨6, _⟩ => ⟨S4096x512, .f32⟩
  | .hbm, ⟨7, _⟩ => ⟨S4096x512, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S1024x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Proof.Spans.lean ====
module

public import Mathlib.Data.EReal.Operations
public import Mathlib.Algebra.BigOperators.Fin
public import Mathlib.Logic.Equiv.Fin.Basic

/-! The eight spans of 512 tokens that the weight gradients' grids walk through. -/

@[expose] public section

noncomputable section

namespace Cert.Spans

/-- Token `k` of span `n`, the spans counted around after eight. -/
def tok (n : ℕ) (k : Fin 512) : Fin 4096 := ⟨512 * (n % 8) + k, by omega⟩

/-- A sum over the tokens, span by span. -/
theorem sum_spans (f : Fin 4096 → EReal) (q : ℕ) :
    ∑ s ∈ Finset.range 8, ∑ k, f (tok (8 * q + s) k) = ∑ t, f t := by
  rw [Finset.sum_range, ← Fintype.sum_prod_type']
  refine (Finset.sum_congr rfl fun x _ => ?_).trans (Equiv.sum_comp (finProdFinEquiv (m := 8) (n := 512)) f)
  exact congrArg f (Fin.ext (by simp [finProdFinEquiv, tok]; omega))

end Cert.Spans
-- ==== Proof.WgradValue.lean ====
module

public import proofs.«01_k».proof.Proof.Spans
public import proofs.«01_k».proof.Proof.Gen.WgradIdeal.Value
public import Idealize.ShloMosaic.Lib.Pointwise
public import Idealize.ShloMosaic.Lib.Pipeline.ValueKit
public import Idealize.ShloMosaic.Lib.Claim

/-! The gradients of the three hidden weights: each entry ends as a sum over the 4096 tokens. -/

@[expose] public section

set_option maxRecDepth 65536
set_option maxHeartbeats 1600000

noncomputable section

namespace Cert.WgradIdeal.Sums
open Cert.WgradIdeal.Gen Cert.WgradIdeal.Value Cert.Spans
open Idealize.ShloMosaic Idealize.ShloMosaic.TcCoe Idealize.ShloMosaic.Tactic

/-- What one span adds to an entry. -/
theorem span_apply (b : Vec Ideal S512x1024 .bf16) (o : Vec Ideal S1408x1024 .f32) (a : Vec Ideal S512x1408 .bf16)
    (e : Fin 1408) (d : Fin 1024) :
    k0_pay4 (F := Ideal) b o a (ix2 e d) = o (ix2 e d) + ∑ k, a (ix2 k e) * b (ix2 k d) := by
  pointwise [k0_pay4]

theorem span_apply' (b : Vec Ideal S512x1024 .bf16) (o : Vec Ideal S1408x1024 .f32) (a : Vec Ideal S512x1408 .bf16)
    (e : Fin 1408) (d : Fin 1024) :
    k0_pay5 (F := Ideal) b o a (ix2 e d) = o (ix2 e d) + ∑ k, a (ix2 k e) * b (ix2 k d) := by
  pointwise [k0_pay5]

theorem span_apply'' (o : Vec Ideal S1408x1024 .f32) (a : Vec Ideal S512x1408 .bf16) (b : Vec Ideal S512x1024 .bf16)
    (e : Fin 1408) (d : Fin 1024) :
    k0_pay6 (F := Ideal) o a b (ix2 e d) = o (ix2 e d) + ∑ k, a (ix2 k e) * b (ix2 k d) := by
  pointwise [k0_pay6]

theorem zero1 (e : Fin 1408) (d : Fin 1024) : k0_pay1 (F := Ideal) (ix2 e d) = 0 := by pointwise [k0_pay1]
theorem zero2 (e : Fin 1408) (d : Fin 1024) : k0_pay2 (F := Ideal) (ix2 e d) = 0 := by pointwise [k0_pay2]
theorem zero3 (e : Fin 1408) (d : Fin 1024) : k0_pay3 (F := Ideal) (ix2 e d) = 0 := by pointwise [k0_pay3]

variable (m : (ℓ : Loc nD τ sig) → Buf (Elt Ideal) ℓ) (c : Dev nD)

/-- Hidden lane `e` of half `n / 8`. -/
def lane (n : ℕ) (hn : n < cfg0.N) (e : Fin 1408) : Fin 2816 :=
  ⟨1408 * (n / 8) + e, by have h : n < 16 := lt_of_lt_of_eq hn N_0; omega⟩

theorem index0 : ∀ t : Fin cfg0.N, (cfg0.win 0).index t 0 = t.val % 8 ∧ (cfg0.win 0).index t 1 = t.val / 8 := by decide +kernel
theorem index1 : ∀ t : Fin cfg0.N, (cfg0.win 1).index t 0 = t.val % 8 ∧ (cfg0.win 1).index t 1 = t.val / 8 := by decide +kernel
theorem index2 : ∀ t : Fin cfg0.N, (cfg0.win 2).index t 0 = t.val % 8 ∧ (cfg0.win 2).index t 1 = t.val / 8 := by decide +kernel
theorem index3 : ∀ t : Fin cfg0.N, (cfg0.win 3).index t 0 = t.val % 8 ∧ (cfg0.win 3).index t 1 = 0 := by decide +kernel
theorem index4 : ∀ t : Fin cfg0.N, (cfg0.win 4).index t 0 = t.val % 8 ∧ (cfg0.win 4).index t 1 = 0 := by decide +kernel

theorem block0 (n : ℕ) (h : n < cfg0.N) (k : Fin 512) (e : Fin 1408) :
    iblk m c 0 ⟨n, h⟩ (ix2 k e) = V m c main_arg0 (ix2 (tok n k) (lane n h e)) := by
  have i := index0 ⟨n, h⟩
  unfold tok lane
  blk_ext [iblk, i.1, i.2]

theorem block1 (n : ℕ) (h : n < cfg0.N) (k : Fin 512) (e : Fin 1408) :
    iblk m c 1 ⟨n, h⟩ (ix2 k e) = V m c main_arg1 (ix2 (tok n k) (lane n h e)) := by
  have i := index1 ⟨n, h⟩
  unfold tok lane
  blk_ext [iblk, i.1, i.2]

theorem block2 (n : ℕ) (h : n < cfg0.N) (k : Fin 512) (e : Fin 1408) :
    iblk m c 2 ⟨n, h⟩ (ix2 k e) = V m c main_arg2 (ix2 (tok n k) (lane n h e)) := by
  have i := index2 ⟨n, h⟩
  unfold tok lane
  blk_ext [iblk, i.1, i.2]

theorem block3 (n : ℕ) (h : n < cfg0.N) (k : Fin 512) (d : Fin 1024) :
    iblk m c 3 ⟨n, h⟩ (ix2 k d) = V m c main_arg3 (ix2 (tok n k) d) := by
  have i := index3 ⟨n, h⟩
  unfold tok
  blk_ext [iblk, i.1, i.2]

theorem block4 (n : ℕ) (h : n < cfg0.N) (k : Fin 512) (d : Fin 1024) :
    iblk m c 4 ⟨n, h⟩ (ix2 k d) = V m c main_arg4 (ix2 (tok n k) d) := by
  have i := index4 ⟨n, h⟩
  unfold tok
  blk_ext [iblk, i.1, i.2]

/-- The product of two arrays over their tokens. -/
def over (a : Vec Ideal S4096x2816 .bf16) (b : Vec Ideal S4096x1024 .bf16) : Vec Ideal S2816x1024 .f32 :=
  fun x => ∑ t, a (ix2 t (x 0)) * b (ix2 t (x 1))

/-- What span `n` adds at an entry of the half it works on. -/
def part (a : Vec Ideal S4096x2816 .bf16) (b : Vec Ideal S4096x1024 .bf16) (n : ℕ) (e : Fin 1408)
    (d : Fin 1024) : EReal :=
  if h : n < cfg0.N then ∑ k, a (ix2 (tok n k) (lane n h e)) * b (ix2 (tok n k) d) else 0

/-- A fold that starts at nothing and adds one span per point ends, after eight points, at the whole sum. -/
theorem fold_apply (a : Vec Ideal S4096x2816 .bf16) (b : Vec Ideal S4096x1024 .bf16)
    (reset : (n : ℕ) → n < cfg0.N → Vec Ideal S1408x1024 .f32)
    (step : (n : ℕ) → n < cfg0.N → Vec Ideal S1408x1024 .f32 → Vec Ideal S1408x1024 .f32)
    (hr : ∀ n h e d, reset n h (ix2 e d) = 0 + part a b n e d)
    (hs : ∀ n h o e d, step n h o (ix2 e d) = o (ix2 e d) + part a b n e d)
    (q : ℕ) (h : 8 * q + 7 < cfg0.N) (e : Fin 1408) (d : Fin 1024) :
    Pipeline.accAt reset step (8 * q) 7 h (ix2 e d)
      = ∑ t, a (ix2 t ⟨1408 * q + e, by have h' : 8 * q + 7 < 16 := lt_of_lt_of_eq h N_0; omega⟩) * b (ix2 t d) := by
  refine (Pipeline.accAt_add_apply reset step (fun _ => (0 : EReal)) (fun n x => part a b n (x 0) (x 1))
    (8 * q) 7 (fun h x => (congrArg (reset _ h) (eq_ix2 x)).trans (hr _ h (x 0) (x 1)))
    (fun n h o x _ _ => (congrArg (step n h o) (eq_ix2 x)).trans ((hs n h o (x 0) (x 1)).trans
      (congrArg (fun y => o y + part a b n (x 0) (x 1)) (eq_ix2 x).symm))) 7 le_rfl h (ix2 e d)).trans ?_
  rw [zero_add, ← sum_spans _ q]
  refine Finset.sum_congr rfl fun s hs => ?_
  have hs' := Finset.mem_range.mp hs
  have hN : 8 * q + 7 < 16 := lt_of_lt_of_eq h N_0
  have hn : 8 * q + s < cfg0.N := lt_of_lt_of_eq (show 8 * q + s < 16 by omega) N_0.symm
  have hl : lane (8 * q + s) hn e = ⟨1408 * q + e, by omega⟩ := Fin.ext (by unfold lane; dsimp only; omega)
  unfold part
  rw [dif_pos hn]
  refine Finset.sum_congr rfl fun k _ => ?_
  exact congrArg (fun l => a (ix2 (tok (8 * q + s) k) l) * b (ix2 (tok (8 * q + s) k) d)) hl

/-- The array read at an entry from the fold of its half. -/
theorem whole (a : Vec Ideal S4096x2816 .bf16) (b : Vec Ideal S4096x1024 .bf16)
    (reset : (n : ℕ) → n < cfg0.N → Vec Ideal S1408x1024 .f32)
    (step : (n : ℕ) → n < cfg0.N → Vec Ideal S1408x1024 .f32 → Vec Ideal S1408x1024 .f32)
    (hr : ∀ n h e d, reset n h (ix2 e d) = 0 + part a b n e d)
    (hs : ∀ n h o e d, step n h o (ix2 e d) = o (ix2 e d) + part a b n e d)
    (rest : Vec Ideal S2816x1024 .f32) :
    (fun i : S2816x1024.Idx => if h : 8 * run5Of i + 7 < cfg0.N then
      Pipeline.accAt reset step (8 * run5Of i) 7 h (loc5Of i) else rest i) = over a b := by
  funext i
  have h0 : (i 0).val < 2816 := (i 0).isLt
  have h1 : (i 1).val < 1024 := (i 1).isLt
  have hq : run5Of i = (i 0).val / 1408 := by unfold run5Of; omega
  have h : 8 * run5Of i + 7 < cfg0.N := lt_of_lt_of_eq (show 8 * run5Of i + 7 < 16 by omega) N_0.symm
  have hl : loc5Of i = (ix2 (⟨(i 0).val % 1408, Nat.mod_lt _ (by decide)⟩ : Fin 1408) (i 1 : Fin 1024) : S1408x1024.Idx) :=
    (eq_ix2 (loc5Of i)).trans (congrArg (fun d : Fin 1024 => (ix2 (⟨(i 0).val % 1408, Nat.mod_lt _ (by decide)⟩ : Fin 1408) d : S1408x1024.Idx))
      (Fin.ext (Nat.mod_eq_of_lt h1)))
  rw [dif_pos h]
  refine (congrArg (Pipeline.accAt reset step (8 * run5Of i) 7 h) hl).trans ((fold_apply a b reset step hr hs _ h _ _).trans ?_)
  refine Finset.sum_congr rfl fun t _ => ?_
  refine congrArg (fun l : Fin 2816 => a (ix2 t l) * b (ix2 t (i 1))) (Fin.ext ?_)
  show 1408 * run5Of i + (i 0).val % 1408 = (i 0).val
  omega

theorem reset5_apply (n : ℕ) (h : n < cfg0.N) (e : Fin 1408) (d : Fin 1024) :
    reset5 m c n h (ix2 e d) = 0 + part (V m c main_arg1) (V m c main_arg3) n e d := by
  rw [reset5, span_apply, zero1, part, dif_pos h]
  simp only [block1, block3]

theorem step5_apply (n : ℕ) (h : n < cfg0.N) (o : Vec Ideal S1408x1024 .f32) (e : Fin 1408) (d : Fin 1024) :
    step5 m c n h o (ix2 e d) = o (ix2 e d) + part (V m c main_arg1) (V m c main_arg3) n e d := by
  rw [step5, span_apply, part, dif_pos h]
  simp only [block1, block3]

theorem reset6_apply (n : ℕ) (h : n < cfg0.N) (e : Fin 1408) (d : Fin 1024) :
    reset6 m c n h (ix2 e d) = 0 + part (V m c main_arg2) (V m c main_arg3) n e d := by
  rw [reset6, span_apply', zero2, part, dif_pos h]
  simp only [block2, block3]

theorem step6_apply (n : ℕ) (h : n < cfg0.N) (o : Vec Ideal S1408x1024 .f32) (e : Fin 1408) (d : Fin 1024) :
    step6 m c n h o (ix2 e d) = o (ix2 e d) + part (V m c main_arg2) (V m c main_arg3) n e d := by
  rw [step6, span_apply', part, dif_pos h]
  simp only [block2, block3]

theorem reset7_apply (n : ℕ) (h : n < cfg0.N) (e : Fin 1408) (d : Fin 1024) :
    reset7 m c n h (ix2 e d) = 0 + part (V m c main_arg0) (V m c main_arg4) n e d := by
  rw [reset7, span_apply'', zero3, part, dif_pos h]
  simp only [block0, block4]

theorem step7_apply (n : ℕ) (h : n < cfg0.N) (o : Vec Ideal S1408x1024 .f32) (e : Fin 1408) (d : Fin 1024) :
    step7 m c n h o (ix2 e d) = o (ix2 e d) + part (V m c main_arg0) (V m c main_arg4) n e d := by
  rw [step7, span_apply'', part, dif_pos h]
  simp only [block0, block4]

/-- The gate weight's gradient. -/
theorem gate_array : G5 m c = over (m ((c : Thread nD τ).loc main_arg1)) (m ((c : Thread nD τ).loc main_arg3)) := by
  rw [← V_main_arg1 m c, ← V_main_arg3 m c]
  exact whole _ _ _ _ (reset5_apply m c) (step5_apply m c) _

/-- The up weight's gradient. -/
theorem up_array : G6 m c = over (m ((c : Thread nD τ).loc main_arg2)) (m ((c : Thread nD τ).loc main_arg3)) := by
  rw [← V_main_arg2 m c, ← V_main_arg3 m c]
  exact whole _ _ _ _ (reset6_apply m c) (step6_apply m c) _

/-- The down weight's gradient. -/
theorem down_array : G7 m c = over (m ((c : Thread nD τ).loc main_arg0)) (m ((c : Thread nD τ).loc main_arg4)) := by
  rw [← V_main_arg0 m c, ← V_main_arg4 m c]
  exact whole _ _ _ _ (reset7_apply m c) (step7_apply m c) _

end Cert.WgradIdeal.Sums
-- ==== Proof.WgradClaim.lean ====
module

public import proofs.«01_k».proof.Defs
public import proofs.«01_k».proof.Proof.WgradValue
public import proofs.«01_k».proof.Proof.Gen.WgradReferenceIdeal.Read

/-! The weight gradients of the hidden layer: the version's call and the reference's gradient hold the same arrays. -/

@[expose] public section

set_option maxRecDepth 65536

noncomputable section

namespace Cert.WgradIdeal.Sums

open Idealize.ShloMosaic Idealize.SL.Sem Cert.WgradReferenceIdeal.Read

theorem frame_reference : Cert.quiescent_WgradReferenceIdeal := fun m ρ _ =>
  (θ_run Cert.WgradReferenceIdeal.defs _ _).mono
    (fun r h => ⟨fun c => (h c).2.2.2, sem_eq_zero_of_no_sems (by decide) r.2⟩)
    (Cert.WgradReferenceIdeal.Value.run (F := Ideal) m ρ)

theorem reference_gate (a : Vec Ideal S4096x2816 .bf16) (b : Vec Ideal S4096x1024 .bf16) :
    val_main_v13 (F := Ideal) a b = over a b := by
  funext i
  rw [val_main_v13_apply, over]
  refine Finset.sum_congr rfl fun k _ => ?_
  rw [eq_ix2 (lidx_main_v13 i k), eq_ix2 (ridx_main_v13 i k)]
  rfl

theorem reference_up (a : Vec Ideal S4096x2816 .bf16) (b : Vec Ideal S4096x1024 .bf16) :
    val_main_v12 (F := Ideal) a b = over a b := by
  funext i
  rw [val_main_v12_apply, over]
  refine Finset.sum_congr rfl fun k _ => ?_
  rw [eq_ix2 (lidx_main_v12 i k), eq_ix2 (ridx_main_v12 i k)]
  rfl

theorem reference_down (a : Vec Ideal S4096x2816 .bf16) (b : Vec Ideal S4096x1024 .bf16) :
    val_main_v11 (F := Ideal) a b = over a b := by
  funext i
  rw [val_main_v11_apply, val_main_v10_apply, over]
  refine Finset.sum_congr rfl fun k _ => ?_
  rw [eq_ix2 (lidx_main_v10 _ k), eq_ix2 (ridx_main_v10 _ k)]
  exact mul_comm _ _

set_option maxHeartbeats 1600000 in
theorem algebraic : Cert.algebraic_WgradIdeal_WgradReferenceIdeal := by
  intro m ρ m' ρ' _ hagree
  refine ⟨fun c => Value.G5 m c, fun c => Value.G6 m c, fun c => Value.G7 m c, Value.run (F := Ideal) m ρ,
    (θ_run Cert.WgradReferenceIdeal.defs _ _).mono (fun r h c => ?_) (Cert.WgradReferenceIdeal.Value.run (F := Ideal) m' ρ')⟩
  obtain ⟨h0, h1, h2, h3, h4⟩ := hagree c
  obtain ⟨e0, e1, e2, kept⟩ := h c
  refine ⟨e0.trans ((val_main_v13_eq _ _).trans ((reference_gate _ _).trans ?_)),
    e1.trans ((val_main_v12_eq _ _).trans ((reference_up _ _).trans ?_)),
    e2.trans ((val_main_v11_eq _ _).trans ((reference_down _ _).trans ?_)), kept⟩
  · rw [h1, h3]; exact (gate_array m c).symm
  · rw [h2, h3]; exact (up_array m c).symm
  · rw [h0, h4]; exact (down_array m c).symm

end Cert.WgradIdeal.Sums
-- ==== Proof.Lanes.lean ====
module

public import Mathlib.Data.EReal.Operations
public import Mathlib.Algebra.BigOperators.Fin
public import Mathlib.Logic.Equiv.Fin.Basic

/-! The lanes of the combined projection as the layer's calls hold them: five blocks of 512, and 256 lanes of keys and
values with the two heads side by side. -/

@[expose] public section

noncomputable section

namespace Cert.Lanes

/-- Lane `j` of block `i`. -/
def col (i : Fin 5) (j : Fin 512) : Fin 2816 := ⟨512 * i + j, by omega⟩

/-- Keys and values by head: the middle two quarters change places. -/
def swap (j : Fin 256) : Fin 256 :=
  ⟨if j.val < 64 then j else if j.val < 128 then j + 64 else if j.val < 192 then j - 64 else j, by split_ifs <;> omega⟩

theorem swap_swap : Function.Involutive swap := fun j => Fin.ext (by unfold swap; dsimp only; split_ifs <;> omega)

/-- Lane `j` of the keys and values by head. -/
def kv (j : Fin 256) : Fin 2816 := ⟨2560 + swap j, by omega⟩

theorem kv_val (j : Fin 256) : (kv j).val = 2560 + (if j.val < 64 then j.val else if j.val < 128 then j + 64
    else if j.val < 192 then j - 64 else j) := rfl

/-- A sum over the lanes, block by block. -/
theorem sum_lanes (f : Fin 2816 → EReal) :
    ∑ e, f e = (∑ j, f (col 0 j)) + (∑ j, f (col 1 j)) + (∑ j, f (col 2 j)) + (∑ j, f (col 3 j)) + (∑ j, f (col 4 j))
      + ∑ j, f (kv j) := by
  have tail : ∑ j, f (kv j) = ∑ j : Fin 256, f (Fin.natAdd 2560 j) :=
    Equiv.sum_comp swap_swap.toPerm fun j => f (Fin.natAdd 2560 j)
  have head : ∑ j : Fin 2560, f (Fin.castAdd 256 j) = ∑ i : Fin 5, ∑ j : Fin 512, f (col i j) := by
    rw [← Fintype.sum_prod_type']
    refine (Equiv.sum_comp (finProdFinEquiv (m := 5) (n := 512)) fun j => f (Fin.castAdd 256 j)).symm.trans
      (Finset.sum_congr rfl fun x _ => ?_)
    exact congrArg f (Fin.ext (by simp [finProdFinEquiv, col]; omega))
  rw [tail, Fin.sum_univ_add (a := 2560) (b := 256) f, head, Fin.sum_univ_five]

end Cert.Lanes
-- ==== Proof.InprojValue.lean ====
module

public import proofs.«01_k».proof.Proof.Spans
public import proofs.«01_k».proof.Proof.Lanes
public import proofs.«01_k».proof.Proof.Gen.InprojIdeal.Value
public import Idealize.ShloMosaic.Lib.Pointwise
public import Idealize.ShloMosaic.Lib.Pipeline.ValueKit
public import Idealize.ShloMosaic.Lib.Claim

/-! The gradient of the layer's input: each entry is the residual's share and a sum over the 2816 projected lanes. -/

@[expose] public section

set_option maxRecDepth 65536
set_option maxHeartbeats 1600000

noncomputable section

namespace Cert.InprojIdeal.Sums
open Cert.InprojIdeal.Gen Cert.InprojIdeal.Value Cert.Spans Cert.Lanes
open Idealize.ShloMosaic Idealize.ShloMosaic.TcCoe Idealize.ShloMosaic.Tactic

/-- The weight of the residual branch. -/
def alpha : EReal := Ideal.ofBits .f32 0x3F9837F0#32

/-- The gradient reaching entry `(t, d)` of the input. -/
def into (dz : Vec Ideal S4096x1024 .f32) (du : Vec Ideal S4096x2816 .bf16) (w : Vec Ideal S2816x1024 .bf16) :
    Vec Ideal S4096x1024 .f32 :=
  fun x => alpha * dz x + ∑ e : Fin 2816, du (ix2 (x 0) e) * w (ix2 e (x 1))

/-- Five blocks of lanes of a projected row against their rows of the weight. -/
theorem blocks_apply (z : Vec Ideal S512x1024 .f32) (a0 a1 a2 a3 a4 : Vec Ideal S512x512 .bf16)
    (w0 w1 w2 w3 w4 : Vec Ideal S512x1024 .bf16) (i : Fin 512) (d : Fin 1024) :
    k0_pay2 (F := Ideal) z a0 w0 a1 w1 a2 w2 a3 w3 a4 w4 (ix2 i d)
      = alpha * z (ix2 i d) + (∑ j, a0 (ix2 i j) * w0 (ix2 j d)) + (∑ j, a1 (ix2 i j) * w1 (ix2 j d))
        + (∑ j, a2 (ix2 i j) * w2 (ix2 j d)) + (∑ j, a3 (ix2 i j) * w3 (ix2 j d)) + ∑ j, a4 (ix2 i j) * w4 (ix2 j d) := by
  unfold alpha
  pointwise [k0_pay2]

/-- The rows of the weight for keys and values, put together by head. -/
def byHead (w0 w1 w2 w3 : Vec Ideal S64x1024 .bf16) : Vec Ideal S256x1024 .bf16 :=
  concatenate S256x1024 0 [⟨S64x1024, w0⟩, ⟨S64x1024, w1⟩, ⟨S64x1024, w2⟩, ⟨S64x1024, w3⟩]
    concatenates_S64x1024_S64x1024_S64x1024_S64x1024_S256x1024_d0

theorem last_apply (o : Vec Ideal S512x1024 .f32) (w0 w1 w2 w3 : Vec Ideal S64x1024 .bf16) (a : Vec Ideal S512x256 .bf16)
    (i : Fin 512) (d : Fin 1024) :
    k0_pay1 (F := Ideal) o w0 w1 w2 w3 a (ix2 i d) = o (ix2 i d) + ∑ j, a (ix2 i j) * byHead w0 w1 w2 w3 (ix2 j d) := by
  unfold k0_pay1
  change _ = o (ix2 i d) + ∑ j, a (ix2 i j) * concatenate S256x1024 0 [⟨S64x1024, w0⟩, ⟨S64x1024, w1⟩, ⟨S64x1024, w2⟩, ⟨S64x1024, w3⟩]
    concatenates_S64x1024_S64x1024_S64x1024_S64x1024_S256x1024_d0 (ix2 j d)
  generalize concatenate S256x1024 0 [⟨S64x1024, w0⟩, ⟨S64x1024, w1⟩, ⟨S64x1024, w2⟩, ⟨S64x1024, w3⟩]
    concatenates_S64x1024_S64x1024_S64x1024_S64x1024_S256x1024_d0 = b
  pointwise

/-- The rows of a weight of 2816 rows, put together by head. -/
theorem byHead_apply (w : Vec Ideal S2816x1024 .bf16) (j : Fin 256) (d : Fin 1024) :
    byHead (View.ld w r0_7) (View.ld w r0_8) (View.ld w r0_9) (View.ld w r0_10) (ix2 j d) = w (ix2 (kv j) d) := by
  pointwise [byHead]
  split_ifs
  all_goals first
    | exact absurd rfl ‹_›
    | exact congrArg (fun l => w (ix2 l d)) (Fin.ext (by rw [kv_val]; dsimp only; split_ifs <;> omega))

/-- Block `i` of the rows of the weight. -/
def rows (w : Vec Ideal S2816x1024 .bf16) (i : Fin 5) : Vec Ideal S512x1024 .bf16 := fun y => w (ix2 (col i (y 0)) (y 1))

theorem rows_eq (w : Vec Ideal S2816x1024 .bf16) :
    (View.ld w r0_2 : Vec Ideal S512x1024 .bf16) = rows w 0 ∧ (View.ld w r0_3 : Vec Ideal S512x1024 .bf16) = rows w 1
      ∧ (View.ld w r0_4 : Vec Ideal S512x1024 .bf16) = rows w 2 ∧ (View.ld w r0_5 : Vec Ideal S512x1024 .bf16) = rows w 3
      ∧ (View.ld w r0_6 : Vec Ideal S512x1024 .bf16) = rows w 4 := by
  refine ⟨?_, ?_, ?_, ?_, ?_⟩ <;> funext y <;>
    exact View.ld_unit_apply_of _ _ _ _ _ _ (Fin.forall_fin_two.mpr ⟨rfl, (Nat.zero_add _).symm⟩)

theorem zeros : (![0, 0] : Fin 2 → ℕ) = fun _ => 0 := by decide

/-- An entry of the array a grid point stores. -/
theorem point_apply (z : Vec Ideal S512x1024 .f32) (a0 a1 a2 a3 a4 : Vec Ideal S512x512 .bf16) (a5 : Vec Ideal S512x256 .bf16)
    (w : Vec Ideal S2816x1024 .bf16) (i : Fin 512) (d : Fin 1024) :
    out0_8 z a0 a1 a2 a3 a4 a5 w (ix2 i d)
      = alpha * z (ix2 i d) + (∑ j, a0 (ix2 i j) * w (ix2 (col 0 j) d)) + (∑ j, a1 (ix2 i j) * w (ix2 (col 1 j) d))
        + (∑ j, a2 (ix2 i j) * w (ix2 (col 2 j) d)) + (∑ j, a3 (ix2 i j) * w (ix2 (col 3 j) d))
        + (∑ j, a4 (ix2 i j) * w (ix2 (col 4 j) d)) + ∑ j, a5 (ix2 i j) * w (ix2 (kv j) d) := by
  obtain ⟨e0, e1, e2, e3, e4⟩ := rows_eq w
  unfold out0_8
  rw [View.canon_unit_zero zeros, last_apply, blocks_apply, e0, e1, e2, e3, e4]
  simp only [byHead_apply]
  rw [View.ld_unit_zero zeros, View.ld_unit_zero zeros, View.ld_unit_zero zeros, View.ld_unit_zero zeros,
    View.ld_unit_zero zeros, View.ld_unit_zero zeros, View.ld_unit_zero zeros]
  rfl

variable (m : (ℓ : Loc nD τ sig) → Buf (Elt Ideal) ℓ) (c : Dev nD)

/-! What the host hands the call: five blocks of the projected gradient's lanes, and keys and values by head. -/

/-- The gradient of the projected lanes as launched. -/
def lanes : Vec Ideal S4096x2816 .bf16 := m ((c : Thread nD τ).loc main_arg1)

theorem host0 (t : Fin 4096) (j : Fin 512) : V m c main_v4 (ix2 t j) = lanes m c (ix2 t (col 0 j)) := by
  have e : V m c main_v4 = extractStridedSlice S4096x512 ![0, 0] (lanes m c) slices_S4096x2816_S4096x512_0_0 := by
    entry_read
    rfl
  rw [e]
  exact extractStridedSlice_apply _ _ _ _ _ (Fin.forall_fin_two.mpr ⟨(Nat.zero_add _).symm, rfl⟩)
theorem host1 (t : Fin 4096) (j : Fin 512) : V m c main_v5 (ix2 t j) = lanes m c (ix2 t (col 1 j)) := by
  have e : V m c main_v5 = extractStridedSlice S4096x512 ![0, 512] (lanes m c) slices_S4096x2816_S4096x512_0_512 := by
    entry_read
    rfl
  rw [e]
  exact extractStridedSlice_apply _ _ _ _ _ (Fin.forall_fin_two.mpr ⟨(Nat.zero_add _).symm, rfl⟩)
theorem host2 (t : Fin 4096) (j : Fin 512) : V m c main_v6 (ix2 t j) = lanes m c (ix2 t (col 2 j)) := by
  have e : V m c main_v6 = extractStridedSlice S4096x512 ![0, 1024] (lanes m c) slices_S4096x2816_S4096x512_0_1024 := by
    entry_read
    rfl
  rw [e]
  exact extractStridedSlice_apply _ _ _ _ _ (Fin.forall_fin_two.mpr ⟨(Nat.zero_add _).symm, rfl⟩)
theorem host3 (t : Fin 4096) (j : Fin 512) : V m c main_v7 (ix2 t j) = lanes m c (ix2 t (col 3 j)) := by
  have e : V m c main_v7 = extractStridedSlice S4096x512 ![0, 1536] (lanes m c) slices_S4096x2816_S4096x512_0_1536 := by
    entry_read
    rfl
  rw [e]
  exact extractStridedSlice_apply _ _ _ _ _ (Fin.forall_fin_two.mpr ⟨(Nat.zero_add _).symm, rfl⟩)
theorem host4 (t : Fin 4096) (j : Fin 512) : V m c main_v8 (ix2 t j) = lanes m c (ix2 t (col 4 j)) := by
  have e : V m c main_v8 = extractStridedSlice S4096x512 ![0, 2048] (lanes m c) slices_S4096x2816_S4096x512_0_2048 := by
    entry_read
    rfl
  rw [e]
  exact extractStridedSlice_apply _ _ _ _ _ (Fin.forall_fin_two.mpr ⟨(Nat.zero_add _).symm, rfl⟩)

/-- Keys and values of a projected row, put together by head. -/
def pieces (u : Vec Ideal S4096x2816 .bf16) : Vec Ideal S4096x256 .bf16 :=
  concatenate S4096x256 1 [⟨S4096x64, extractStridedSlice S4096x64 ![0, 2560] u slices_S4096x2816_S4096x64_0_2560⟩,
    ⟨S4096x64, extractStridedSlice S4096x64 ![0, 2688] u slices_S4096x2816_S4096x64_0_2688⟩,
    ⟨S4096x64, extractStridedSlice S4096x64 ![0, 2624] u slices_S4096x2816_S4096x64_0_2624⟩,
    ⟨S4096x64, extractStridedSlice S4096x64 ![0, 2752] u slices_S4096x2816_S4096x64_0_2752⟩]
    concatenates_S4096x64_S4096x64_S4096x64_S4096x64_S4096x256_d1

theorem pieces_apply (u : Vec Ideal S4096x2816 .bf16) (t : Fin 4096) (j : Fin 256) :
    pieces u (ix2 t j) = u (ix2 t (kv j)) := by
  pointwise [pieces]
  split_ifs
  all_goals first
    | exact absurd rfl ‹_›
    | exact congrArg (fun l => u (ix2 t l)) (Fin.ext (by rw [kv_val]; dsimp only; split_ifs <;> omega))

theorem kept {r : Ref sig .tc} (h : r ≠ main_v9) : V m c r = StableHlo.after (hostOps0 (F := Ideal)).dropLast (fun b => m (c, b)) r := by
  change StableHlo.after ((hostOps0 (F := Ideal)).dropLast ++ [_]) (fun b => m (c, b)) r = _
  rw [StableHlo.after_append, StableHlo.after_cons, StableHlo.after_nil]
  exact StableHlo.nary_result_ne _ _ _ _ _ _ h

theorem host5 : V m c main_v9 = pieces (lanes m c) := by
  have e0 : V m c main_v0 = extractStridedSlice S4096x64 ![0, 2560] (lanes m c) slices_S4096x2816_S4096x64_0_2560 := by
    entry_read
    rfl
  have e1 : V m c main_v1 = extractStridedSlice S4096x64 ![0, 2688] (lanes m c) slices_S4096x2816_S4096x64_0_2688 := by
    entry_read
    rfl
  have e2 : V m c main_v2 = extractStridedSlice S4096x64 ![0, 2624] (lanes m c) slices_S4096x2816_S4096x64_0_2624 := by
    entry_read
    rfl
  have e3 : V m c main_v3 = extractStridedSlice S4096x64 ![0, 2752] (lanes m c) slices_S4096x2816_S4096x64_0_2752 := by
    entry_read
    rfl
  rw [kept m c (by decide)] at e0 e1 e2 e3
  unfold pieces
  rw [← e0, ← e1, ← e2, ← e3]
  change StableHlo.after ((hostOps0 (F := Ideal)).dropLast ++ [_]) (fun b => m (c, b)) main_v9 = _
  rw [StableHlo.after_append, StableHlo.after_cons, StableHlo.after_nil]
  exact StableHlo.nary_result _ _ _ _ _ _

/-! The blocks a grid point reads. -/

theorem index0 : ∀ t : Fin cfg0.N, (cfg0.win 0).index t 0 = t.val % 8 ∧ (cfg0.win 0).index t 1 = 0 := by decide +kernel
theorem index1 : ∀ t : Fin cfg0.N, (cfg0.win 1).index t 0 = t.val % 8 ∧ (cfg0.win 1).index t 1 = 0 := by decide +kernel
theorem index2 : ∀ t : Fin cfg0.N, (cfg0.win 2).index t 0 = t.val % 8 ∧ (cfg0.win 2).index t 1 = 0 := by decide +kernel
theorem index3 : ∀ t : Fin cfg0.N, (cfg0.win 3).index t 0 = t.val % 8 ∧ (cfg0.win 3).index t 1 = 0 := by decide +kernel
theorem index4 : ∀ t : Fin cfg0.N, (cfg0.win 4).index t 0 = t.val % 8 ∧ (cfg0.win 4).index t 1 = 0 := by decide +kernel
theorem index5 : ∀ t : Fin cfg0.N, (cfg0.win 5).index t 0 = t.val % 8 ∧ (cfg0.win 5).index t 1 = 0 := by decide +kernel
theorem index6 : ∀ t : Fin cfg0.N, (cfg0.win 6).index t 0 = t.val % 8 ∧ (cfg0.win 6).index t 1 = 0 := by decide +kernel
theorem index8 : ∀ t : Fin cfg0.N, (cfg0.win 8).index t 0 = t.val % 8 ∧ (cfg0.win 8).index t 1 = 0 := by decide +kernel

theorem block0 (t : Fin cfg0.N) (i : Fin 512) (d : Fin 1024) : iblk m c 0 t (ix2 i d) = V m c main_arg0 (ix2 (tok t i) d) := by
  have h := index0 t
  unfold tok
  blk_ext [iblk, h.1, h.2]
theorem block1 (t : Fin cfg0.N) (i : Fin 512) (j : Fin 512) : iblk m c 1 t (ix2 i j) = lanes m c (ix2 (tok t i) (col 0 j)) := by
  have h := index1 t
  refine Eq.trans ?_ (host0 m c (tok t i) j)
  unfold tok
  blk_ext [iblk, h.1, h.2]
theorem block2 (t : Fin cfg0.N) (i : Fin 512) (j : Fin 512) : iblk m c 2 t (ix2 i j) = lanes m c (ix2 (tok t i) (col 1 j)) := by
  have h := index2 t
  refine Eq.trans ?_ (host1 m c (tok t i) j)
  unfold tok
  blk_ext [iblk, h.1, h.2]
theorem block3 (t : Fin cfg0.N) (i : Fin 512) (j : Fin 512) : iblk m c 3 t (ix2 i j) = lanes m c (ix2 (tok t i) (col 2 j)) := by
  have h := index3 t
  refine Eq.trans ?_ (host2 m c (tok t i) j)
  unfold tok
  blk_ext [iblk, h.1, h.2]
theorem block4 (t : Fin cfg0.N) (i : Fin 512) (j : Fin 512) : iblk m c 4 t (ix2 i j) = lanes m c (ix2 (tok t i) (col 3 j)) := by
  have h := index4 t
  refine Eq.trans ?_ (host3 m c (tok t i) j)
  unfold tok
  blk_ext [iblk, h.1, h.2]
theorem block5 (t : Fin cfg0.N) (i : Fin 512) (j : Fin 512) : iblk m c 5 t (ix2 i j) = lanes m c (ix2 (tok t i) (col 4 j)) := by
  have h := index5 t
  refine Eq.trans ?_ (host4 m c (tok t i) j)
  unfold tok
  blk_ext [iblk, h.1, h.2]
theorem block6 (t : Fin cfg0.N) (i : Fin 512) (j : Fin 256) : iblk m c 6 t (ix2 i j) = lanes m c (ix2 (tok t i) (kv j)) := by
  have h := index6 t
  refine Eq.trans ?_ ((congrFun (host5 m c) (ix2 (tok t i) j)).trans (pieces_apply _ _ _))
  unfold tok
  blk_ext [iblk, h.1, h.2]
theorem index7 : ∀ t : Fin cfg0.N, (cfg0.win 7).index t 0 = 0 ∧ (cfg0.win 7).index t 1 = 0 := by decide +kernel
theorem block7 (t : Fin cfg0.N) (e : Fin 2816) (d : Fin 1024) : iblk m c 7 t (ix2 e d) = V m c main_arg2 (ix2 e d) := by
  have h := index7 t
  blk_ext [iblk, h.1, h.2]

/-- An entry of the array a grid point leaves. -/
theorem left (t : Fin cfg0.N) (i : Fin 512) (d : Fin 1024) :
    out0_8 (iblk m c 0 t) (iblk m c 1 t) (iblk m c 2 t) (iblk m c 3 t) (iblk m c 4 t) (iblk m c 5 t) (iblk m c 6 t)
      (iblk m c 7 t) (ix2 i d) = into (V m c main_arg0) (lanes m c) (V m c main_arg2) (ix2 (tok t i) d) := by
  rw [point_apply, block0]
  simp only [block1, block2, block3, block4, block5, block6, block7]
  unfold into
  have s := sum_lanes fun e => lanes m c (ix2 (tok t i) e) * V m c main_arg2 (ix2 e d)
  generalize V m c main_arg0 = z, V m c main_arg2 = w, lanes m c = u at s ⊢
  refine Eq.trans ?_ (congrArg (alpha * z (ix2 (tok t i) d) + ·) s.symm)
  simp only [add_assoc]

end Cert.InprojIdeal.Sums
-- ==== Proof.InprojFinal.lean ====
module

public import proofs.«01_k».proof.Proof.InprojValue

/-! The array the call leaves. -/

@[expose] public section

set_option maxRecDepth 65536
set_option maxHeartbeats 1600000

noncomputable section

namespace Cert.InprojIdeal.Sums
open Cert.InprojIdeal.Gen Cert.InprojIdeal.Value Cert.Spans Cert.Lanes
open Idealize.ShloMosaic Idealize.ShloMosaic.TcCoe Idealize.ShloMosaic.Tactic

variable (m : (ℓ : Loc nD τ sig) → Buf (Elt Ideal) ℓ) (c : Dev nD)

/-- An entry of the array a grid point leaves, by its place in the block. -/
theorem left' (t : Fin cfg0.N) (y : S512x1024.Idx) :
    out0_8 (iblk m c 0 t) (iblk m c 1 t) (iblk m c 2 t) (iblk m c 3 t) (iblk m c 4 t) (iblk m c 5 t) (iblk m c 6 t)
      (iblk m c 7 t) y = into (V m c main_arg0) (lanes m c) (V m c main_arg2) (ix2 (tok t (y 0)) (y 1)) :=
  (congrArg (out0_8 (iblk m c 0 t) (iblk m c 1 t) (iblk m c 2 t) (iblk m c 3 t) (iblk m c 4 t) (iblk m c 5 t)
    (iblk m c 6 t) (iblk m c 7 t)) (eq_ix2 y)).trans (left m c t (y 0) (y 1))

theorem place (t : Fin cfg0.N) (y : S512x1024.Idx) :
    (((cfg0.win 8).blk t).view.emb y : S4096x1024.Idx) = ix2 (tok t (y 0)) (y 1) := by
  have hi := index8 t
  unfold tok
  blk_ext [hi.1, hi.2]

/-- The array after the run. -/
theorem final : (dats m 0 c).arrAt 8 cfg0.N = fun x : S4096x1024.Idx => into (V m c main_arg0) (lanes m c) (V m c main_arg2) x := by
  have left := left' m c
  generalize into (V m c main_arg0) (lanes m c) (V m c main_arg2) = G at left ⊢
  refine (dats m 0 c).arrAt_eq_of_covers 8 _ (by decide +kernel) fun t _ y => ?_
  rw [after0_8]
  have h := (left t y).trans (congrArg G (place t y).symm)
  generalize out0_8 (iblk m c 0 t) (iblk m c 1 t) (iblk m c 2 t) (iblk m c 3 t) (iblk m c 4 t) (iblk m c 5 t)
    (iblk m c 6 t) (iblk m c 7 t) = L at h ⊢
  exact h

end Cert.InprojIdeal.Sums
-- ==== Proof.InprojClaim.lean ====
module

public import proofs.«01_k».proof.Defs
public import proofs.«01_k».proof.Proof.InprojFinal
public import proofs.«01_k».proof.Proof.Gen.InprojReferenceIdeal.Read

/-! The gradient of the layer's input: the version's call and the reference's gradient hold the same array. -/

@[expose] public section

set_option maxRecDepth 65536

noncomputable section

namespace Cert.InprojIdeal.Sums

open Idealize.ShloMosaic Idealize.SL.Sem Cert.InprojReferenceIdeal.Read

theorem frame_reference : Cert.quiescent_InprojReferenceIdeal := fun m ρ _ =>
  (θ_run Cert.InprojReferenceIdeal.defs _ _).mono
    (fun r h => ⟨fun c => (h c).2, sem_eq_zero_of_no_sems (by decide) r.2⟩)
    (Cert.InprojReferenceIdeal.Value.run (F := Ideal) m ρ)

theorem reference_into (dz : Vec Ideal S4096x1024 .f32) (du : Vec Ideal S4096x2816 .bf16) (w : Vec Ideal S2816x1024 .bf16) :
    val_main_v9 (F := Ideal) dz du w = into dz du w := by
  funext i
  rw [val_main_v9_apply, val_main_v8_apply, val_main_v7_apply, val_main_v6_apply, into]
  refine (add_comm _ _).trans (congrArg₂ (· + ·) rfl (Finset.sum_congr rfl fun k _ => ?_))
  rw [eq_ix2 (lidx_main_v6 i k), eq_ix2 (ridx_main_v6 i k)]
  rfl

set_option maxHeartbeats 1600000 in
theorem algebraic : Cert.algebraic_InprojIdeal_InprojReferenceIdeal := by
  intro m ρ m' ρ' _ hagree
  refine ⟨fun c => (Gen.dats m 0 c).arrAt 8 _, Value.run_blocks (F := Ideal) m ρ,
    (θ_run Cert.InprojReferenceIdeal.defs _ _).mono (fun r h c => ?_) (Cert.InprojReferenceIdeal.Value.run (F := Ideal) m' ρ')⟩
  obtain ⟨h0, h1, h2⟩ := hagree c
  obtain ⟨e0, kept⟩ := h c
  refine ⟨e0.trans ((val_main_v9_eq _ _ _).trans ((reference_into _ _ _).trans ?_)), kept⟩
  rw [h0, h1, h2, ← Gen.V_main_arg0 m c, ← Gen.V_main_arg2 m c]
  exact (final m c).symm

end Cert.InprojIdeal.Sums
-- ==== Proof.WinPoint.lean ====
module

public import proofs.«01_k».proof.Proof.Spans
public import proofs.«01_k».proof.Proof.Lanes
public import proofs.«01_k».proof.Proof.Gen.WinIdeal.Value
public import Idealize.ShloMosaic.Lib.Pointwise
public import Idealize.ShloMosaic.Lib.Pipeline.ValueKit
public import Idealize.ShloMosaic.Lib.Pipeline.ReadBack
public import Idealize.ShloMosaic.Lib.Pipeline.CanonAppend

/-! The gradient of the combined projection's weight at one grid point: nine stores, each adding 512 tokens' products to
a range of the weight's rows. -/

@[expose] public section

set_option maxRecDepth 65536
set_option maxHeartbeats 1600000

noncomputable section

namespace Cert.WinIdeal.Sums
open Cert.WinIdeal.Gen Cert.WinIdeal.Value Cert.Spans Cert.Lanes
open Idealize.ShloMosaic Idealize.ShloMosaic.TcCoe Idealize.ShloMosaic.Tactic

/-- What a grid point makes of the array it found: row `e` gains the products of lane `e` with the input's rows. -/
def gain (u : Fin 512 → Fin 2816 → EReal) (x : Vec Ideal S512x1024 .f32) (o : Vec Ideal S2816x1024 .f32) :
    Vec Ideal S2816x1024 .f32 := fun y => o y + ∑ k, u k (y 0) * x (ix2 k (y 1))

/-- A range of rows of the array. -/
theorem row (w : Vec Ideal S2816x1024 .f32) (o n : ℕ) (inb : ∀ a, (![o, 0] : Fin 2 → ℕ) a + (![n, 1024] : Fin 2 → ℕ) a ≤ S2816x1024.size a)
    (j : Fin n) (d : Fin 1024) (l : Fin 2816) (hl : l.val = o + j.val) :
    View.ld w (Rect.unit (s := S2816x1024) ![o, 0] ![n, 1024] inb) (ix2 j d) = w (ix2 l d) :=
  View.ld_unit_apply_of _ _ _ _ _ _ (Fin.forall_fin_two.mpr ⟨hl, (Nat.zero_add _).symm⟩)

/-- A store of `n` rows from row `o` that adds the products of those rows' lanes is a part of `gain`. -/
theorem part (u : Fin 512 → Fin 2816 → EReal) (x : Vec Ideal S512x1024 .f32) (w : Vec Ideal S2816x1024 .f32) (o n : ℕ)
    (inb : ∀ a, (![o, 0] : Fin 2 → ℕ) a + (![n, 1024] : Fin 2 → ℕ) a ≤ S2816x1024.size a)
    (l : Fin n → Fin 2816) (hl : ∀ j, (l j).val = o + j.val) (P : Vec Ideal ⟨2, ![n, 1024]⟩ .f32)
    (hP : ∀ j d, P (ix2 j d) = View.ld w (Rect.unit (s := S2816x1024) ![o, 0] ![n, 1024] inb) (ix2 j d)
      + ∑ k, u k (l j) * x (ix2 k d)) (y : (⟨2, ![n, 1024]⟩ : Shape).Idx) :
    P y = gain u x w ((Rect.unit (s := S2816x1024) ![o, 0] ![n, 1024] inb).emb y) := by
  refine (congrArg P (eq_ix2 y)).trans ((hP (y 0) (y 1)).trans ?_)
  rw [row w o n inb (y 0) (y 1) (l (y 0)) (hl _)]
  refine Eq.trans ?_ (congrArg (View.ld (gain u x w) (Rect.unit (s := S2816x1024) ![o, 0] ![n, 1024] inb)) (eq_ix2 y)).symm
  exact (row (gain u x w) o n inb (y 0) (y 1) (l (y 0)) (hl _)).symm

section
variable (x : Vec Ideal S512x1024 .f32) (o : Vec Ideal S512x1024 .f32) (a : Vec Ideal S512x512 .bf16)
  (b : Vec Ideal S512x256 .bf16) (q : Vec Ideal S64x1024 .f32)

theorem add0 (j : Fin 512) (d : Fin 1024) : k0_pay4 (F := Ideal) x o a (ix2 j d) = o (ix2 j d) + ∑ k, a (ix2 k j) * x (ix2 k d) := by
  pointwise [k0_pay4, k0_pay3]
theorem add1 (j : Fin 512) (d : Fin 1024) : k0_pay5 (F := Ideal) x o a (ix2 j d) = o (ix2 j d) + ∑ k, a (ix2 k j) * x (ix2 k d) := by
  pointwise [k0_pay5, k0_pay3]
theorem add2 (j : Fin 512) (d : Fin 1024) : k0_pay6 (F := Ideal) x o a (ix2 j d) = o (ix2 j d) + ∑ k, a (ix2 k j) * x (ix2 k d) := by
  pointwise [k0_pay6, k0_pay3]
theorem add3 (j : Fin 512) (d : Fin 1024) :
    k0_pay8 (F := Ideal) (k0_pay3 x) (k0_pay7 o) a (ix2 j d) = o (ix2 j d) + ∑ k, a (ix2 k j) * x (ix2 k d) := by
  pointwise [k0_pay8, k0_pay7, k0_pay3]
theorem add4 (j : Fin 512) (d : Fin 1024) :
    k0_pay9 (F := Ideal) (k0_pay3 x) o a (ix2 j d) = o (ix2 j d) + ∑ k, a (ix2 k j) * x (ix2 k d) := by
  pointwise [k0_pay9, k0_pay3]
theorem head0 (j : Fin 64) (d : Fin 1024) : k0_pay11 (F := Ideal) (k0_pay3 x) b q (ix2 j d)
    = q (ix2 j d) + ∑ k, b (ix2 k (⟨j, by omega⟩ : Fin 256)) * x (ix2 k d) := by
  pointwise [k0_pay11, k0_pay10, k0_pay3]
theorem head1 (j : Fin 64) (d : Fin 1024) : k0_pay12 (F := Ideal) (k0_pay3 x) b q (ix2 j d)
    = q (ix2 j d) + ∑ k, b (ix2 k (⟨64 + j, by omega⟩ : Fin 256)) * x (ix2 k d) := by
  pointwise [k0_pay12, k0_pay10, k0_pay3]
theorem head2 (j : Fin 64) (d : Fin 1024) : k0_pay13 (F := Ideal) (k0_pay3 x) b q (ix2 j d)
    = q (ix2 j d) + ∑ k, b (ix2 k (⟨128 + j, by omega⟩ : Fin 256)) * x (ix2 k d) := by
  pointwise [k0_pay13, k0_pay10, k0_pay3]
theorem head3 (j : Fin 64) (d : Fin 1024) : k0_pay1 (F := Ideal) (k0_pay10 (k0_pay3 x) b) q (ix2 j d)
    = q (ix2 j d) + ∑ k, b (ix2 k (⟨192 + j, by omega⟩ : Fin 256)) * x (ix2 k d) := by
  pointwise [k0_pay1, k0_pay10, k0_pay3]
end

/-- The nine stores of a grid point, last first. -/
def stores (a0 a1 a2 a3 a4 : Vec Ideal S512x512 .bf16) (b : Vec Ideal S512x256 .bf16) (x : Vec Ideal S512x1024 .f32)
    (w : Vec Ideal S2816x1024 .f32) : List (View.Piece (Elt Ideal) S2816x1024 .f32) :=
  [⟨Rect.unit ![2752, 0] ![64, 1024] inb_S2816x1024_S64x1024_2752_0, k0_pay1 (k0_pay10 (k0_pay3 x) b)
      (View.ld w (Rect.unit ![2752, 0] ![64, 1024] inb_S2816x1024_S64x1024_2752_0))⟩,
    ⟨Rect.unit ![2624, 0] ![64, 1024] inb_S2816x1024_S64x1024_2624_0, k0_pay13 (k0_pay3 x) b
      (View.ld w (Rect.unit ![2624, 0] ![64, 1024] inb_S2816x1024_S64x1024_2624_0))⟩,
    ⟨Rect.unit ![2688, 0] ![64, 1024] inb_S2816x1024_S64x1024_2688_0, k0_pay12 (k0_pay3 x) b
      (View.ld w (Rect.unit ![2688, 0] ![64, 1024] inb_S2816x1024_S64x1024_2688_0))⟩,
    ⟨Rect.unit ![2560, 0] ![64, 1024] inb_S2816x1024_S64x1024_2560_0, k0_pay11 (k0_pay3 x) b
      (View.ld w (Rect.unit ![2560, 0] ![64, 1024] inb_S2816x1024_S64x1024_2560_0))⟩,
    ⟨Rect.unit ![2048, 0] ![512, 1024] inb_S2816x1024_S512x1024_2048_0, k0_pay9 (k0_pay3 x)
      (View.ld w (Rect.unit ![2048, 0] ![512, 1024] inb_S2816x1024_S512x1024_2048_0)) a4⟩,
    ⟨Rect.unit ![1536, 0] ![512, 1024] inb_S2816x1024_S512x1024_1536_0, k0_pay8 (k0_pay3 x)
      (k0_pay7 (View.ld w (Rect.unit ![1536, 0] ![512, 1024] inb_S2816x1024_S512x1024_1536_0))) a3⟩,
    ⟨Rect.unit ![1024, 0] ![512, 1024] inb_S2816x1024_S512x1024_1024_0, k0_pay6 x
      (View.ld w (Rect.unit ![1024, 0] ![512, 1024] inb_S2816x1024_S512x1024_1024_0)) a2⟩,
    ⟨Rect.unit ![512, 0] ![512, 1024] inb_S2816x1024_S512x1024_512_0, k0_pay5 x
      (View.ld w (Rect.unit ![512, 0] ![512, 1024] inb_S2816x1024_S512x1024_512_0)) a1⟩,
    ⟨Rect.unit ![0, 0] ![512, 1024] inb_S2816x1024_S512x1024_0_0, k0_pay4 x
      (View.ld w (Rect.unit ![0, 0] ![512, 1024] inb_S2816x1024_S512x1024_0_0)) a0⟩]

/-- The stores, over any earlier ones, leave `gain`. -/
theorem stored (u : Fin 512 → Fin 2816 → EReal) (a0 a1 a2 a3 a4 : Vec Ideal S512x512 .bf16) (b : Vec Ideal S512x256 .bf16)
    (x : Vec Ideal S512x1024 .f32) (w : Vec Ideal S2816x1024 .f32) (L : List (View.Piece (Elt Ideal) S2816x1024 .f32))
    (h0 : ∀ k j, a0 (ix2 k j) = u k (col 0 j)) (h1 : ∀ k j, a1 (ix2 k j) = u k (col 1 j))
    (h2 : ∀ k j, a2 (ix2 k j) = u k (col 2 j)) (h3 : ∀ k j, a3 (ix2 k j) = u k (col 3 j))
    (h4 : ∀ k j, a4 (ix2 k j) = u k (col 4 j)) (h5 : ∀ k j, b (ix2 k j) = u k (kv j)) :
    View.canon (stores a0 a1 a2 a3 a4 b x w ++ L) = gain u x w := by
  funext y
  refine View.canon_append_of_piecesOf (gain u x w) L (stores a0 a1 a2 a3 a4 b x w) ?_ y
    (View.cover_of_tiledBy (stores a0 a1 a2 a3 a4 b x w) ![64, 1024] (by sl_kernel_rfl) y)
  refine ⟨?_, ?_, ?_, ?_, ?_, ?_, ?_, ?_, ?_, trivial⟩
  · refine part u x w 2752 64 inb_S2816x1024_S64x1024_2752_0 (fun j => kv ⟨192 + j, by omega⟩) (fun j => ?_) _ fun j d => ?_
    · rw [kv_val]; dsimp only; split_ifs <;> omega
    · refine (head3 ..).trans ?_; simp only [h5]
  · refine part u x w 2624 64 inb_S2816x1024_S64x1024_2624_0 (fun j => kv ⟨128 + j, by omega⟩) (fun j => ?_) _ fun j d => ?_
    · rw [kv_val]; dsimp only; split_ifs <;> omega
    · refine (head2 ..).trans ?_; simp only [h5]
  · refine part u x w 2688 64 inb_S2816x1024_S64x1024_2688_0 (fun j => kv ⟨64 + j, by omega⟩) (fun j => ?_) _ fun j d => ?_
    · rw [kv_val]; dsimp only; split_ifs <;> omega
    · refine (head1 ..).trans ?_; simp only [h5]
  · refine part u x w 2560 64 inb_S2816x1024_S64x1024_2560_0 (fun j => kv ⟨j, by omega⟩) (fun j => ?_) _ fun j d => ?_
    · rw [kv_val]; dsimp only; split_ifs <;> omega
    · refine (head0 ..).trans ?_; simp only [h5]
  · refine part u x w 2048 512 inb_S2816x1024_S512x1024_2048_0 (col 4) (fun _ => rfl) _ fun j d => ?_
    refine (add4 ..).trans ?_; simp only [h4]
  · refine part u x w 1536 512 inb_S2816x1024_S512x1024_1536_0 (col 3) (fun _ => rfl) _ fun j d => ?_
    refine (add3 ..).trans ?_; simp only [h3]
  · refine part u x w 1024 512 inb_S2816x1024_S512x1024_1024_0 (col 2) (fun _ => rfl) _ fun j d => ?_
    refine (add2 ..).trans ?_; simp only [h2]
  · refine part u x w 512 512 inb_S2816x1024_S512x1024_512_0 (col 1) (fun _ => rfl) _ fun j d => ?_
    refine (add1 ..).trans ?_; simp only [h1]
  · refine part u x w 0 512 inb_S2816x1024_S512x1024_0_0 (col 0) (fun j => ?_) _ fun j d => ?_
    · simp [col]
    · refine (add0 ..).trans ?_; simp only [h0]

theorem zeros : (![0, 0] : Fin 2 → ℕ) = fun _ => 0 := by decide
variable (m : (ℓ : Loc nD τ sig) → Buf (Elt Ideal) ℓ) (c : Dev nD)

/-- A later grid point's stores, over the array the point before left. -/
theorem later (t : Fin cfg0.N) (h0 : ¬ t.val % 8 = 0) : outsAt0 m c t.val t.isLt
    = View.canon (stores (iblk m c 0 t) (iblk m c 1 t) (iblk m c 2 t) (iblk m c 3 t) (iblk m c 4 t) (iblk m c 5 t) (iblk m c 6 t)
      (outsAt0 m c (t.val - 1) (Nat.lt_of_le_of_lt (Nat.sub_le _ _) t.isLt))) := by
  rw [outsAt0_B m c t h0]
  unfold out0_B_7
  rw [View.read_writes_junk_eq_canon]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread]
  repeat rw [View.ld_unit_zero zeros]
  rfl

/-- The first grid point's stores, over the array it zeroed. -/
theorem first (t : Fin cfg0.N) (h0 : t.val % 8 = 0) : outsAt0 m c t.val t.isLt
    = View.canon (stores (iblk m c 0 t) (iblk m c 1 t) (iblk m c 2 t) (iblk m c 3 t) (iblk m c 4 t) (iblk m c 5 t) (iblk m c 6 t)
      (k0_pay2 (F := Ideal)) ++ [⟨Rect.unit ![0, 0] S2816x1024.size inb_S2816x1024_S2816x1024_0_0, k0_pay2 (F := Ideal)⟩]) := by
  rw [outsAt0_A m c t h0]
  unfold out0_A_7
  rw [View.read_writes_junk_eq_canon]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread]
  repeat rw [View.ld_unit_zero zeros]
  simp (disch := decide) only [↓View.readCov_skip, View.readCov_fill]
  rfl

end Cert.WinIdeal.Sums
-- ==== Proof.WinHost.lean ====
module

public import proofs.«01_k».proof.Proof.WinPoint
public import Idealize.ShloMosaic.Lib.Pointwise
public import Idealize.ShloMosaic.Lib.Pipeline.ValueKit
public import Idealize.ShloMosaic.Lib.Claim

/-! The gradient of the combined projection's weight: what the host hands the call, what a grid point reads, and the
sum the eight grid points leave. -/

@[expose] public section

set_option maxRecDepth 65536
set_option maxHeartbeats 1600000

noncomputable section

namespace Cert.WinIdeal.Sums
open Cert.WinIdeal.Gen Cert.WinIdeal.Value Cert.Spans Cert.Lanes
open Idealize.ShloMosaic Idealize.ShloMosaic.TcCoe Idealize.ShloMosaic.Tactic

variable (m : (ℓ : Loc nD τ sig) → Buf (Elt Ideal) ℓ) (c : Dev nD)

/-- The gradient of the projected lanes as launched. -/
def lanes : Vec Ideal S4096x2816 .bf16 := m ((c : Thread nD τ).loc main_arg0)

/-- A run of 512 lanes. -/
theorem cut_apply (u : Vec Ideal S4096x2816 .bf16) (i : Fin 5) (h) (t : Fin 4096) (j : Fin 512) :
    extractStridedSlice S4096x512 ![0, 512 * i.val] u h (ix2 t j) = u (ix2 t (col i j)) :=
  extractStridedSlice_apply _ _ _ _ _ (Fin.forall_fin_two.mpr ⟨(Nat.zero_add _).symm, rfl⟩)

theorem host0 (t : Fin 4096) (j : Fin 512) : V m c main_v4 (ix2 t j) = lanes m c (ix2 t (col 0 j)) := by
  have e : V m c main_v4 = extractStridedSlice S4096x512 ![0, 0] (lanes m c) slices_S4096x2816_S4096x512_0_0 := by
    entry_read
    rfl
  exact (congrFun e _).trans (cut_apply _ 0 _ t j)
theorem host1 (t : Fin 4096) (j : Fin 512) : V m c main_v5 (ix2 t j) = lanes m c (ix2 t (col 1 j)) := by
  have e : V m c main_v5 = extractStridedSlice S4096x512 ![0, 512] (lanes m c) slices_S4096x2816_S4096x512_0_512 := by
    entry_read
    rfl
  exact (congrFun e _).trans (cut_apply _ 1 _ t j)
theorem host2 (t : Fin 4096) (j : Fin 512) : V m c main_v6 (ix2 t j) = lanes m c (ix2 t (col 2 j)) := by
  have e : V m c main_v6 = extractStridedSlice S4096x512 ![0, 1024] (lanes m c) slices_S4096x2816_S4096x512_0_1024 := by
    entry_read
    rfl
  exact (congrFun e _).trans (cut_apply _ 2 _ t j)
theorem host3 (t : Fin 4096) (j : Fin 512) : V m c main_v7 (ix2 t j) = lanes m c (ix2 t (col 3 j)) := by
  have e : V m c main_v7 = extractStridedSlice S4096x512 ![0, 1536] (lanes m c) slices_S4096x2816_S4096x512_0_1536 := by
    entry_read
    rfl
  exact (congrFun e _).trans (cut_apply _ 3 _ t j)
theorem host4 (t : Fin 4096) (j : Fin 512) : V m c main_v8 (ix2 t j) = lanes m c (ix2 t (col 4 j)) := by
  have e : V m c main_v8 = extractStridedSlice S4096x512 ![0, 2048] (lanes m c) slices_S4096x2816_S4096x512_0_2048 := by
    entry_read
    rfl
  exact (congrFun e _).trans (cut_apply _ 4 _ t j)

/-- Keys and values of a projected row, put together by head. -/
def pieces (u : Vec Ideal S4096x2816 .bf16) : Vec Ideal S4096x256 .bf16 :=
  concatenate S4096x256 1 [⟨S4096x64, extractStridedSlice S4096x64 ![0, 2560] u slices_S4096x2816_S4096x64_0_2560⟩,
    ⟨S4096x64, extractStridedSlice S4096x64 ![0, 2688] u slices_S4096x2816_S4096x64_0_2688⟩,
    ⟨S4096x64, extractStridedSlice S4096x64 ![0, 2624] u slices_S4096x2816_S4096x64_0_2624⟩,
    ⟨S4096x64, extractStridedSlice S4096x64 ![0, 2752] u slices_S4096x2816_S4096x64_0_2752⟩]
    concatenates_S4096x64_S4096x64_S4096x64_S4096x64_S4096x256_d1

theorem pieces_apply (u : Vec Ideal S4096x2816 .bf16) (t : Fin 4096) (j : Fin 256) :
    pieces u (ix2 t j) = u (ix2 t (kv j)) := by
  pointwise [pieces]
  split_ifs
  all_goals first
    | exact absurd rfl ‹_›
    | exact congrArg (fun l => u (ix2 t l)) (Fin.ext (by rw [kv_val]; dsimp only; split_ifs <;> omega))

theorem kept {r : Ref sig .tc} (h : r ≠ main_v9) : V m c r = StableHlo.after (hostOps0 (F := Ideal)).dropLast (fun b => m (c, b)) r := by
  change StableHlo.after ((hostOps0 (F := Ideal)).dropLast ++ [_]) (fun b => m (c, b)) r = _
  rw [StableHlo.after_append, StableHlo.after_cons, StableHlo.after_nil]
  exact StableHlo.nary_result_ne _ _ _ _ _ _ h

theorem host5 : V m c main_v9 = pieces (lanes m c) := by
  have e0 : V m c main_v0 = extractStridedSlice S4096x64 ![0, 2560] (lanes m c) slices_S4096x2816_S4096x64_0_2560 := by
    entry_read
    rfl
  have e1 : V m c main_v1 = extractStridedSlice S4096x64 ![0, 2688] (lanes m c) slices_S4096x2816_S4096x64_0_2688 := by
    entry_read
    rfl
  have e2 : V m c main_v2 = extractStridedSlice S4096x64 ![0, 2624] (lanes m c) slices_S4096x2816_S4096x64_0_2624 := by
    entry_read
    rfl
  have e3 : V m c main_v3 = extractStridedSlice S4096x64 ![0, 2752] (lanes m c) slices_S4096x2816_S4096x64_0_2752 := by
    entry_read
    rfl
  rw [kept m c (by decide)] at e0 e1 e2 e3
  unfold pieces
  rw [← e0, ← e1, ← e2, ← e3]
  change StableHlo.after ((hostOps0 (F := Ideal)).dropLast ++ [_]) (fun b => m (c, b)) main_v9 = _
  rw [StableHlo.after_append, StableHlo.after_cons, StableHlo.after_nil]
  exact StableHlo.nary_result _ _ _ _ _ _

end Cert.WinIdeal.Sums
-- ==== Proof.WinBlocks.lean ====
module

public import proofs.«01_k».proof.Proof.WinHost
public import Idealize.ShloMosaic.Lib.Pointwise
public import Idealize.ShloMosaic.Lib.Pipeline.ValueKit
public import Idealize.ShloMosaic.Lib.Claim

/-! The gradient of the combined projection's weight: the blocks a grid point reads. -/

@[expose] public section

set_option maxRecDepth 65536
set_option maxHeartbeats 1600000

noncomputable section

namespace Cert.WinIdeal.Sums
open Cert.WinIdeal.Gen Cert.WinIdeal.Value Cert.Spans Cert.Lanes
open Idealize.ShloMosaic Idealize.ShloMosaic.TcCoe Idealize.ShloMosaic.Tactic

variable (m : (ℓ : Loc nD τ sig) → Buf (Elt Ideal) ℓ) (c : Dev nD)

/-! The blocks a grid point reads. -/

theorem index : ∀ t : Fin cfg0.N, ((cfg0.win 0).index t 0 = t.val % 8 ∧ (cfg0.win 0).index t 1 = 0)
    ∧ ((cfg0.win 1).index t 0 = t.val % 8 ∧ (cfg0.win 1).index t 1 = 0)
    ∧ ((cfg0.win 2).index t 0 = t.val % 8 ∧ (cfg0.win 2).index t 1 = 0)
    ∧ ((cfg0.win 3).index t 0 = t.val % 8 ∧ (cfg0.win 3).index t 1 = 0)
    ∧ ((cfg0.win 4).index t 0 = t.val % 8 ∧ (cfg0.win 4).index t 1 = 0)
    ∧ ((cfg0.win 5).index t 0 = t.val % 8 ∧ (cfg0.win 5).index t 1 = 0)
    ∧ ((cfg0.win 6).index t 0 = t.val % 8 ∧ (cfg0.win 6).index t 1 = 0)
    ∧ ((cfg0.win 7).index t 0 = 0 ∧ (cfg0.win 7).index t 1 = 0) := by decide +kernel

theorem block0 (t : Fin cfg0.N) (k j : Fin 512) : iblk m c 0 t (ix2 k j) = lanes m c (ix2 (tok t k) (col 0 j)) := by
  have h := (index t).1
  refine Eq.trans ?_ (host0 m c (tok t k) j)
  unfold tok
  blk_ext [iblk, h.1, h.2]
theorem block1 (t : Fin cfg0.N) (k j : Fin 512) : iblk m c 1 t (ix2 k j) = lanes m c (ix2 (tok t k) (col 1 j)) := by
  have h := (index t).2.1
  refine Eq.trans ?_ (host1 m c (tok t k) j)
  unfold tok
  blk_ext [iblk, h.1, h.2]
theorem block2 (t : Fin cfg0.N) (k j : Fin 512) : iblk m c 2 t (ix2 k j) = lanes m c (ix2 (tok t k) (col 2 j)) := by
  have h := (index t).2.2.1
  refine Eq.trans ?_ (host2 m c (tok t k) j)
  unfold tok
  blk_ext [iblk, h.1, h.2]
theorem block3 (t : Fin cfg0.N) (k j : Fin 512) : iblk m c 3 t (ix2 k j) = lanes m c (ix2 (tok t k) (col 3 j)) := by
  have h := (index t).2.2.2.1
  refine Eq.trans ?_ (host3 m c (tok t k) j)
  unfold tok
  blk_ext [iblk, h.1, h.2]
theorem block4 (t : Fin cfg0.N) (k j : Fin 512) : iblk m c 4 t (ix2 k j) = lanes m c (ix2 (tok t k) (col 4 j)) := by
  have h := (index t).2.2.2.2.1
  refine Eq.trans ?_ (host4 m c (tok t k) j)
  unfold tok
  blk_ext [iblk, h.1, h.2]
theorem block5 (t : Fin cfg0.N) (k : Fin 512) (j : Fin 256) : iblk m c 5 t (ix2 k j) = lanes m c (ix2 (tok t k) (kv j)) := by
  have h := (index t).2.2.2.2.2.1
  refine Eq.trans ?_ ((congrFun (host5 m c) (ix2 (tok t k) j)).trans (pieces_apply _ _ _))
  unfold tok
  blk_ext [iblk, h.1, h.2]
theorem block6 (t : Fin cfg0.N) (k : Fin 512) (d : Fin 1024) : iblk m c 6 t (ix2 k d) = V m c main_arg1 (ix2 (tok t k) d) := by
  have h := (index t).2.2.2.2.2.2.1
  unfold tok
  blk_ext [iblk, h.1, h.2]

end Cert.WinIdeal.Sums
-- ==== Proof.WinValue.lean ====
module

public import proofs.«01_k».proof.Proof.WinBlocks
public import Idealize.ShloMosaic.Lib.Pointwise
public import Idealize.ShloMosaic.Lib.Pipeline.ValueKit
public import Idealize.ShloMosaic.Lib.Claim

/-! The gradient of the combined projection's weight: the sum the eight grid points leave. -/

@[expose] public section

set_option maxRecDepth 65536
set_option maxHeartbeats 1600000

noncomputable section

namespace Cert.WinIdeal.Sums
open Cert.WinIdeal.Gen Cert.WinIdeal.Value Cert.Spans Cert.Lanes
open Idealize.ShloMosaic Idealize.ShloMosaic.TcCoe Idealize.ShloMosaic.Tactic

variable (m : (ℓ : Loc nD τ sig) → Buf (Elt Ideal) ℓ) (c : Dev nD)

/-- What span `n` adds at an entry. -/
def span (n : ℕ) (y : S2816x1024.Idx) : EReal :=
  ∑ k, lanes m c (ix2 (tok n k) (y 0)) * V m c main_arg1 (ix2 (tok n k) (y 1))

/-- What a grid point adds is its span. -/
theorem gained (t : Fin cfg0.N) (w : Vec Ideal S2816x1024 .f32) :
    gain (fun k e => lanes m c (ix2 (tok t k) e)) (iblk m c 6 t) w = fun y => w y + span m c t y := by
  funext y
  exact congrArg (w y + ·) (Finset.sum_congr rfl fun k _ => congrArg (lanes m c (ix2 (tok t k) (y 0)) * ·) (block6 m c t k (y 1)))

/-- After a grid point the array holds the spans so far. -/
theorem spans (n : ℕ) (h : n < cfg0.N) : outsAt0 m c n h = fun y => ∑ s ∈ Finset.range (n + 1), span m c s y := by
  induction n with
  | zero =>
    refine (first m c ⟨0, h⟩ rfl).trans ((stored (fun k e => lanes m c (ix2 (tok 0 k) e)) _ _ _ _ _ _ _ _ _ (block0 m c ⟨0, h⟩)
      (block1 m c ⟨0, h⟩) (block2 m c ⟨0, h⟩) (block3 m c ⟨0, h⟩) (block4 m c ⟨0, h⟩) (block5 m c ⟨0, h⟩)).trans
      ((gained m c ⟨0, h⟩ _).trans (funext fun y => ?_)))
    rw [Finset.sum_range_one]
    have z : k0_pay2 (F := Ideal) y = 0 := by pointwise [k0_pay2]
    rw [z, zero_add]
  | succ n ih =>
    have h8 : n + 1 < 8 := lt_of_lt_of_eq h N_0
    refine (later m c ⟨n + 1, h⟩ (by show ¬ (n + 1) % 8 = 0; omega)).trans
      ((congrArg View.canon (List.append_nil _).symm).trans
      ((stored (fun k e => lanes m c (ix2 (tok (n + 1) k) e)) _ _ _ _ _ _ _ _ [] (block0 m c ⟨n + 1, h⟩) (block1 m c ⟨n + 1, h⟩)
      (block2 m c ⟨n + 1, h⟩) (block3 m c ⟨n + 1, h⟩) (block4 m c ⟨n + 1, h⟩) (block5 m c ⟨n + 1, h⟩)).trans
      ((gained m c ⟨n + 1, h⟩ _).trans (funext fun y => ?_))))
    rw [Finset.sum_range_succ]
    exact congrArg (· + span m c (n + 1) y) (congrFun (ih _) y)

/-- The product of two arrays over their tokens. -/
def over (u : Vec Ideal S4096x2816 .bf16) (x : Vec Ideal S4096x1024 .f32) : Vec Ideal S2816x1024 .f32 :=
  fun y => ∑ t, u (ix2 t (y 0)) * x (ix2 t (y 1))

theorem place (t : Fin cfg0.N) (y : S2816x1024.Idx) : (((cfg0.win 7).blk t).view.emb y : S2816x1024.Idx) = y := by
  have h := (index t).2.2.2.2.2.2.2
  blk_ext [h.1, h.2]

/-- The array after the run. -/
theorem final : (dats m 0 c).arrAt 7 cfg0.N = fun y : S2816x1024.Idx => over (lanes m c) (V m c main_arg1) y := by
  have all : ∀ t : Fin cfg0.N, t.val % 8 = 7 → outsAt0 m c t.val t.isLt = over (lanes m c) (V m c main_arg1) := fun t ht => by
    have h8 : t.val < 8 := lt_of_lt_of_eq t.isLt N_0
    refine (spans m c t.val t.isLt).trans (funext fun y => ?_)
    have e : t.val + 1 = 8 := by omega
    rw [e]
    have s := sum_spans (fun k => lanes m c (ix2 k (y 0)) * V m c main_arg1 (ix2 k (y 1))) 0
    simp only [Nat.mul_zero, Nat.zero_add] at s
    exact s
  generalize over (lanes m c) (V m c main_arg1) = G at all ⊢
  refine (dats m 0 c).arrAt_eq_of_covers 7 _ (by decide +kernel) fun t ht y => ?_
  rw [after0_7]
  have h := (congrFun (all t ((flush0_7 t).mp ht)) y).trans (congrArg G (place t y).symm)
  generalize outsAt0 m c t.val t.isLt = L at h ⊢
  exact h

end Cert.WinIdeal.Sums
-- ==== Proof.WinClaim.lean ====
module

public import proofs.«01_k».proof.Defs
public import proofs.«01_k».proof.Proof.WinValue
public import proofs.«01_k».proof.Proof.Gen.WinReferenceIdeal.Read

/-! The gradient of the combined projection's weight: the version's call and the reference's gradient hold the same
array. -/

@[expose] public section

set_option maxRecDepth 65536

noncomputable section

namespace Cert.WinIdeal.Sums

open Idealize.ShloMosaic Idealize.SL.Sem Cert.WinReferenceIdeal.Read

theorem frame_reference : Cert.quiescent_WinReferenceIdeal := fun m ρ _ =>
  (θ_run Cert.WinReferenceIdeal.defs _ _).mono
    (fun r h => ⟨fun c => (h c).2, sem_eq_zero_of_no_sems (by decide) r.2⟩)
    (Cert.WinReferenceIdeal.Value.run (F := Ideal) m ρ)

theorem reference_over (du : Vec Ideal S4096x2816 .bf16) (x : Vec Ideal S4096x1024 .f32) :
    val_main_v3 (F := Ideal) du x = over du x := by
  funext i
  rw [val_main_v3_apply, over]
  refine Finset.sum_congr rfl fun k _ => ?_
  rw [eq_ix2 (lidx_main_v3 i k), eq_ix2 (ridx_main_v3 i k)]
  rfl

set_option maxHeartbeats 1600000 in
theorem algebraic : Cert.algebraic_WinIdeal_WinReferenceIdeal := by
  intro m ρ m' ρ' _ hagree
  refine ⟨fun c => (Gen.dats m 0 c).arrAt 7 _, Value.run_blocks (F := Ideal) m ρ,
    (θ_run Cert.WinReferenceIdeal.defs _ _).mono (fun r h c => ?_) (Cert.WinReferenceIdeal.Value.run (F := Ideal) m' ρ')⟩
  obtain ⟨h0, h1⟩ := hagree c
  obtain ⟨e0, kept⟩ := h c
  refine ⟨e0.trans ((val_main_v3_eq _ _).trans ((reference_over _ _).trans ?_)), kept⟩
  rw [h0, h1, ← Gen.V_main_arg1 m c]
  exact (final m c).symm

end Cert.WinIdeal.Sums
-- ==== Proof.ProjValue.lean ====
module

public import proofs.«01_k».proof.Proof.Spans
public import proofs.«01_k».proof.Proof.Gen.ProjIdeal.Value
public import Idealize.ShloMosaic.Lib.Pointwise
public import Idealize.ShloMosaic.Lib.Pipeline.ValueKit
public import Idealize.ShloMosaic.Lib.Pipeline.ReadBack
public import Idealize.ShloMosaic.Lib.Claim

/-! The combined projection of the layer's input: eleven products of 256 lanes for each block of 512 tokens. -/

@[expose] public section

set_option maxRecDepth 65536
set_option maxHeartbeats 1600000

noncomputable section

namespace Cert.ProjIdeal.Sums
open Cert.ProjIdeal.Gen Cert.ProjIdeal.Value Cert.Spans
open Idealize.ShloMosaic Idealize.ShloMosaic.TcCoe Idealize.ShloMosaic.Tactic

/-- The lanes of a block of tokens. -/
def proj (x : Vec Ideal S512x1024 .f32) (w : Vec Ideal S2816x1024 .bf16) : Vec Ideal S512x2816 .bf16 :=
  fun y => ∑ d, x (ix2 (y 0) d) * w (ix2 (y 1) d)

/-- A store of 256 lanes from lane `o` that holds those lanes' products is a part of `proj`. -/
theorem part (x : Vec Ideal S512x1024 .f32) (w : Vec Ideal S2816x1024 .bf16) (o : ℕ)
    (inb : ∀ a, (![0, o] : Fin 2 → ℕ) a + S512x256.size a ≤ S512x2816.size a)
    (inb' : ∀ a, (![o, 0] : Fin 2 → ℕ) a + S256x1024.size a ≤ S2816x1024.size a) (P : Vec Ideal S512x256 .bf16)
    (hP : ∀ i j, P (ix2 i j) = ∑ d, x (ix2 i d) * View.ld w (Rect.unit (s := S2816x1024) ![o, 0] S256x1024.size inb') (ix2 j d))
    (y : S512x256.Idx) : P y = proj x w ((Rect.unit (s := S512x2816) ![0, o] S512x256.size inb).emb y) := by
  refine (congrArg P (eq_ix2 y)).trans ((hP (y 0) (y 1)).trans ?_)
  have ho : o + 256 ≤ 2816 := inb' 0
  have hy : (y 1).val < 256 := (y 1).isLt
  have e : (Rect.unit (s := S512x2816) ![0, o] S512x256.size inb).emb y
      = (ix2 (y 0 : Fin 512) (⟨o + (y 1).val, by omega⟩ : Fin 2816) : S512x2816.Idx) := by
    blk_ext []
  rw [e]
  refine Finset.sum_congr rfl fun d _ => congrArg (x (ix2 (y 0) d) * ·) ?_
  exact View.ld_unit_apply_of _ _ _ _ _ _ (Fin.forall_fin_two.mpr ⟨rfl, (Nat.zero_add _).symm⟩)

section
variable (x : Vec Ideal S512x1024 .f32) (b : Vec Ideal S256x1024 .bf16) (i : Fin 512) (j : Fin 256)

theorem lanes0 : k0_pay8 (F := Ideal) x b (ix2 i j) = ∑ d, x (ix2 i d) * b (ix2 j d) := by
  pointwise [k0_pay8, k0_pay7]
theorem lanes1 : k0_pay9 (F := Ideal) x b (ix2 i j) = ∑ d, x (ix2 i d) * b (ix2 j d) := by
  pointwise [k0_pay9, k0_pay7]
theorem lanes2 : k0_pay10 (F := Ideal) x b (ix2 i j) = ∑ d, x (ix2 i d) * b (ix2 j d) := by
  pointwise [k0_pay10, k0_pay7]
theorem lanes3 : k0_pay11 (F := Ideal) x b (ix2 i j) = ∑ d, x (ix2 i d) * b (ix2 j d) := by
  pointwise [k0_pay11, k0_pay7]
theorem lanes4 : k0_pay12 (F := Ideal) x b (ix2 i j) = ∑ d, x (ix2 i d) * b (ix2 j d) := by
  pointwise [k0_pay12, k0_pay7]
theorem lanes5 : k0_pay1 (F := Ideal) (k0_pay13 x b) (ix2 i j) = ∑ d, x (ix2 i d) * b (ix2 j d) := by
  pointwise [k0_pay1, k0_pay13, k0_pay7]
theorem lanes6 : k0_pay2 (F := Ideal) (k0_pay7 x) b (ix2 i j) = ∑ d, x (ix2 i d) * b (ix2 j d) := by
  pointwise [k0_pay2, k0_pay7]
theorem lanes7 : k0_pay3 (F := Ideal) (k0_pay7 x) b (ix2 i j) = ∑ d, x (ix2 i d) * b (ix2 j d) := by
  pointwise [k0_pay3, k0_pay7]
theorem lanes8 : k0_pay4 (F := Ideal) (k0_pay7 x) b (ix2 i j) = ∑ d, x (ix2 i d) * b (ix2 j d) := by
  pointwise [k0_pay4, k0_pay7]
theorem lanes9 : k0_pay5 (F := Ideal) (k0_pay7 x) b (ix2 i j) = ∑ d, x (ix2 i d) * b (ix2 j d) := by
  pointwise [k0_pay5, k0_pay7]
theorem lanes10 : k0_pay6 (F := Ideal) (k0_pay7 x) b (ix2 i j) = ∑ d, x (ix2 i d) * b (ix2 j d) := by
  pointwise [k0_pay6, k0_pay7]
end

theorem zeros : (![0, 0] : Fin 2 → ℕ) = fun _ => 0 := by decide

/-- What the stores of a grid point leave. -/
theorem stored (x : Vec Ideal S512x1024 .f32) (w : Vec Ideal S2816x1024 .bf16) : out0_2 x w = proj x w := by
  have e : View.ld x r0_0 = x := View.ld_unit_zero zeros _ _
  funext y
  unfold out0_2 k0_pay14
  simp only [e]
  rw [← List.append_nil (_ :: _)]
  refine View.canon_append_of_piecesOf (proj x w) [] _ ?_ y (cover0_2 _ _ _ _ _ _ _ _ _ _ _ y)
  refine ⟨?_, ?_, ?_, ?_, ?_, ?_, ?_, ?_, ?_, ?_, ?_, trivial⟩
  · exact part x w 2560 inb_S512x2816_S512x256_0_2560 inb_S2816x1024_S256x1024_2560_0 _ fun i j => lanes10 ..
  · exact part x w 2304 inb_S512x2816_S512x256_0_2304 inb_S2816x1024_S256x1024_2304_0 _ fun i j => lanes9 ..
  · exact part x w 2048 inb_S512x2816_S512x256_0_2048 inb_S2816x1024_S256x1024_2048_0 _ fun i j => lanes8 ..
  · exact part x w 1792 inb_S512x2816_S512x256_0_1792 inb_S2816x1024_S256x1024_1792_0 _ fun i j => lanes7 ..
  · exact part x w 1536 inb_S512x2816_S512x256_0_1536 inb_S2816x1024_S256x1024_1536_0 _ fun i j => lanes6 ..
  · exact part x w 1280 inb_S512x2816_S512x256_0_1280 inb_S2816x1024_S256x1024_1280_0 _ fun i j => lanes5 ..
  · exact part x w 1024 inb_S512x2816_S512x256_0_1024 inb_S2816x1024_S256x1024_1024_0 _ fun i j => lanes4 ..
  · exact part x w 768 inb_S512x2816_S512x256_0_768 inb_S2816x1024_S256x1024_768_0 _ fun i j => lanes3 ..
  · exact part x w 512 inb_S512x2816_S512x256_0_512 inb_S2816x1024_S256x1024_512_0 _ fun i j => lanes2 ..
  · exact part x w 256 inb_S512x2816_S512x256_0_256 inb_S2816x1024_S256x1024_256_0 _ fun i j => lanes1 ..
  · exact part x w 0 inb_S512x2816_S512x256_0_0 inb_S2816x1024_S256x1024_0_0 _ fun i j => lanes0 ..

variable (m : (ℓ : Loc nD τ sig) → Buf (Elt Ideal) ℓ) (c : Dev nD)

theorem index : ∀ t : Fin cfg0.N, ((cfg0.win 0).index t 0 = t.val % 8 ∧ (cfg0.win 0).index t 1 = 0)
    ∧ ((cfg0.win 1).index t 0 = 0 ∧ (cfg0.win 1).index t 1 = 0)
    ∧ ((cfg0.win 2).index t 0 = t.val % 8 ∧ (cfg0.win 2).index t 1 = 0) := by decide +kernel

theorem block0 (t : Fin cfg0.N) (i : Fin 512) (d : Fin 1024) : iblk m c 0 t (ix2 i d) = V m c main_arg0 (ix2 (tok t i) d) := by
  have h := (index t).1
  unfold tok
  blk_ext [iblk, h.1, h.2]
theorem block1 (t : Fin cfg0.N) (e : Fin 2816) (d : Fin 1024) : iblk m c 1 t (ix2 e d) = V m c main_arg1 (ix2 e d) := by
  have h := (index t).2.1
  blk_ext [iblk, h.1, h.2]

/-- The projection of every token. -/
def through (x : Vec Ideal S4096x1024 .f32) (w : Vec Ideal S2816x1024 .bf16) : Vec Ideal S4096x2816 .bf16 :=
  fun y => ∑ d, x (ix2 (y 0) d) * w (ix2 (y 1) d)

/-- An entry of the array a grid point leaves. -/
theorem left (t : Fin cfg0.N) (y : S512x2816.Idx) : out0_2 (iblk m c 0 t) (iblk m c 1 t) y
    = through (V m c main_arg0) (V m c main_arg1) (ix2 (tok t (y 0)) (y 1)) := by
  rw [stored]
  exact Finset.sum_congr rfl fun d _ => congrArg₂ (· * ·) (block0 m c t (y 0) d) (block1 m c t (y 1) d)

theorem place (t : Fin cfg0.N) (y : S512x2816.Idx) :
    (((cfg0.win 2).blk t).view.emb y : S4096x2816.Idx) = ix2 (tok t (y 0)) (y 1) := by
  have h := (index t).2.2
  unfold tok
  blk_ext [h.1, h.2]

/-- The array after the run. -/
theorem final : (dats m 0 c).arrAt 2 cfg0.N = fun y : S4096x2816.Idx => through (V m c main_arg0) (V m c main_arg1) y := by
  have left := left m c
  generalize through (V m c main_arg0) (V m c main_arg1) = G at left ⊢
  refine (dats m 0 c).arrAt_eq_of_covers 2 _ (by decide +kernel) fun t _ y => ?_
  rw [after0_2]
  have h := (left t y).trans (congrArg G (place t y).symm)
  generalize out0_2 (iblk m c 0 t) (iblk m c 1 t) = L at h ⊢
  exact h

end Cert.ProjIdeal.Sums
-- ==== Proof.ProjClaim.lean ====
module

public import proofs.«01_k».proof.Defs
public import proofs.«01_k».proof.Proof.ProjValue
public import proofs.«01_k».proof.Proof.Gen.ProjReferenceIdeal.Read

/-! The combined projection: the version's call and the reference's product hold the same array. -/

@[expose] public section

set_option maxRecDepth 65536

noncomputable section

namespace Cert.ProjIdeal.Sums

open Idealize.ShloMosaic Idealize.SL.Sem Cert.ProjReferenceIdeal.Read

theorem frame_reference : Cert.quiescent_ProjReferenceIdeal := fun m ρ _ =>
  (θ_run Cert.ProjReferenceIdeal.defs _ _).mono
    (fun r h => ⟨fun c => (h c).2, sem_eq_zero_of_no_sems (by decide) r.2⟩)
    (Cert.ProjReferenceIdeal.Value.run (F := Ideal) m ρ)

theorem reference_through (x : Vec Ideal S4096x1024 .f32) (w : Vec Ideal S2816x1024 .bf16) :
    val_main_v2 (F := Ideal) x w = through x w := by
  funext i
  rw [val_main_v2_apply, val_main_v1_apply, through]
  refine Finset.sum_congr rfl fun k _ => ?_
  rw [eq_ix2 (lidx_main_v1 i k), eq_ix2 (ridx_main_v1 i k)]
  rfl

set_option maxHeartbeats 1600000 in
theorem algebraic : Cert.algebraic_ProjIdeal_ProjReferenceIdeal := by
  intro m ρ m' ρ' _ hagree
  refine ⟨fun c => (Gen.dats m 0 c).arrAt 2 _, Value.run_blocks (F := Ideal) m ρ,
    (θ_run Cert.ProjReferenceIdeal.defs _ _).mono (fun r h c => ?_) (Cert.ProjReferenceIdeal.Value.run (F := Ideal) m' ρ')⟩
  obtain ⟨h0, h1⟩ := hagree c
  obtain ⟨e0, kept⟩ := h c
  refine ⟨e0.trans ((val_main_v2_eq _ _).trans ((reference_through _ _).trans ?_)), kept⟩
  rw [h0, h1, ← Gen.V_main_arg0 m c, ← Gen.V_main_arg1 m c]
  exact (final m c).symm

end Cert.ProjIdeal.Sums
-- ==== Proof.MiscPoint.lean ====
module

public import proofs.«01_k».proof.Proof.Spans
public import proofs.«01_k».proof.Proof.Gen.MiscIdeal.Value
public import Idealize.ShloMosaic.Lib.Pointwise
public import Idealize.ShloMosaic.Lib.Pipeline.ValueKit
public import Idealize.ShloMosaic.Lib.Pipeline.ReadBack
public import Idealize.ShloMosaic.Lib.Pipeline.CanonAppend

/-! The gradients of the output projection's, the embedding gate's and the embedding projection's weights at one grid
point: the stores that add 512 tokens' products to each. -/

@[expose] public section

set_option maxRecDepth 65536
set_option maxHeartbeats 1600000

noncomputable section

namespace Cert.MiscIdeal.Sums
open Cert.MiscIdeal.Gen Cert.MiscIdeal.Value
open Idealize.ShloMosaic Idealize.ShloMosaic.TcCoe Idealize.ShloMosaic.Tactic

theorem zeros : (![0, 0] : Fin 2 → ℕ) = fun _ => 0 := by decide

/-- Lane `j` of the retention's output among both mixers' lanes. -/
def ret (j : Fin 512) : Fin 1024 := ⟨j, by omega⟩
/-- Lane `j` of the attention's output among both mixers' lanes. -/
def att (j : Fin 512) : Fin 1024 := ⟨512 + j, by omega⟩
/-- Column `d` of shard `s`. -/
def shard (s : Fin 4) (d : Fin 256) : Fin 1024 := ⟨256 * s + d, by omega⟩

/-! The output projection's weight. -/

/-- Row `e` gains the products of lane `e` with the gradient's rows. -/
def gainOut (u : Fin 512 → Fin 1024 → EReal) (z : Vec Ideal S512x1024 .f32) (w : Vec Ideal S1024x1024 .f32) :
    Vec Ideal S1024x1024 .f32 := fun y => w y + ∑ k, u k (y 0) * z (ix2 k (y 1))

theorem rowOut (w : Vec Ideal S1024x1024 .f32) (o : ℕ)
    (inb : ∀ a, (![o, 0] : Fin 2 → ℕ) a + (![512, 1024] : Fin 2 → ℕ) a ≤ S1024x1024.size a)
    (j : Fin 512) (d l : Fin 1024) (hl : l.val = o + j.val) :
    View.ld w (Rect.unit (s := S1024x1024) ![o, 0] ![512, 1024] inb) (ix2 j d) = w (ix2 l d) :=
  View.ld_unit_apply_of _ _ _ _ _ _ (Fin.forall_fin_two.mpr ⟨hl, (Nat.zero_add _).symm⟩)

theorem partOut (u : Fin 512 → Fin 1024 → EReal) (z : Vec Ideal S512x1024 .f32) (w : Vec Ideal S1024x1024 .f32) (o : ℕ)
    (inb : ∀ a, (![o, 0] : Fin 2 → ℕ) a + (![512, 1024] : Fin 2 → ℕ) a ≤ S1024x1024.size a)
    (l : Fin 512 → Fin 1024) (hl : ∀ j, (l j).val = o + j.val) (P : Vec Ideal S512x1024 .f32)
    (hP : ∀ j d, P (ix2 j d) = View.ld w (Rect.unit (s := S1024x1024) ![o, 0] ![512, 1024] inb) (ix2 j d)
      + ∑ k, u k (l j) * z (ix2 k d)) (y : S512x1024.Idx) :
    P y = gainOut u z w ((Rect.unit (s := S1024x1024) ![o, 0] ![512, 1024] inb).emb y) := by
  refine (congrArg P (eq_ix2 y)).trans ((hP (y 0) (y 1)).trans ?_)
  rw [rowOut w o inb (y 0) (y 1) (l (y 0)) (hl _)]
  refine Eq.trans ?_ (congrArg (View.ld (gainOut u z w) (Rect.unit (s := S1024x1024) ![o, 0] ![512, 1024] inb)) (eq_ix2 y)).symm
  exact (rowOut (gainOut u z w) o inb (y 0) (y 1) (l (y 0)) (hl _)).symm

theorem addRet (z o : Vec Ideal S512x1024 .f32) (a : Vec Ideal S512x512 .bf16) (j : Fin 512) (d : Fin 1024) :
    k0_pay5 (F := Ideal) z o a (ix2 j d) = o (ix2 j d) + ∑ k, a (ix2 k j) * z (ix2 k d) := by
  pointwise [k0_pay5, k0_pay4]
theorem addAtt (z o : Vec Ideal S512x1024 .f32) (a : Vec Ideal S512x512 .bf16) (j : Fin 512) (d : Fin 1024) :
    k0_pay6 (F := Ideal) z o a (ix2 j d) = o (ix2 j d) + ∑ k, a (ix2 k j) * z (ix2 k d) := by
  pointwise [k0_pay6, k0_pay4]

def storesOut (a b : Vec Ideal S512x512 .bf16) (z : Vec Ideal S512x1024 .f32) (w : Vec Ideal S1024x1024 .f32) :
    List (View.Piece (Elt Ideal) S1024x1024 .f32) :=
  [⟨Rect.unit ![512, 0] ![512, 1024] inb_S1024x1024_S512x1024_512_0,
      k0_pay6 z (View.ld w (Rect.unit ![512, 0] ![512, 1024] inb_S1024x1024_S512x1024_512_0)) b⟩,
    ⟨Rect.unit ![0, 0] ![512, 1024] inb_S1024x1024_S512x1024_0_0,
      k0_pay5 z (View.ld w (Rect.unit ![0, 0] ![512, 1024] inb_S1024x1024_S512x1024_0_0)) a⟩]

theorem storedOut (u : Fin 512 → Fin 1024 → EReal) (a b : Vec Ideal S512x512 .bf16) (z : Vec Ideal S512x1024 .f32)
    (w : Vec Ideal S1024x1024 .f32) (L : List (View.Piece (Elt Ideal) S1024x1024 .f32))
    (h0 : ∀ k j, a (ix2 k j) = u k (ret j)) (h1 : ∀ k j, b (ix2 k j) = u k (att j)) :
    View.canon (storesOut a b z w ++ L) = gainOut u z w := by
  funext y
  refine View.canon_append_of_piecesOf (gainOut u z w) L (storesOut a b z w) ?_ y
    (View.cover_of_tiledBy (storesOut a b z w) ![512, 1024] (by sl_kernel_rfl) y)
  refine ⟨?_, ?_, trivial⟩
  · refine partOut u z w 512 inb_S1024x1024_S512x1024_512_0 att (fun _ => rfl) _ fun j d => ?_
    refine (addAtt ..).trans ?_; simp only [h1]
  · refine partOut u z w 0 inb_S1024x1024_S512x1024_0_0 ret (fun _ => (Nat.zero_add _).symm) _ fun j d => ?_
    refine (addRet ..).trans ?_; simp only [h0]

/-! The embedding gate's weight. -/

def gainGate (a b : Vec Ideal S512x1024 .bf16) (w : Vec Ideal S1024x1024 .f32) : Vec Ideal S1024x1024 .f32 :=
  fun y => w y + ∑ k, a (ix2 k (y 0)) * b (ix2 k (y 1))

theorem addGate (w : Vec Ideal S1024x1024 .f32) (a b : Vec Ideal S512x1024 .bf16) :
    k0_pay7 (F := Ideal) w a b = gainGate a b w := by
  funext y
  refine (congrArg (k0_pay7 (F := Ideal) w a b) (eq_ix2 y)).trans (Eq.trans ?_ (congrArg (gainGate a b w) (eq_ix2 y)).symm)
  generalize y 0 = i
  generalize y 1 = j
  show k0_pay7 (F := Ideal) w a b (ix2 (i : Fin 1024) (j : Fin 1024)) = w (ix2 (i : Fin 1024) (j : Fin 1024)) + ∑ k, a (ix2 k i) * b (ix2 k j)
  pointwise [k0_pay7]

/-! The embedding projection's weight, by column shards. -/

def gainEmb (p : Vec Ideal S512x256 .f32) (b : Vec Ideal S512x1024 .bf16) (w : Vec Ideal S4x256x256 .f32) :
    Vec Ideal S4x256x256 .f32 := fun y => w y + ∑ k, p (ix2 k (y 1)) * b (ix2 k (shard (y 0) (y 2)))

theorem rowEmb (w : Vec Ideal S4x256x256 .f32) (o : ℕ)
    (inb : ∀ a, (![o, 0, 0] : Fin 3 → ℕ) a + (![1, 256, 256] : Fin 3 → ℕ) a ≤ S4x256x256.size a)
    (i : Fin 1) (r d : Fin 256) (s : Fin 4) (hs : s.val = o) :
    View.ld w (Rect.unit (s := S4x256x256) ![o, 0, 0] ![1, 256, 256] inb) (ix3 i r d) = w (ix3 s r d) :=
  View.ld_unit_apply_of _ _ _ _ _ _ (fun a => by
    have hi : i.val = 0 := by omega
    fin_cases a
    · show s.val = o + i.val; omega
    · exact (Nat.zero_add _).symm
    · exact (Nat.zero_add _).symm)

theorem partEmb (p : Vec Ideal S512x256 .f32) (b : Vec Ideal S512x1024 .bf16) (w : Vec Ideal S4x256x256 .f32) (o : ℕ)
    (inb : ∀ a, (![o, 0, 0] : Fin 3 → ℕ) a + (![1, 256, 256] : Fin 3 → ℕ) a ≤ S4x256x256.size a)
    (s : Fin 4) (hs : s.val = o) (P : Vec Ideal S1x256x256 .f32)
    (hP : ∀ i r d, P (ix3 i r d) = View.ld w (Rect.unit (s := S4x256x256) ![o, 0, 0] ![1, 256, 256] inb) (ix3 i r d)
      + ∑ k, p (ix2 k r) * b (ix2 k (shard s d))) (y : S1x256x256.Idx) :
    P y = gainEmb p b w ((Rect.unit (s := S4x256x256) ![o, 0, 0] ![1, 256, 256] inb).emb y) := by
  refine (congrArg P (eq_ix3 y)).trans ((hP (y 0) (y 1) (y 2)).trans ?_)
  rw [rowEmb w o inb (y 0) (y 1) (y 2) s hs]
  refine Eq.trans ?_ (congrArg (View.ld (gainEmb p b w) (Rect.unit (s := S4x256x256) ![o, 0, 0] ![1, 256, 256] inb)) (eq_ix3 y)).symm
  exact (rowEmb (gainEmb p b w) o inb (y 0) (y 1) (y 2) s hs).symm

section
variable (p : Vec Ideal S512x256 .f32) (b : Vec Ideal S512x1024 .bf16) (q : Vec Ideal S1x256x256 .f32) (i : Fin 1) (r d : Fin 256)

theorem emb0 : k0_pay10 (F := Ideal) (k0_pay8 p) b q (ix3 i r d) = q (ix3 i r d) + ∑ k, p (ix2 k r) * b (ix2 k (shard 0 d)) := by
  obtain rfl : i = 0 := Subsingleton.elim _ _
  pointwise [k0_pay10, k0_pay9, k0_pay8, shard]
theorem emb1 : k0_pay11 (F := Ideal) (k0_pay8 p) b q (ix3 i r d) = q (ix3 i r d) + ∑ k, p (ix2 k r) * b (ix2 k (shard 1 d)) := by
  obtain rfl : i = 0 := Subsingleton.elim _ _
  pointwise [k0_pay11, k0_pay9, k0_pay8, shard]
theorem emb2 : k0_pay12 (F := Ideal) (k0_pay8 p) b q (ix3 i r d) = q (ix3 i r d) + ∑ k, p (ix2 k r) * b (ix2 k (shard 2 d)) := by
  obtain rfl : i = 0 := Subsingleton.elim _ _
  pointwise [k0_pay12, k0_pay9, k0_pay8, shard]
theorem emb3 : k0_pay13 (F := Ideal) (k0_pay8 p) b q (ix3 i r d) = q (ix3 i r d) + ∑ k, p (ix2 k r) * b (ix2 k (shard 3 d)) := by
  obtain rfl : i = 0 := Subsingleton.elim _ _
  pointwise [k0_pay13, k0_pay9, k0_pay8, shard]
end

def storesEmb (p : Vec Ideal S512x256 .f32) (b : Vec Ideal S512x1024 .bf16) (w : Vec Ideal S4x256x256 .f32) :
    List (View.Piece (Elt Ideal) S4x256x256 .f32) :=
  [⟨Rect.unit ![3, 0, 0] ![1, 256, 256] inb_S4x256x256_S1x256x256_3_0_0,
      k0_pay13 (k0_pay8 p) b (View.ld w (Rect.unit ![3, 0, 0] ![1, 256, 256] inb_S4x256x256_S1x256x256_3_0_0))⟩,
    ⟨Rect.unit ![2, 0, 0] ![1, 256, 256] inb_S4x256x256_S1x256x256_2_0_0,
      k0_pay12 (k0_pay8 p) b (View.ld w (Rect.unit ![2, 0, 0] ![1, 256, 256] inb_S4x256x256_S1x256x256_2_0_0))⟩,
    ⟨Rect.unit ![1, 0, 0] ![1, 256, 256] inb_S4x256x256_S1x256x256_1_0_0,
      k0_pay11 (k0_pay8 p) b (View.ld w (Rect.unit ![1, 0, 0] ![1, 256, 256] inb_S4x256x256_S1x256x256_1_0_0))⟩,
    ⟨Rect.unit ![0, 0, 0] ![1, 256, 256] inb_S4x256x256_S1x256x256_0_0_0,
      k0_pay10 (k0_pay8 p) b (View.ld w (Rect.unit ![0, 0, 0] ![1, 256, 256] inb_S4x256x256_S1x256x256_0_0_0))⟩]

theorem storedEmb (p : Vec Ideal S512x256 .f32) (b : Vec Ideal S512x1024 .bf16) (w : Vec Ideal S4x256x256 .f32)
    (L : List (View.Piece (Elt Ideal) S4x256x256 .f32)) : View.canon (storesEmb p b w ++ L) = gainEmb p b w := by
  funext y
  refine View.canon_append_of_piecesOf (gainEmb p b w) L (storesEmb p b w) ?_ y
    (View.cover_of_tiledBy (storesEmb p b w) ![1, 256, 256] (by sl_kernel_rfl) y)
  refine ⟨?_, ?_, ?_, ?_, trivial⟩
  · exact partEmb p b w 3 inb_S4x256x256_S1x256x256_3_0_0 3 rfl _ fun i r d => emb3 ..
  · exact partEmb p b w 2 inb_S4x256x256_S1x256x256_2_0_0 2 rfl _ fun i r d => emb2 ..
  · exact partEmb p b w 1 inb_S4x256x256_S1x256x256_1_0_0 1 rfl _ fun i r d => emb1 ..
  · exact partEmb p b w 0 inb_S4x256x256_S1x256x256_0_0_0 0 rfl _ fun i r d => emb0 ..

end Cert.MiscIdeal.Sums
-- ==== Proof.MiscRuns.lean ====
module

public import proofs.«01_k».proof.Proof.MiscPoint

/-! What the first grid point and a later one leave of the three weights' gradients, as their stores. -/

@[expose] public section

set_option maxRecDepth 65536
set_option maxHeartbeats 1600000

noncomputable section

namespace Cert.MiscIdeal.Sums
open Cert.MiscIdeal.Gen Cert.MiscIdeal.Value
open Idealize.ShloMosaic Idealize.ShloMosaic.TcCoe Idealize.ShloMosaic.Tactic

variable (m : (ℓ : Loc nD τ sig) → Buf (Elt Ideal) ℓ) (c : Dev nD)

/-- The stores over given arrays, and over given earlier stores. -/
def stores (t : Fin cfg0.N) (w : Vec Ideal S1024x1024 .f32 × Vec Ideal S1024x1024 .f32 × Vec Ideal S4x256x256 .f32)
    (L : List (View.Piece (Elt Ideal) S1024x1024 .f32)) (L' : List (View.Piece (Elt Ideal) S4x256x256 .f32)) :
    Vec Ideal S1024x1024 .f32 × Vec Ideal S1024x1024 .f32 × Vec Ideal S4x256x256 .f32 :=
  (View.canon (storesOut (iblk m c 0 t) (iblk m c 1 t) (iblk m c 2 t) w.1 ++ L),
    k0_pay7 w.2.1 (iblk m c 3 t) (iblk m c 4 t),
    View.canon (storesEmb (iblk m c 5 t) (iblk m c 6 t) w.2.2 ++ L'))

theorem later (t : Fin cfg0.N) (h0 : ¬ t.val % 8 = 0) : outsAt0 m c t.val t.isLt
    = stores m c t (outsAt0 m c (t.val - 1) (Nat.lt_of_le_of_lt (Nat.sub_le _ _) t.isLt)) [] [] := by
  rw [outsAt0_B m c t h0]
  unfold out0_B_7 out0_B_8 out0_B_9
  rw [View.read_writes_junk_eq_canon, View.read_writes_junk_eq_canon, View.read_writes_junk_eq_canon]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread]
  rw [View.canon_unit_zero zeros]
  repeat rw [View.ld_unit_zero zeros]
  rfl

theorem first (t : Fin cfg0.N) (h0 : t.val % 8 = 0) : outsAt0 m c t.val t.isLt
    = stores m c t (k0_pay1 (F := Ideal), k0_pay2 (F := Ideal), k0_pay3 (F := Ideal))
      [⟨Rect.unit ![0, 0] S1024x1024.size inb_S1024x1024_S1024x1024_0_0, k0_pay1 (F := Ideal)⟩]
      [⟨Rect.unit ![0, 0, 0] S4x256x256.size inb_S4x256x256_S4x256x256_0_0_0, k0_pay3 (F := Ideal)⟩] := by
  rw [outsAt0_A m c t h0]
  unfold out0_A_7 out0_A_8 out0_A_9
  rw [View.read_writes_junk_eq_canon, View.read_writes_junk_eq_canon, View.read_writes_junk_eq_canon]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread]
  rw [View.canon_cons_unit_zero zeros]
  simp (disch := decide) only [↓View.readCov_skip, View.readCov_fill]
  repeat rw [View.ld_unit_zero zeros]
  rfl

end Cert.MiscIdeal.Sums
-- ==== Proof.MiscValue.lean ====
module

public import proofs.«01_k».proof.Proof.MiscRuns

/-! The gradients of the output projection's, the embedding gate's and the embedding projection's weights: the sums the
eight grid points leave. -/

@[expose] public section

set_option maxRecDepth 65536
set_option maxHeartbeats 1600000

noncomputable section

namespace Cert.MiscIdeal.Sums
open Cert.MiscIdeal.Gen Cert.MiscIdeal.Value Cert.Spans
open Idealize.ShloMosaic Idealize.ShloMosaic.TcCoe Idealize.ShloMosaic.Tactic

variable (m : (ℓ : Loc nD τ sig) → Buf (Elt Ideal) ℓ) (c : Dev nD)

theorem index : ∀ t : Fin cfg0.N, ((cfg0.win 0).index t 0 = t.val % 8 ∧ (cfg0.win 0).index t 1 = 0)
    ∧ ((cfg0.win 1).index t 0 = t.val % 8 ∧ (cfg0.win 1).index t 1 = 0)
    ∧ ((cfg0.win 2).index t 0 = t.val % 8 ∧ (cfg0.win 2).index t 1 = 0)
    ∧ ((cfg0.win 3).index t 0 = t.val % 8 ∧ (cfg0.win 3).index t 1 = 0)
    ∧ ((cfg0.win 4).index t 0 = t.val % 8 ∧ (cfg0.win 4).index t 1 = 0)
    ∧ ((cfg0.win 5).index t 0 = t.val % 8 ∧ (cfg0.win 5).index t 1 = 0)
    ∧ ((cfg0.win 6).index t 0 = t.val % 8 ∧ (cfg0.win 6).index t 1 = 0) := by decide +kernel

theorem index7 : ∀ t : Fin cfg0.N, (cfg0.win 7).index t 0 = 0 ∧ (cfg0.win 7).index t 1 = 0 := by decide +kernel
theorem index8 : ∀ t : Fin cfg0.N, (cfg0.win 8).index t 0 = 0 ∧ (cfg0.win 8).index t 1 = 0 := by decide +kernel
theorem index9 : ∀ t : Fin cfg0.N, (cfg0.win 9).index t 0 = 0 ∧ (cfg0.win 9).index t 1 = 0 ∧ (cfg0.win 9).index t 2 = 0 := by
  decide +kernel

theorem block0 (t : Fin cfg0.N) (k j : Fin 512) : iblk m c 0 t (ix2 k j) = V m c main_arg0 (ix2 (tok t k) j) := by
  have h := (index t).1
  unfold tok
  blk_ext [iblk, h.1, h.2]
theorem block1 (t : Fin cfg0.N) (k j : Fin 512) : iblk m c 1 t (ix2 k j) = V m c main_arg1 (ix2 (tok t k) j) := by
  have h := (index t).2.1
  unfold tok
  blk_ext [iblk, h.1, h.2]
theorem block2 (t : Fin cfg0.N) (k : Fin 512) (d : Fin 1024) : iblk m c 2 t (ix2 k d) = V m c main_arg2 (ix2 (tok t k) d) := by
  have h := (index t).2.2.1
  unfold tok
  blk_ext [iblk, h.1, h.2]
theorem block3 (t : Fin cfg0.N) (k : Fin 512) (d : Fin 1024) : iblk m c 3 t (ix2 k d) = V m c main_arg3 (ix2 (tok t k) d) := by
  have h := (index t).2.2.2.1
  unfold tok
  blk_ext [iblk, h.1, h.2]
theorem block4 (t : Fin cfg0.N) (k : Fin 512) (d : Fin 1024) : iblk m c 4 t (ix2 k d) = V m c main_arg4 (ix2 (tok t k) d) := by
  have h := (index t).2.2.2.2.1
  unfold tok
  blk_ext [iblk, h.1, h.2]
theorem block5 (t : Fin cfg0.N) (k : Fin 512) (d : Fin 256) : iblk m c 5 t (ix2 k d) = V m c main_arg5 (ix2 (tok t k) d) := by
  have h := (index t).2.2.2.2.2.1
  unfold tok
  blk_ext [iblk, h.1, h.2]
theorem block6 (t : Fin cfg0.N) (k : Fin 512) (d : Fin 1024) : iblk m c 6 t (ix2 k d) = V m c main_arg6 (ix2 (tok t k) d) := by
  have h := (index t).2.2.2.2.2.2
  unfold tok
  blk_ext [iblk, h.1, h.2]

/-- Both mixers' outputs side by side. -/
def mixed (a b : Vec Ideal S4096x512 .bf16) (t : Fin 4096) (e : Fin 1024) : EReal :=
  if h : e.val < 512 then a (ix2 t (⟨e, h⟩ : Fin 512)) else b (ix2 t (⟨e.val - 512, by omega⟩ : Fin 512))

theorem mixed_ret (a b : Vec Ideal S4096x512 .bf16) (t : Fin 4096) (j : Fin 512) : mixed a b t (ret j) = a (ix2 t j) :=
  dif_pos j.isLt

theorem mixed_att (a b : Vec Ideal S4096x512 .bf16) (t : Fin 4096) (j : Fin 512) : mixed a b t (att j) = b (ix2 t j) := by
  have h : ¬ (att j).val < 512 := by unfold att; dsimp only; omega
  refine (dif_neg h).trans (congrArg (fun l : Fin 512 => b (ix2 t l)) (Fin.ext ?_))
  unfold att
  dsimp only
  omega

/-! The three sums over the tokens, term by term. -/

def termOut (a b : Vec Ideal S4096x512 .bf16) (z : Vec Ideal S4096x1024 .f32) (y : S1024x1024.Idx) (t : Fin 4096) : EReal :=
  mixed a b t (y 0) * z (ix2 t (y 1))
def termGate (h s : Vec Ideal S4096x1024 .bf16) (y : S1024x1024.Idx) (t : Fin 4096) : EReal :=
  h (ix2 t (y 0)) * s (ix2 t (y 1))
def termEmb (p : Vec Ideal S4096x256 .f32) (g : Vec Ideal S4096x1024 .bf16) (y : S4x256x256.Idx) (t : Fin 4096) : EReal :=
  p (ix2 t (y 1)) * g (ix2 t (shard (y 0) (y 2)))

def out (y : S1024x1024.Idx) : Fin 4096 → EReal := termOut (V m c main_arg0) (V m c main_arg1) (V m c main_arg2) y
def gate (y : S1024x1024.Idx) : Fin 4096 → EReal := termGate (V m c main_arg3) (V m c main_arg4) y
def emb (y : S4x256x256.Idx) : Fin 4096 → EReal := termEmb (V m c main_arg5) (V m c main_arg6) y

/-- What a grid point's stores leave, whatever they are made over. -/
theorem gained (t : Fin cfg0.N) (w L L') : stores m c t w L L' = (fun y => w.1 y + ∑ k, out m c y (tok t k),
    fun y => w.2.1 y + ∑ k, gate m c y (tok t k), fun y => w.2.2 y + ∑ k, emb m c y (tok t k)) := by
  unfold stores
  rw [storedOut (fun k e => mixed (V m c main_arg0) (V m c main_arg1) (tok t k) e) _ _ _ _ _
    (fun k j => (block0 m c t k j).trans (mixed_ret _ _ _ _).symm) (fun k j => (block1 m c t k j).trans (mixed_att _ _ _ _).symm),
    addGate, storedEmb]
  refine Prod.ext (funext fun y => ?_) (Prod.ext (funext fun y => ?_) (funext fun y => ?_))
  · exact congrArg (w.1 y + ·) (Finset.sum_congr rfl fun k _ => congrArg (mixed _ _ (tok t k) (y 0) * ·) (block2 m c t k (y 1)))
  · exact congrArg (w.2.1 y + ·) (Finset.sum_congr rfl fun k _ => congrArg₂ (· * ·) (block3 m c t k (y 0)) (block4 m c t k (y 1)))
  · exact congrArg (w.2.2 y + ·) (Finset.sum_congr rfl fun k _ => congrArg₂ (· * ·) (block5 m c t k (y 1)) (block6 m c t k _))

/-- The sum of the first `n` spans. -/
def upto (f : Fin 4096 → EReal) (n : ℕ) : EReal := ∑ s ∈ Finset.range n, ∑ k, f (tok s k)

theorem upto_one (f : Fin 4096 → EReal) : 0 + ∑ k, f (tok 0 k) = upto f 1 := by
  rw [zero_add, upto, Finset.sum_range_one]
theorem upto_succ (f : Fin 4096 → EReal) (n : ℕ) : upto f n + ∑ k, f (tok n k) = upto f (n + 1) :=
  (Finset.sum_range_succ (fun s => ∑ k, f (tok s k)) n).symm
theorem upto_all (f : Fin 4096 → EReal) : upto f 8 = ∑ t, f t := by
  have s := sum_spans f 0
  simp only [Nat.mul_zero, Nat.zero_add] at s
  exact s

theorem nought1 (y : S1024x1024.Idx) : k0_pay1 (F := Ideal) y = 0 := by pointwise [k0_pay1]
theorem nought2 (y : S1024x1024.Idx) : k0_pay2 (F := Ideal) y = 0 := by pointwise [k0_pay2]
theorem nought3 (y : S4x256x256.Idx) : k0_pay3 (F := Ideal) y = 0 := by pointwise [k0_pay3]

/-- After a grid point the arrays hold the spans so far. -/
theorem spans (n : ℕ) (h : n < cfg0.N) : outsAt0 m c n h = (fun y => upto (out m c y) (n + 1),
    fun y => upto (gate m c y) (n + 1), fun y => upto (emb m c y) (n + 1)) := by
  induction n with
  | zero =>
    refine (first m c ⟨0, h⟩ rfl).trans ((gained m c ⟨0, h⟩ _ _ _).trans ?_)
    refine Prod.ext (funext fun y => ?_) (Prod.ext (funext fun y => ?_) (funext fun y => ?_))
    · exact (congrArg (· + _) (nought1 y)).trans (upto_one _)
    · exact (congrArg (· + _) (nought2 y)).trans (upto_one _)
    · exact (congrArg (· + _) (nought3 y)).trans (upto_one _)
  | succ n ih =>
    have h8 : n + 1 < 8 := lt_of_lt_of_eq h N_0
    have hn : n < cfg0.N := Nat.lt_of_succ_lt h
    refine (later m c ⟨n + 1, h⟩ (by show ¬ (n + 1) % 8 = 0; omega)).trans ((gained m c ⟨n + 1, h⟩ _ _ _).trans ?_)
    have e := ih hn
    refine Prod.ext (funext fun y => ?_) (Prod.ext (funext fun y => ?_) (funext fun y => ?_))
    · exact (congrArg (· + _) (congrFun (congrArg (·.1) e) y)).trans (upto_succ (out m c y) (n + 1))
    · exact (congrArg (· + _) (congrFun (congrArg (·.2.1) e) y)).trans (upto_succ (gate m c y) (n + 1))
    · exact (congrArg (· + _) (congrFun (congrArg (·.2.2) e) y)).trans (upto_succ (emb m c y) (n + 1))

/-- At the last grid point they hold the sums over all tokens. -/
theorem last (t : Fin cfg0.N) (ht : t.val % 8 = 7) : outsAt0 m c t.val t.isLt = (fun y => ∑ k, out m c y k,
    fun y => ∑ k, gate m c y k, fun y => ∑ k, emb m c y k) := by
  have h8 : t.val < 8 := lt_of_lt_of_eq t.isLt N_0
  have e : t.val + 1 = 8 := by omega
  rw [spans m c t.val t.isLt, e]
  simp only [upto_all]

end Cert.MiscIdeal.Sums
-- ==== Proof.MiscFinal.lean ====
module

public import proofs.«01_k».proof.Proof.MiscValue

/-! The three weights' gradients after the run. -/

@[expose] public section

set_option maxRecDepth 65536
set_option maxHeartbeats 1600000

noncomputable section

namespace Cert.MiscIdeal.Sums
open Cert.MiscIdeal.Gen Cert.MiscIdeal.Value Cert.Spans
open Idealize.ShloMosaic Idealize.ShloMosaic.TcCoe Idealize.ShloMosaic.Tactic

variable (m : (ℓ : Loc nD τ sig) → Buf (Elt Ideal) ℓ) (c : Dev nD)

theorem place7 (t : Fin cfg0.N) (y : S1024x1024.Idx) : (((cfg0.win 7).blk t).view.emb y : S1024x1024.Idx) = y := by
  have h := index7 t
  blk_ext [h.1, h.2]
theorem place8 (t : Fin cfg0.N) (y : S1024x1024.Idx) : (((cfg0.win 8).blk t).view.emb y : S1024x1024.Idx) = y := by
  have h := index8 t
  blk_ext [h.1, h.2]
theorem place9 (t : Fin cfg0.N) (y : S4x256x256.Idx) : (((cfg0.win 9).blk t).view.emb y : S4x256x256.Idx) = y := by
  have h := index9 t
  blk_ext [h.1, h.2.1, h.2.2]

theorem final7 : (dats m 0 c).arrAt 7 cfg0.N = fun y : S1024x1024.Idx => ∑ k, out m c y k := by
  have all : ∀ t : Fin cfg0.N, t.val % 8 = 7 → (outsAt0 m c t.val t.isLt).1 = fun y => ∑ k, out m c y k :=
    fun t ht => congrArg (·.1) (last m c t ht)
  generalize (fun y : S1024x1024.Idx => ∑ k, out m c y k) = G at all ⊢
  refine (dats m 0 c).arrAt_eq_of_covers 7 G (by decide +kernel) fun t ht y => ?_
  rw [after0_7]
  have h := (congrFun (all t ((flush0_7 t).mp ht)) y).trans (congrArg G (place7 t y).symm)
  generalize (outsAt0 m c t.val t.isLt).1 = L at h ⊢
  exact h

theorem final8 : (dats m 0 c).arrAt 8 cfg0.N = fun y : S1024x1024.Idx => ∑ k, gate m c y k := by
  have all : ∀ t : Fin cfg0.N, t.val % 8 = 7 → (outsAt0 m c t.val t.isLt).2.1 = fun y => ∑ k, gate m c y k :=
    fun t ht => congrArg (·.2.1) (last m c t ht)
  generalize (fun y : S1024x1024.Idx => ∑ k, gate m c y k) = G at all ⊢
  refine (dats m 0 c).arrAt_eq_of_covers 8 G (by decide +kernel) fun t ht y => ?_
  rw [after0_8]
  have h := (congrFun (all t ((flush0_8 t).mp ht)) y).trans (congrArg G (place8 t y).symm)
  generalize (outsAt0 m c t.val t.isLt).2.1 = L at h ⊢
  exact h

theorem final9 : (dats m 0 c).arrAt 9 cfg0.N = fun y : S4x256x256.Idx => ∑ k, emb m c y k := by
  have all : ∀ t : Fin cfg0.N, t.val % 8 = 7 → (outsAt0 m c t.val t.isLt).2.2 = fun y => ∑ k, emb m c y k :=
    fun t ht => congrArg (·.2.2) (last m c t ht)
  generalize (fun y : S4x256x256.Idx => ∑ k, emb m c y k) = G at all ⊢
  refine (dats m 0 c).arrAt_eq_of_covers 9 G (by decide +kernel) fun t ht y => ?_
  rw [after0_9]
  have h := (congrFun (all t ((flush0_9 t).mp ht)) y).trans (congrArg G (place9 t y).symm)
  generalize (outsAt0 m c t.val t.isLt).2.2 = L at h ⊢
  exact h

end Cert.MiscIdeal.Sums
-- ==== Proof.MiscClaim.lean ====
module

public import proofs.«01_k».proof.Defs
public import proofs.«01_k».proof.Proof.MiscFinal
public import proofs.«01_k».proof.Proof.Gen.MiscReferenceIdeal.Read

/-! The gradients of the output projection's, the embedding gate's and the embedding projection's weights: the version's
call and the reference's gradient hold the same arrays. -/

@[expose] public section

set_option maxRecDepth 65536

noncomputable section

namespace Cert.MiscIdeal.Sums

open Idealize.ShloMosaic Idealize.SL.Sem Cert.MiscReferenceIdeal.Read

theorem frame_reference : Cert.quiescent_MiscReferenceIdeal := fun m ρ _ =>
  (θ_run Cert.MiscReferenceIdeal.defs _ _).mono
    (fun r h => ⟨fun c => (h c).2.2.2, sem_eq_zero_of_no_sems (by decide) r.2⟩)
    (Cert.MiscReferenceIdeal.Value.run (F := Ideal) m ρ)

theorem reference_mixed (a b : Vec Ideal S4096x512 .bf16) (t : Fin 4096) (e : Fin 1024) :
    val_main_v3 (F := Ideal) a b (ix2 t e) = mixed a b t e := by
  pointwise [val_main_v3, mixed]

theorem reference_out (a b : Vec Ideal S4096x512 .bf16) (z : Vec Ideal S4096x1024 .f32) :
    val_main_v16 (F := Ideal) a b z = fun y => ∑ k, termOut a b z y k := by
  funext y
  rw [val_main_v16_apply, val_main_v15_apply]
  refine Finset.sum_congr rfl fun k _ => ?_
  rw [eq_ix2 (lidx_main_v15 _ k), eq_ix2 (ridx_main_v15 _ k), val_main_v4_apply]
  refine (mul_comm _ _).trans (congrArg (· * _) ?_)
  exact reference_mixed a b k (y 0)

theorem reference_gate (h s : Vec Ideal S4096x1024 .bf16) :
    val_main_v14 (F := Ideal) h s = fun y => ∑ k, termGate h s y k := by
  funext y
  rw [val_main_v14_apply, val_main_v13_apply]
  refine Finset.sum_congr rfl fun k _ => ?_
  rw [eq_ix2 (lidx_main_v13 _ k), eq_ix2 (ridx_main_v13 _ k)]
  exact mul_comm _ _

theorem column (y : S4x256x256.Idx) : idx_main_v12 (idx_main_v17 (idx_main_v18 y)) = ix2 (shard (y 0) (y 2)) (y 1) := by
  have h0 : (y 0).val < 4 := (y 0).isLt
  have h1 : (y 1).val < 256 := (y 1).isLt
  have h2 : (y 2).val < 256 := (y 2).isLt
  funext a
  match a with
  | ⟨0, _⟩ =>
    refine Fin.ext ?_
    show (((y 1).val * 4 + (y 0).val) * 256 + (y 2).val) % 1024 = (shard (y 0) (y 2)).val
    unfold shard
    dsimp only
    omega
  | ⟨1, _⟩ =>
    refine Fin.ext ?_
    show (((y 1).val * 4 + (y 0).val) * 256 + (y 2).val) / 1024 = (y 1).val
    omega

theorem reference_product (p : Vec Ideal S4096x256 .f32) (g : Vec Ideal S4096x1024 .bf16) (r : Fin 1024) (d : Fin 256) :
    val_main_v11 (F := Ideal) p g (ix2 r d) = ∑ k : Fin 4096, p (ix2 k d) * g (ix2 k r) := by
  rw [val_main_v11_apply]
  refine Finset.sum_congr rfl fun k _ => ?_
  rw [eq_ix2 (lidx_main_v11 _ k), eq_ix2 (ridx_main_v11 _ k)]
  exact mul_comm _ _

theorem reference_emb (p : Vec Ideal S4096x256 .f32) (g : Vec Ideal S4096x1024 .bf16) :
    val_main_v18 (F := Ideal) p g = fun y => ∑ k, termEmb p g y k := by
  funext y
  rw [val_main_v18_apply, val_main_v17_apply, val_main_v12_apply]
  exact (congrArg (val_main_v11 (F := Ideal) p g) (column y)).trans (reference_product p g _ _)

set_option maxHeartbeats 1600000 in
theorem algebraic : Cert.algebraic_MiscIdeal_MiscReferenceIdeal := by
  intro m ρ m' ρ' _ hagree
  refine ⟨fun c => (Gen.dats m 0 c).arrAt 7 _, fun c => (Gen.dats m 0 c).arrAt 8 _, fun c => (Gen.dats m 0 c).arrAt 9 _,
    Value.run_blocks (F := Ideal) m ρ,
    (θ_run Cert.MiscReferenceIdeal.defs _ _).mono (fun r h c => ?_) (Cert.MiscReferenceIdeal.Value.run (F := Ideal) m' ρ')⟩
  obtain ⟨h0, h1, h2, h3, h4, h5, h6⟩ := hagree c
  obtain ⟨e0, e1, e2, kept⟩ := h c
  refine ⟨e0.trans ((val_main_v16_eq _ _ _).trans ((reference_out _ _ _).trans ?_)),
    e1.trans ((val_main_v14_eq _ _).trans ((reference_gate _ _).trans ?_)),
    e2.trans ((val_main_v18_eq _ _).trans ((reference_emb _ _).trans ?_)), kept⟩
  · rw [h0, h1, h2, ← Gen.V_main_arg0 m c, ← Gen.V_main_arg1 m c, ← Gen.V_main_arg2 m c]; exact (final7 m c).symm
  · rw [h3, h4, ← Gen.V_main_arg3 m c, ← Gen.V_main_arg4 m c]; exact (final8 m c).symm
  · rw [h5, h6, ← Gen.V_main_arg5 m c, ← Gen.V_main_arg6 m c]; exact (final9 m c).symm

end Cert.MiscIdeal.Sums
-- ==== Proof.Row.lean ====
module

public import Idealize.ShloMosaic.PureOps.Ideal.Laws

/-! The backward pass of one token through the gated feed-forward layer and the layer norm before it: the formulas that
the kernel computes tile by tile, written once for one row over the extended reals. -/

@[expose] public section

noncomputable section

namespace Cert.Row

open Idealize.ShloMosaic

/-- What one token brings: the incoming gradient, the normalised input, the embedding gate and the embedding projection,
the gate and up products of the hidden layer, and the reciprocal standard deviation. -/
structure Token where
  dz : Fin 1024 → EReal
  zh : Fin 1024 → EReal
  pg : Fin 1024 → EReal
  ple : Fin 1024 → EReal
  g : Fin 2816 → EReal
  u : Fin 2816 → EReal
  r : EReal

/-- The weights every token shares. -/
structure Weights where
  wg : Fin 2816 → Fin 1024 → EReal
  wu : Fin 2816 → Fin 1024 → EReal
  wd : Fin 2816 → Fin 1024 → EReal
  wpg : Fin 1024 → Fin 1024 → EReal
  wo : Fin 1024 → Fin 1024 → EReal
  gain : Fin 1024 → EReal

/-- The residual branch's factor, as the program's single-precision constant. -/
def alpha : EReal := Ideal.ofBits .f32 0x3F9837F0#32
/-- The width of a row, as the program's constant. -/
def width : EReal := Ideal.ofBits .f32 0x44800000#32

/-- The logistic function. -/
def sig (g : EReal) : EReal := Ideal.div 1 (1 + Ideal.exp (0 - g))
/-- The gradient of `silu g * u` in `g`, along `a`. -/
def gate (a g u : EReal) : EReal := a * u * sig g * (1 + g * (1 - sig g))
/-- The gradient of `silu g * u` in `u`, along `a`. -/
def lift (a g : EReal) : EReal := a * g * sig g

variable (W : Weights) (R : Token)

/-- The gradient of the hidden activations. -/
def act (e : Fin 2816) : EReal := ∑ k, R.dz k * W.wd e k
/-- The gradient of the gate product. -/
def dg (e : Fin 2816) : EReal := gate (act W R e) (R.g e) (R.u e)
/-- The gradient of the up product. -/
def du (e : Fin 2816) : EReal := lift (act W R e) (R.g e)
/-- The gradient of the embedding gate's product. -/
def ds (k : Fin 1024) : EReal := R.dz k * R.ple k * R.pg k * (1 - R.pg k)
/-- The gradient of the embedding projection. -/
def dple (k : Fin 1024) : EReal := R.dz k * R.pg k
/-- What the two hidden products send back to the layer's input. -/
def back (d : Fin 1024) : EReal := ∑ e, (dg W R e * W.wg e d + du W R e * W.wu e d)
/-- The gradient of the layer's input. -/
def dh (d : Fin 1024) : EReal := alpha * R.dz d + back W R d + ∑ k, ds R k * W.wpg d k
/-- The gradient of the normalised input. -/
def dzh (d : Fin 1024) : EReal := dh W R d * W.gain d
/-- The mean of that gradient. -/
def mean1 : EReal := Ideal.div (∑ d, dzh W R d) width
/-- Its mean against the normalised input. -/
def mean2 : EReal := Ideal.div (∑ d, dzh W R d * R.zh d) width
/-- The gradient of the layer norm's input. -/
def dz1 (d : Fin 1024) : EReal := R.r * (dzh W R d - mean1 W R - R.zh d * mean2 W R)
/-- The gradient of the mixer outputs. -/
def dy (j : Fin 1024) : EReal := ∑ k, dz1 W R k * W.wo j k

/-- Column `j` of chunk `n`: the hidden width is eleven chunks of 256 columns. -/
def col (n : Fin 11) (j : Fin 256) : Fin 2816 := ⟨256 * n + j, by omega⟩

/-- A sum over the hidden width, chunk by chunk. -/
theorem sum_chunks (f : Fin 2816 → EReal) : ∑ e, f e = ∑ n : Fin 11, ∑ j : Fin 256, f (col n j) := by
  rw [← Fintype.sum_prod_type']
  refine (Equiv.sum_comp (finProdFinEquiv (m := 11) (n := 256)) f).symm.trans (Finset.sum_congr rfl fun x _ => ?_)
  exact congrArg f (Fin.ext (by simp [finProdFinEquiv, col]; omega))

/-- Token `i` of tile `t`: sixteen tiles of 256 tokens. -/
def tok (t : Fin 16) (i : Fin 256) : Fin 4096 := ⟨256 * t + i, by omega⟩

/-- A sum over the tokens, tile by tile. -/
theorem sum_tiles (f : Fin 4096 → EReal) : ∑ e, f e = ∑ t : Fin 16, ∑ i : Fin 256, f (tok t i) := by
  rw [← Fintype.sum_prod_type']
  refine (Equiv.sum_comp (finProdFinEquiv (m := 16) (n := 256)) f).symm.trans (Finset.sum_congr rfl fun x _ => ?_)
  exact congrArg f (Fin.ext (by simp [finProdFinEquiv, tok]; omega))

end Cert.Row
-- ==== Proof.Reals.lean ====
module

public import proofs.«01_k».proof.Proof.Row

/-! The real numbers inside the extended reals: which operations stay inside, and the two places where the kernel's
formula and the reference's one agree because the numbers are real: the gradient of the gated unit, and the gradient of
the layer norm. -/

@[expose] public section

noncomputable section

namespace Cert.Reals

open Idealize.ShloMosaic

/-- The extended real `x` is a real number. -/
def IsReal (x : EReal) : Prop := ∃ r : ℝ, x = r

theorem coe (r : ℝ) : IsReal r := ⟨r, rfl⟩
theorem IsReal.add {x y : EReal} : IsReal x → IsReal y → IsReal (x + y)
  | ⟨a, ha⟩, ⟨b, hb⟩ => ⟨a + b, by rw [ha, hb, EReal.coe_add]⟩
theorem IsReal.mul {x y : EReal} : IsReal x → IsReal y → IsReal (x * y)
  | ⟨a, ha⟩, ⟨b, hb⟩ => ⟨a * b, by rw [ha, hb, EReal.coe_mul]⟩
theorem IsReal.sub {x y : EReal} : IsReal x → IsReal y → IsReal (x - y)
  | ⟨a, ha⟩, ⟨b, hb⟩ => ⟨a - b, by rw [ha, hb, EReal.coe_sub]⟩
theorem IsReal.neg {x : EReal} : IsReal x → IsReal (-x)
  | ⟨a, ha⟩ => ⟨-a, by rw [ha, EReal.coe_neg]⟩
theorem IsReal.zero : IsReal 0 := ⟨0, rfl⟩

theorem coe_sum {ι : Type} (s : Finset ι) (f : ι → ℝ) : ∑ i ∈ s, (f i : EReal) = ((∑ i ∈ s, f i : ℝ) : EReal) := by
  classical
  induction s using Finset.induction_on with
  | empty => rfl
  | insert a s h ih => rw [Finset.sum_insert h, Finset.sum_insert h, ih, EReal.coe_add]

theorem IsReal.sum {ι : Type} {s : Finset ι} {f : ι → EReal} (h : ∀ i, IsReal (f i)) : IsReal (∑ i ∈ s, f i) := by
  choose g hg using h
  exact ⟨∑ i ∈ s, g i, by rw [← coe_sum]; exact Finset.sum_congr rfl fun i _ => hg i⟩

theorem div_eq (a : ℝ) {b : ℝ} (h : b ≠ 0) : Ideal.div (a : EReal) (b : EReal) = ((a / b : ℝ) : EReal) := by
  rw [Ideal.div_coe h, ← EReal.coe_mul]; congr 1; ring

theorem IsReal.div {x : EReal} {b : ℝ} (h : b ≠ 0) : IsReal x → IsReal (Ideal.div x b)
  | ⟨a, ha⟩ => ⟨a / b, by rw [ha, div_eq a h]⟩

theorem sig_coe (g : ℝ) : Row.sig (g : EReal) = ((1 / (1 + Real.exp (0 - g)) : ℝ) : EReal) := by
  have h : (1 + Real.exp (0 - g)) ≠ 0 := (add_pos one_pos (Real.exp_pos _)).ne'
  rw [← div_eq 1 h, EReal.coe_add, EReal.coe_one, ← Ideal.exp_coe, EReal.coe_sub, EReal.coe_zero, Row.sig]

theorem IsReal.sig {x : EReal} : IsReal x → IsReal (Row.sig x)
  | ⟨a, ha⟩ => ⟨_, by rw [ha, sig_coe]⟩

/-- The gated unit's gradient, factored out by the kernel and written as a sum by the reference. -/
theorem gate_real {a g u : EReal} (ha : IsReal a) (hg : IsReal g) (hu : IsReal u) :
    Row.gate a g u = a * u * Row.sig g + g * (a * u) * (Row.sig g * (1 - Row.sig g)) := by
  obtain ⟨s, hs⟩ := hg.sig
  obtain ⟨a, rfl⟩ := ha
  obtain ⟨g, rfl⟩ := hg
  obtain ⟨u, rfl⟩ := hu
  rw [Row.gate, hs, ← EReal.coe_one]
  simp only [← EReal.coe_mul, ← EReal.coe_add, ← EReal.coe_sub]
  congr 1; ring

/-- The variance's part of the reference's gradient of a layer norm's input, before it is spread over the row: `q` is the
gradient of the normalised row, `x` the row less its mean, `v` the variance, `p` the reciprocal of its root. -/
def pull (q x : Fin 1024 → EReal) (p v half : EReal) : EReal :=
  Ideal.div ((∑ k, x k * q k) * (half * Ideal.div p v)) Row.width
/-- The reference's gradient of a layer norm's input, column `d`. -/
def spread (q x : Fin 1024 → EReal) (p v half two : EReal) (d : Fin 1024) : EReal :=
  q d * p + pull q x p v half * (two * x d)
    + Ideal.div (∑ k, -(q k * p) + ∑ k, -(pull q x p v half * (two * x k))) Row.width

/-- The reference's small addend to the variance. -/
def eps : EReal := Ideal.ofBits .f32 0x3727C5AC#32
/-- The constants `-1/2` and `2` of the reference. -/
def half : EReal := Ideal.ofBits .f32 0xBF000000#32
def two : EReal := Ideal.ofBits .f32 0x40000000#32

theorem width_eq : Row.width = ((1024 : ℝ) : EReal) := by
  simp [Row.width, Ideal.ofBits, Ideal.ieee, -EReal.coe_mul]; norm_num
theorem half_eq : half = ((-1 / 2 : ℝ) : EReal) := by
  simp [half, Ideal.ofBits, Ideal.ieee, -EReal.coe_mul]; norm_num
theorem two_eq : two = ((2 : ℝ) : EReal) := by
  simp [two, Ideal.ofBits, Ideal.ieee, -EReal.coe_mul]; norm_num
theorem eps_eq : ∃ e : ℝ, 0 < e ∧ eps = (e : EReal) := by
  simp only [eps, Ideal.ofBits, Ideal.ieee]
  simp [-EReal.coe_mul]
theorem alpha_real : IsReal Row.alpha := by
  simp only [Row.alpha, Ideal.ofBits, Ideal.ieee]
  simp [-EReal.coe_mul]
  exact ⟨_, rfl⟩

variable (z : Fin 1024 → EReal)
/-- The mean of a row. -/
def mean : EReal := Ideal.div (∑ k, z k) Row.width
/-- A row less its mean. -/
def cent (d : Fin 1024) : EReal := z d - mean z
/-- The variance of a row, with the small addend. -/
def vare : EReal := Ideal.div (∑ k, cent z k * cent z k) Row.width + eps
/-- The reciprocal standard deviation of a row. -/
def rstd : EReal := Ideal.rsqrt (vare z)

/-- The identity in the reals: the terms along the mean cancel, because a row less its mean adds up to zero. -/
theorem norm_real (q x : Fin 1024 → ℝ) (p v : ℝ) (hp : p * p * v = 1) (hx : ∑ k, x k = 0) (d : Fin 1024) :
    p * (q d - (∑ k, q k) / 1024 - x d * p * ((∑ k, q k * (x k * p)) / 1024))
      = q d * p + ((∑ k, x k * q k) * (-1 / 2 * (p / v)) / 1024) * (2 * x d)
        + (∑ k, -(q k * p) + ∑ k, -(((∑ k, x k * q k) * (-1 / 2 * (p / v)) / 1024) * (2 * x k))) / 1024 := by
  have hv : p / v = p * p * p := by
    have : v ≠ 0 := fun h => by simp [h] at hp
    rw [div_eq_iff this]; linear_combination -p * hp
  have e1 : ∑ k, q k * (x k * p) = (∑ k, x k * q k) * p := by
    rw [Finset.sum_mul]; exact Finset.sum_congr rfl fun k _ => by ring
  have e2 : ∀ w : ℝ, ∑ k, w * (2 * x k) = 0 := fun w => by
    rw [← Finset.mul_sum, ← Finset.mul_sum, hx]; ring
  rw [Finset.sum_neg_distrib, Finset.sum_neg_distrib, e1, e2, hv, ← Finset.sum_mul]
  ring

/-- A real row: its mean, its centred entries and its deviation are real, the centred entries add up to zero, and the
square of the reciprocal deviation times the variance is one. -/
theorem row_real (hz : ∀ k, IsReal (z k)) : ∃ (x : Fin 1024 → ℝ) (p v : ℝ), (∀ k, cent z k = (x k : EReal)) ∧
    vare z = (v : EReal) ∧ rstd z = (p : EReal) ∧ p * p * v = 1 ∧ ∑ k, x k = 0 := by
  choose y hy using hz
  obtain ⟨e, he, hee⟩ := eps_eq
  have hm : mean z = ((∑ k, y k) / 1024 : ℝ) := by
    rw [mean, Finset.sum_congr rfl fun k _ => hy k, coe_sum, width_eq, div_eq _ (by norm_num)]
  have hc : ∀ k, cent z k = ((y k - (∑ k, y k) / 1024 : ℝ) : EReal) := fun k => by
    rw [cent, hm, hy, EReal.coe_sub]
  generalize hx : (fun k => y k - (∑ k, y k) / 1024) = x at *
  have hc' : ∀ k, cent z k = (x k : EReal) := fun k => by rw [hc, ← hx]
  have hv : vare z = (((∑ k, x k * x k) / 1024 + e : ℝ) : EReal) := by
    rw [vare, Finset.sum_congr rfl fun k _ => by rw [hc' k, ← EReal.coe_mul], coe_sum, width_eq, div_eq _ (by norm_num), hee,
      EReal.coe_add]
  have h0 : 0 < (∑ k, x k * x k) / 1024 + e :=
    add_pos_of_nonneg_of_pos (div_nonneg (Finset.sum_nonneg fun k _ => mul_self_nonneg _) (by norm_num)) he
  refine ⟨x, (Real.sqrt ((∑ k, x k * x k) / 1024 + e))⁻¹, _, hc', hv, ?_, ?_, ?_⟩
  · rw [rstd, hv, Ideal.rsqrt_coe, if_neg h0.not_gt, if_neg h0.ne']
  · rw [← mul_inv, Real.mul_self_sqrt h0.le, inv_mul_cancel₀ h0.ne']
  · rw [← hx, Finset.sum_sub_distrib, Finset.sum_const]
    simp; ring

theorem IsReal.vare {z : Fin 1024 → EReal} (hz : ∀ k, IsReal (z k)) : IsReal (vare z) :=
  let ⟨_, _, v, _, h, _⟩ := row_real z hz; ⟨v, h⟩
theorem IsReal.rstd {z : Fin 1024 → EReal} (hz : ∀ k, IsReal (z k)) : IsReal (rstd z) :=
  let ⟨_, p, _, _, _, h, _⟩ := row_real z hz; ⟨p, h⟩
theorem IsReal.cent {z : Fin 1024 → EReal} (hz : ∀ k, IsReal (z k)) (d : Fin 1024) : IsReal (cent z d) :=
  let ⟨x, _, _, h, _⟩ := row_real z hz; ⟨x d, h d⟩

/-- The layer norm's gradient: the kernel's three terms are the reference's chain through the variance. -/
theorem norm_eq (q : Fin 1024 → EReal) (hz : ∀ k, IsReal (z k)) (hq : ∀ k, IsReal (q k)) (d : Fin 1024) :
    rstd z * (q d - Ideal.div (∑ k, q k) Row.width
        - cent z d * rstd z * Ideal.div (∑ k, q k * (cent z k * rstd z)) Row.width)
      = spread q (cent z) (rstd z) (vare z) half two d := by
  obtain ⟨x, p, v, hx, hv, hp, h1, h2⟩ := row_real z hz
  choose b hb using hq
  have hv0 : v ≠ 0 := fun h => by simp [h] at h1
  have h1024 : (1024 : ℝ) ≠ 0 := by norm_num
  simp only [spread, pull, hx, hv, hp, hb, half_eq, two_eq, width_eq, div_eq _ hv0, ← EReal.coe_mul, coe_sum, div_eq _ h1024,
    ← EReal.coe_neg, ← EReal.coe_add, ← EReal.coe_sub]
  exact congrArg _ (norm_real b x p v h1 h2 d)

end Cert.Reals
-- ==== Proof.NormPoint.lean ====
module

public import proofs.«01_k».proof.Proof.Spans
public import proofs.«01_k».proof.Proof.Reals
public import proofs.«01_k».proof.Proof.Gen.NormIdeal.Value
public import Idealize.ShloMosaic.Lib.Pointwise
public import Idealize.ShloMosaic.Lib.Pipeline.ValueKit
public import Idealize.ShloMosaic.Lib.Claim

/-! The output projection and the first layer norm, forward: what one block of 512 tokens gives. -/

@[expose] public section

set_option maxRecDepth 65536
set_option maxHeartbeats 1600000

noncomputable section

namespace Cert.NormIdeal.Rows
open Cert.NormIdeal.Gen Cert.NormIdeal.Value Cert.Spans Cert.Reals
open Idealize.ShloMosaic Idealize.ShloMosaic.TcCoe Idealize.ShloMosaic.Tactic

theorem zeros : (![0, 0] : Fin 2 → ℕ) = fun _ => 0 := by decide

/-- The weight's row that meets lane `k` of the retention, and of the attention. -/
def ret (k : Fin 512) : Fin 1024 := ⟨k.val, by omega⟩
def att (k : Fin 512) : Fin 1024 := ⟨512 + k.val, by omega⟩

section
variable (a b : Vec Ideal S512x512 .bf16) (v w : Vec Ideal S512x1024 .bf16) (x : Vec Ideal S512x1024 .f32)

/-- Row `i` of the residual sum, from the two halves of the weight. -/
def sums (i : Fin 512) (d : Fin 1024) : EReal :=
  Row.alpha * x (ix2 i d) + (∑ k, a (ix2 i k) * v (ix2 k d) + ∑ k, b (ix2 i k) * w (ix2 k d))

theorem centred (i : Fin 512) (d : Fin 1024) : k0_pay2 (F := Ideal) a v b w x (ix2 i d) = cent (sums a b v w x i) d := by
  pointwise [k0_pay2, cent, mean, Row.width, sums, Row.alpha]

theorem deviation (i : Fin 512) : k0_pay3 (F := Ideal) a v b w x (ix2 i (0 : Fin 1)) = rstd (sums a b v w x i) := by
  rw [rstd, vare]
  simp only [← centred]
  pointwise [k0_pay3, Row.width, eps]

theorem normal (i : Fin 512) (d : Fin 1024) : k0_pay4 (F := Ideal) a v b w x (ix2 i d)
    = cent (sums a b v w x i) d * rstd (sums a b v w x i) := by
  rw [← centred, ← deviation]
  pointwise [k0_pay4]

theorem hidden (g h : Vec Ideal S1x1024 .f32) (i : Fin 512) (d : Fin 1024) :
    k0_pay1 (F := Ideal) (k0_pay5 a v b w x g) h (ix2 i d)
      = cent (sums a b v w x i) d * rstd (sums a b v w x i) * g (ix2 0 d) + h (ix2 0 d) := by
  rw [← normal]
  pointwise [k0_pay1, k0_pay5]

end

section
variable (a b : Vec Ideal S512x512 .bf16) (x : Vec Ideal S512x1024 .f32) (w : Vec Ideal S1024x1024 .bf16)
  (g h : Vec Ideal S1x1024 .f32)

/-- Row `i` of the residual sum, from the whole weight. -/
def rows (i : Fin 512) (d : Fin 1024) : EReal :=
  Row.alpha * x (ix2 i d) + (∑ k, a (ix2 i k) * w (ix2 (ret k) d) + ∑ k, b (ix2 i k) * w (ix2 (att k) d))

theorem halves (i : Fin 512) : sums a b (View.ld w r0_1) (View.ld w r0_2) x i = rows a b x w i := by
  funext d
  refine congrArg (Row.alpha * x (ix2 i d) + ·) (congrArg₂ (· + ·) (Finset.sum_congr rfl fun k _ => congrArg (_ * ·) ?_)
    (Finset.sum_congr rfl fun k _ => congrArg (_ * ·) ?_))
  · exact View.ld_unit_apply_of _ _ _ _ _ _ (Fin.forall_fin_two.mpr ⟨(Nat.zero_add _).symm, (Nat.zero_add _).symm⟩)
  · exact View.ld_unit_apply_of _ _ _ _ _ _ (Fin.forall_fin_two.mpr ⟨rfl, (Nat.zero_add _).symm⟩)

theorem stored6 (i : Fin 512) (d : Fin 1024) : out0_6 a b x w g h (ix2 i d)
    = cent (rows a b x w i) d * rstd (rows a b x w i) := by
  unfold out0_6
  rw [View.canon_unit_zero zeros]
  repeat rw [View.ld_unit_zero zeros]
  refine (normal _ _ _ _ _ i d).trans ?_
  rw [halves]

theorem stored7 (i : Fin 512) : out0_7 a b x w g h (ix2 i (0 : Fin 1)) = rstd (rows a b x w i) := by
  unfold out0_7
  rw [View.canon_unit_zero zeros]
  repeat rw [View.ld_unit_zero zeros]
  refine (deviation _ _ _ _ _ i).trans ?_
  rw [halves]

theorem stored8 (i : Fin 512) (d : Fin 1024) : out0_8 a b x w g h (ix2 i d)
    = cent (rows a b x w i) d * rstd (rows a b x w i) * g (ix2 0 d) + h (ix2 0 d) := by
  unfold out0_8
  rw [View.canon_unit_zero zeros]
  repeat rw [View.ld_unit_zero zeros]
  refine (hidden _ _ _ _ _ _ _ i d).trans ?_
  rw [halves]

end

end Cert.NormIdeal.Rows
-- ==== Proof.NormValue.lean ====
module

public import proofs.«01_k».proof.Proof.NormPoint

/-! The output projection and the first layer norm, forward: the three arrays after the run. -/

@[expose] public section

set_option maxRecDepth 65536
set_option maxHeartbeats 1600000

noncomputable section

namespace Cert.NormIdeal.Rows
open Cert.NormIdeal.Gen Cert.NormIdeal.Value Cert.Spans Cert.Reals
open Idealize.ShloMosaic Idealize.ShloMosaic.TcCoe Idealize.ShloMosaic.Tactic

variable (m : (ℓ : Loc nD τ sig) → Buf (Elt Ideal) ℓ) (c : Dev nD)

theorem index : ∀ t : Fin cfg0.N, ((cfg0.win 0).index t 0 = t.val % 8 ∧ (cfg0.win 0).index t 1 = 0)
    ∧ ((cfg0.win 1).index t 0 = t.val % 8 ∧ (cfg0.win 1).index t 1 = 0)
    ∧ ((cfg0.win 2).index t 0 = t.val % 8 ∧ (cfg0.win 2).index t 1 = 0)
    ∧ ((cfg0.win 6).index t 0 = t.val % 8 ∧ (cfg0.win 6).index t 1 = 0)
    ∧ ((cfg0.win 7).index t 0 = t.val % 8 ∧ (cfg0.win 7).index t 1 = 0)
    ∧ ((cfg0.win 8).index t 0 = t.val % 8 ∧ (cfg0.win 8).index t 1 = 0) := by decide +kernel

theorem index_whole : ∀ t : Fin cfg0.N, ((cfg0.win 3).index t 0 = 0 ∧ (cfg0.win 3).index t 1 = 0)
    ∧ ((cfg0.win 4).index t 0 = 0 ∧ (cfg0.win 4).index t 1 = 0)
    ∧ ((cfg0.win 5).index t 0 = 0 ∧ (cfg0.win 5).index t 1 = 0) := by decide +kernel

theorem block0 (t : Fin cfg0.N) (i k : Fin 512) : iblk m c 0 t (ix2 i k) = V m c main_arg0 (ix2 (tok t i) k) := by
  have h := (index t).1
  unfold tok
  blk_ext [iblk, h.1, h.2]
theorem block1 (t : Fin cfg0.N) (i k : Fin 512) : iblk m c 1 t (ix2 i k) = V m c main_arg1 (ix2 (tok t i) k) := by
  have h := (index t).2.1
  unfold tok
  blk_ext [iblk, h.1, h.2]
theorem block2 (t : Fin cfg0.N) (i : Fin 512) (d : Fin 1024) : iblk m c 2 t (ix2 i d) = V m c main_arg2 (ix2 (tok t i) d) := by
  have h := (index t).2.2.1
  unfold tok
  blk_ext [iblk, h.1, h.2]
theorem block3 (t : Fin cfg0.N) (e d : Fin 1024) : iblk m c 3 t (ix2 e d) = V m c main_arg3 (ix2 e d) := by
  have h := (index_whole t).1
  blk_ext [iblk, h.1, h.2]
theorem block4 (t : Fin cfg0.N) (d : Fin 1024) : iblk m c 4 t (ix2 (0 : Fin 1) d) = V m c main_arg4 (ix2 (0 : Fin 1) d) := by
  have h := (index_whole t).2.1
  blk_ext [iblk, h.1, h.2]
theorem block5 (t : Fin cfg0.N) (d : Fin 1024) : iblk m c 5 t (ix2 (0 : Fin 1) d) = V m c main_arg5 (ix2 (0 : Fin 1) d) := by
  have h := (index_whole t).2.2
  blk_ext [iblk, h.1, h.2]

section
variable (a b : Vec Ideal S4096x512 .bf16) (x : Vec Ideal S4096x1024 .f32) (w : Vec Ideal S1024x1024 .bf16)
  (g h : Vec Ideal S1x1024 .f32)

/-- Token `t`'s row of the residual sum. -/
def token (t : Fin 4096) (d : Fin 1024) : EReal :=
  Row.alpha * x (ix2 t d) + (∑ k, a (ix2 t k) * w (ix2 (ret k) d) + ∑ k, b (ix2 t k) * w (ix2 (att k) d))

/-- The normalised rows, their inverse deviations, and the layer norm's result. -/
def norms (y : S4096x1024.Idx) : EReal := cent (token a b x w (y 0)) (y 1) * rstd (token a b x w (y 0))
def devs (y : S4096x1.Idx) : EReal := rstd (token a b x w (y 0))
def outs (y : S4096x1024.Idx) : EReal := norms a b x w y * g (ix2 (0 : Fin 1) (y 1)) + h (ix2 (0 : Fin 1) (y 1))
end

theorem rows_token (t : Fin cfg0.N) (i : Fin 512) : rows (iblk m c 0 t) (iblk m c 1 t) (iblk m c 2 t) (iblk m c 3 t) i
    = token (V m c main_arg0) (V m c main_arg1) (V m c main_arg2) (V m c main_arg3) (tok t i) := by
  funext d
  refine congrArg₂ (· + ·) (congrArg (Row.alpha * ·) (block2 m c t i d)) (congrArg₂ (· + ·) ?_ ?_)
  · exact Finset.sum_congr rfl fun k _ => congrArg₂ (· * ·) (block0 m c t i k) (block3 m c t (ret k) d)
  · exact Finset.sum_congr rfl fun k _ => congrArg₂ (· * ·) (block1 m c t i k) (block3 m c t (att k) d)

theorem left6 (t : Fin cfg0.N) (y : S512x1024.Idx) :
    out0_6 (iblk m c 0 t) (iblk m c 1 t) (iblk m c 2 t) (iblk m c 3 t) (iblk m c 4 t) (iblk m c 5 t) y
      = norms (V m c main_arg0) (V m c main_arg1) (V m c main_arg2) (V m c main_arg3) (ix2 (tok t (y 0)) (y 1)) := by
  refine (congrArg _ (eq_ix2 y)).trans ((stored6 _ _ _ _ _ _ (y 0) (y 1)).trans ?_)
  exact congrArg (fun z => cent z (y 1) * rstd z) (rows_token m c t (y 0))

theorem left7 (t : Fin cfg0.N) (y : S512x1.Idx) :
    out0_7 (iblk m c 0 t) (iblk m c 1 t) (iblk m c 2 t) (iblk m c 3 t) (iblk m c 4 t) (iblk m c 5 t) y
      = devs (V m c main_arg0) (V m c main_arg1) (V m c main_arg2) (V m c main_arg3) (ix2 (tok t (y 0)) (y 1)) := by
  obtain ⟨i, u, rfl⟩ : ∃ (i : Fin 512) (u : Fin 1), y = ix2 i u := ⟨y 0, y 1, eq_ix2 y⟩
  obtain rfl : u = 0 := Subsingleton.elim _ _
  exact (stored7 _ _ _ _ _ _ i).trans (congrArg rstd (rows_token m c t i))

theorem left8 (t : Fin cfg0.N) (y : S512x1024.Idx) :
    out0_8 (iblk m c 0 t) (iblk m c 1 t) (iblk m c 2 t) (iblk m c 3 t) (iblk m c 4 t) (iblk m c 5 t) y
      = outs (V m c main_arg0) (V m c main_arg1) (V m c main_arg2) (V m c main_arg3) (V m c main_arg4) (V m c main_arg5)
        (ix2 (tok t (y 0)) (y 1)) := by
  refine (congrArg _ (eq_ix2 y)).trans ((stored8 _ _ _ _ _ _ (y 0) (y 1)).trans ?_)
  exact congrArg₂ (· + ·) (congrArg₂ (· * ·) (congrArg (fun z => cent z (y 1) * rstd z) (rows_token m c t (y 0)))
    (block4 m c t (y 1))) (block5 m c t (y 1))

theorem place6 (t : Fin cfg0.N) (y : S512x1024.Idx) :
    (((cfg0.win 6).blk t).view.emb y : S4096x1024.Idx) = ix2 (tok t (y 0)) (y 1) := by
  have h := (index t).2.2.2.1
  unfold tok
  blk_ext [h.1, h.2]
theorem place7 (t : Fin cfg0.N) (y : S512x1.Idx) :
    (((cfg0.win 7).blk t).view.emb y : S4096x1.Idx) = ix2 (tok t (y 0)) (y 1) := by
  have h := (index t).2.2.2.2.1
  unfold tok
  blk_ext [h.1, h.2]
theorem place8 (t : Fin cfg0.N) (y : S512x1024.Idx) :
    (((cfg0.win 8).blk t).view.emb y : S4096x1024.Idx) = ix2 (tok t (y 0)) (y 1) := by
  have h := (index t).2.2.2.2.2
  unfold tok
  blk_ext [h.1, h.2]

theorem final6 : (dats m 0 c).arrAt 6 cfg0.N = fun y : S4096x1024.Idx =>
    norms (V m c main_arg0) (V m c main_arg1) (V m c main_arg2) (V m c main_arg3) y := by
  have left := left6 m c
  generalize norms (V m c main_arg0) (V m c main_arg1) (V m c main_arg2) (V m c main_arg3) = G at left ⊢
  refine (dats m 0 c).arrAt_eq_of_covers 6 _ (by decide +kernel) fun t _ y => ?_
  rw [after0_6]
  have h := (left t y).trans (congrArg G (place6 t y).symm)
  generalize out0_6 (iblk m c 0 t) (iblk m c 1 t) (iblk m c 2 t) (iblk m c 3 t) (iblk m c 4 t) (iblk m c 5 t) = L at h ⊢
  exact h

theorem final7 : (dats m 0 c).arrAt 7 cfg0.N = fun y : S4096x1.Idx =>
    devs (V m c main_arg0) (V m c main_arg1) (V m c main_arg2) (V m c main_arg3) y := by
  have left := left7 m c
  generalize devs (V m c main_arg0) (V m c main_arg1) (V m c main_arg2) (V m c main_arg3) = G at left ⊢
  refine (dats m 0 c).arrAt_eq_of_covers 7 _ (by decide +kernel) fun t _ y => ?_
  rw [after0_7]
  have h := (left t y).trans (congrArg G (place7 t y).symm)
  generalize out0_7 (iblk m c 0 t) (iblk m c 1 t) (iblk m c 2 t) (iblk m c 3 t) (iblk m c 4 t) (iblk m c 5 t) = L at h ⊢
  exact h

theorem final8 : (dats m 0 c).arrAt 8 cfg0.N = fun y : S4096x1024.Idx =>
    outs (V m c main_arg0) (V m c main_arg1) (V m c main_arg2) (V m c main_arg3) (V m c main_arg4) (V m c main_arg5) y := by
  have left := left8 m c
  generalize outs (V m c main_arg0) (V m c main_arg1) (V m c main_arg2) (V m c main_arg3) (V m c main_arg4)
    (V m c main_arg5) = G at left ⊢
  refine (dats m 0 c).arrAt_eq_of_covers 8 _ (by decide +kernel) fun t _ y => ?_
  rw [after0_8]
  have h := (left t y).trans (congrArg G (place8 t y).symm)
  generalize out0_8 (iblk m c 0 t) (iblk m c 1 t) (iblk m c 2 t) (iblk m c 3 t) (iblk m c 4 t) (iblk m c 5 t) = L at h ⊢
  exact h

end Cert.NormIdeal.Rows
-- ==== Proof.NormClaim.lean ====
module

public import proofs.«01_k».proof.Defs
public import proofs.«01_k».proof.Proof.NormValue
public import proofs.«01_k».proof.Proof.Gen.NormReferenceIdeal.Read

/-! The output projection and the first layer norm, forward: the version's call and the reference hold the same arrays. -/

@[expose] public section

set_option maxRecDepth 65536

noncomputable section

namespace Cert.NormIdeal.Rows

open Idealize.ShloMosaic Idealize.SL.Sem Cert.NormReferenceIdeal.Read Cert.Reals

theorem frame_reference : Cert.quiescent_NormReferenceIdeal := fun m ρ _ =>
  (θ_run Cert.NormReferenceIdeal.defs _ _).mono
    (fun r h => ⟨fun c => (h c).2.2.2, sem_eq_zero_of_no_sems (by decide) r.2⟩)
    (Cert.NormReferenceIdeal.Value.run (F := Ideal) m ρ)

section
variable (a b : Vec Ideal S4096x512 .bf16) (x : Vec Ideal S4096x1024 .f32) (w : Vec Ideal S1024x1024 .bf16)
  (g h : Vec Ideal S1x1024 .f32)

theorem mixed_ret (t : Fin 4096) (k : Fin 512) : val_main_v2 (F := Ideal) a b (ix2 t (ret k)) = a (ix2 t k) := by
  have hk : (ret k).val < 512 := k.isLt
  pointwise [val_main_v2, val_main_v0, val_main_v1]
  exact dif_pos hk

theorem mixed_att (t : Fin 4096) (k : Fin 512) : val_main_v2 (F := Ideal) a b (ix2 t (att k)) = b (ix2 t k) := by
  have hk : ¬ (att k).val < 512 := by unfold att; dsimp only; omega
  pointwise [val_main_v2, val_main_v0, val_main_v1]
  refine (dif_neg hk).trans (congrArg (fun l : Fin 512 => b (ix2 t l)) (Fin.ext ?_))
  unfold att
  dsimp only
  omega

/-- A row of the reference's sum: the product over both halves of the lanes. -/
theorem row_token (t : Fin 4096) (d : Fin 1024) : val_main_v7 (F := Ideal) a b x w (ix2 t d) = token a b x w t d := by
  rw [val_main_v7_apply, val_main_v6_apply]
  refine congrArg₂ (· + ·) ?_ ?_
  · pointwise [val_main_v4, val_main_v3, val_main_cst, Row.alpha]
  · have term : ∀ e : Fin 1024, val_main_v2 (F := Ideal) a b (lidx_main_v6 (ix2 t d) e)
        * val_main_v5 (F := Ideal) w (ridx_main_v6 (ix2 t d) e)
        = val_main_v2 (F := Ideal) a b (ix2 t e) * w (ix2 e d) := fun e => by
      rw [eq_ix2 (lidx_main_v6 _ e), eq_ix2 (ridx_main_v6 _ e)]
      rfl
    refine (Finset.sum_congr rfl fun e _ => term e).trans ((Fin.sum_univ_add (a := 512) (b := 512) _).trans ?_)
    exact congrArg₂ (· + ·) (Finset.sum_congr rfl fun k _ => congrArg (· * _) (mixed_ret a b t k))
      (Finset.sum_congr rfl fun k _ => congrArg (· * _) (mixed_att a b t k))

theorem row_eq (t : Fin 4096) : (fun d => val_main_v7 (F := Ideal) a b x w (ix2 t d)) = token a b x w t :=
  funext fun d => row_token a b x w t d

theorem mean_first (t : Fin 4096) : val_main_v11 (F := Ideal) a b x w (ix2 t (0 : Fin 1)) = mean (token a b x w t) := by
  rw [← row_eq]
  pointwise [val_main_v11, val_main_v10, val_main_cst_1, val_main_v9, val_main_v8, val_main_cst_0, mean, Row.width]

theorem cent_first (t : Fin 4096) (d : Fin 1024) :
    val_main_v13 (F := Ideal) a b x w (ix2 t d) = cent (token a b x w t) d := by
  rw [cent, ← mean_first, ← row_token]
  pointwise [val_main_v13, val_main_v12]

theorem rstd_first (t : Fin 4096) : val_main_v21 (F := Ideal) a b x w (ix2 t (0 : Fin 1)) = rstd (token a b x w t) := by
  rw [rstd, vare]
  simp only [← cent_first]
  pointwise [val_main_v21, val_main_v20, val_main_v19, val_main_cst_4, val_main_v18, val_main_v17, val_main_cst_3,
    val_main_v16, val_main_v15, val_main_cst_2, val_main_v14, eps, Row.width]

/-- The reference computes the same mean and deviation again for the layer norm's result. -/
theorem mean_again (t : Fin 4096) : val_main_v27 (F := Ideal) a b x w (ix2 t (0 : Fin 1)) = mean (token a b x w t) := by
  rw [← row_eq]
  pointwise [val_main_v27, val_main_v26, val_main_cst_6, val_main_v25, val_main_v24, val_main_cst_5, mean, Row.width]

theorem cent_again (t : Fin 4096) (d : Fin 1024) :
    val_main_v29 (F := Ideal) a b x w (ix2 t d) = cent (token a b x w t) d := by
  rw [cent, ← mean_again, ← row_token]
  pointwise [val_main_v29, val_main_v28]

theorem rstd_again (t : Fin 4096) : val_main_v39 (F := Ideal) a b x w (ix2 t (0 : Fin 1)) = rstd (token a b x w t) := by
  rw [rstd, vare]
  simp only [← cent_again]
  pointwise [val_main_v39, val_main_v38, val_main_v37, val_main_cst_9, val_main_v34, val_main_v33, val_main_cst_8,
    val_main_v32, val_main_v31, val_main_cst_7, val_main_v30, eps, Row.width]

theorem norm_again (t : Fin 4096) (d : Fin 1024) : val_main_v41 (F := Ideal) a b x w (ix2 t d)
    = cent (token a b x w t) d * rstd (token a b x w t) := by
  rw [cent, ← mean_again, ← row_token, ← rstd_again]
  pointwise [val_main_v41, val_main_v40, val_main_v36, val_main_v35]

theorem reference_norms : val_main_v23 (F := Ideal) a b x w = fun y => norms a b x w y := by
  funext y
  obtain ⟨t, d, rfl⟩ : ∃ (t : Fin 4096) (d : Fin 1024), y = ix2 t d := ⟨y 0, y 1, eq_ix2 y⟩
  show _ = cent (token a b x w t) d * rstd (token a b x w t)
  rw [← cent_first, ← rstd_first]
  pointwise [val_main_v23, val_main_v22]

theorem reference_devs : val_main_v21 (F := Ideal) a b x w = fun y => devs a b x w y := by
  funext y
  obtain ⟨t, u, rfl⟩ : ∃ (t : Fin 4096) (u : Fin 1), y = ix2 t u := ⟨y 0, y 1, eq_ix2 y⟩
  obtain rfl : u = 0 := Subsingleton.elim _ _
  exact rstd_first a b x w t

theorem reference_outs : val_main_v46 (F := Ideal) a b x w g h = fun y => outs a b x w g h y := by
  funext y
  obtain ⟨t, d, rfl⟩ : ∃ (t : Fin 4096) (d : Fin 1024), y = ix2 t d := ⟨y 0, y 1, eq_ix2 y⟩
  show _ = cent (token a b x w t) d * rstd (token a b x w t) * g (ix2 (0 : Fin 1) d) + h (ix2 (0 : Fin 1) d)
  rw [← norm_again]
  pointwise [val_main_v46, val_main_v45, val_main_v44, val_main_v43, val_main_v42]

end

set_option maxHeartbeats 1600000 in
theorem algebraic : Cert.algebraic_NormIdeal_NormReferenceIdeal := by
  intro m ρ m' ρ' _ hagree
  refine ⟨fun c => (Gen.dats m 0 c).arrAt 6 _, fun c => (Gen.dats m 0 c).arrAt 7 _, fun c => (Gen.dats m 0 c).arrAt 8 _,
    Value.run_blocks (F := Ideal) m ρ,
    (θ_run Cert.NormReferenceIdeal.defs _ _).mono (fun r h c => ?_) (Cert.NormReferenceIdeal.Value.run (F := Ideal) m' ρ')⟩
  obtain ⟨h0, h1, h2, h3, h4, h5⟩ := hagree c
  obtain ⟨e0, e1, e2, kept⟩ := h c
  refine ⟨e0.trans ((val_main_v23_eq _ _).trans ((reference_norms _ _ _ _).trans ?_)),
    e1.trans ((val_main_v21_eq _ _ _ _).trans ((reference_devs _ _ _ _).trans ?_)),
    e2.trans ((val_main_v46_eq _ _).trans ((reference_outs _ _ _ _ _ _).trans ?_)), kept⟩
  · rw [h0, h1, h2, h3, ← Gen.V_main_arg0 m c, ← Gen.V_main_arg1 m c, ← Gen.V_main_arg2 m c, ← Gen.V_main_arg3 m c]
    exact (final6 m c).symm
  · rw [h0, h1, h2, h3, ← Gen.V_main_arg0 m c, ← Gen.V_main_arg1 m c, ← Gen.V_main_arg2 m c, ← Gen.V_main_arg3 m c]
    exact (final7 m c).symm
  · rw [h0, h1, h2, h3, h4, h5, ← Gen.V_main_arg0 m c, ← Gen.V_main_arg1 m c, ← Gen.V_main_arg2 m c,
      ← Gen.V_main_arg3 m c, ← Gen.V_main_arg4 m c, ← Gen.V_main_arg5 m c]
    exact (final8 m c).symm

end Cert.NormIdeal.Rows
-- ==== Proof.Ref.lean ====
module

public import proofs.«01_k».proof.Proof.Reals
public import proofs.«01_k».proof.Proof.Gen.ReferenceIdeal.Read
public import Idealize.ShloMosaic.Lib.Pointwise

/-! The reference at one token: its stages are the row formulas of `Row`. -/

@[expose] public section

set_option maxRecDepth 16384

noncomputable section

namespace Cert.Ref

open Idealize.ShloMosaic Cert.ReferenceIdeal Cert.ReferenceIdeal.Read Cert.Reals Cert.Row

variable (x0 : Vec Ideal S4096x1024 .f32) (x1 x2 : Vec Ideal S4096x512 .bf16) (x3 : Vec Ideal S4096x256 .f32)
  (x4 : Vec Ideal S4096x1024 .f32) (x5 x6 : Vec Ideal S1x1024 .f32) (x7 : Vec Ideal S1024x1024 .bf16)
  (x8 x9 x10 : Vec Ideal S4x704x1024 .bf16) (x11 : Vec Ideal S256x1024 .bf16) (x12 : Vec Ideal S1024x1024 .bf16)

/-- Row `t` of the sum before the layer norm. -/
def row (t : Fin 4096) (k : Fin 1024) : EReal := val_main_v7 (F := Ideal) x0 x1 x2 x7 (ix2 t k)

theorem mean_apply (t : Fin 4096) : val_main_v11 (F := Ideal) x0 x1 x2 x7 (ix2 t 0) = mean (row x0 x1 x2 x7 t) := by
  pointwise [val_main_v11, val_main_v10, val_main_cst_1, val_main_v9, val_main_v8, val_main_cst_0, row, mean, width]

theorem cent_apply (t : Fin 4096) (d : Fin 1024) :
    val_main_v13 (F := Ideal) x0 x1 x2 x7 (ix2 t d) = cent (row x0 x1 x2 x7 t) d := by
  rw [cent, ← mean_apply]
  pointwise [val_main_v13, val_main_v12, row]

theorem cent_apply' (t : Fin 4096) (d : Fin 1024) :
    val_main_v22 (F := Ideal) x0 x1 x2 x7 (ix2 t d) = cent (row x0 x1 x2 x7 t) d := by
  rw [cent, ← mean_apply]
  pointwise [val_main_v22, val_main_v21, row]

theorem vare_apply (t : Fin 4096) :
    val_main_v24 (F := Ideal) x0 x1 x2 x7 (ix2 t 0) = vare (row x0 x1 x2 x7 t) := by
  rw [vare]
  simp only [← cent_apply]
  pointwise [val_main_v24, val_main_v23, val_main_cst_5, val_main_v20, val_main_v19, val_main_cst_4, val_main_v18,
    val_main_v17, val_main_cst_3, val_main_v14, eps, width]

theorem rstd_apply (t : Fin 4096) :
    val_main_v25 (F := Ideal) x0 x1 x2 x7 (ix2 t 0) = rstd (row x0 x1 x2 x7 t) := by
  rw [rstd, ← vare_apply]
  pointwise [val_main_v25]

theorem norm_apply (t : Fin 4096) (d : Fin 1024) :
    val_main_v30 (F := Ideal) x0 x1 x2 x7 (ix2 t d) = cent (row x0 x1 x2 x7 t) d * rstd (row x0 x1 x2 x7 t) := by
  rw [← cent_apply', ← rstd_apply]
  pointwise [val_main_v30, val_main_v29]

/-- The thirteen arrays both programs take. -/
structure Args where
  x0 : Vec Ideal S4096x1024 .f32
  x1 : Vec Ideal S4096x512 .bf16
  x2 : Vec Ideal S4096x512 .bf16
  x3 : Vec Ideal S4096x256 .f32
  x4 : Vec Ideal S4096x1024 .f32
  x5 : Vec Ideal S1x1024 .f32
  x6 : Vec Ideal S1x1024 .f32
  x7 : Vec Ideal S1024x1024 .bf16
  x8 : Vec Ideal S4x704x1024 .bf16
  x9 : Vec Ideal S4x704x1024 .bf16
  x10 : Vec Ideal S4x704x1024 .bf16
  x11 : Vec Ideal S256x1024 .bf16
  x12 : Vec Ideal S1024x1024 .bf16

variable (A : Args)

/-- Row `t` of the sum before the layer norm. -/
def Args.row (t : Fin 4096) : Fin 1024 → EReal := Ref.row A.x0 A.x1 A.x2 A.x7 t

/-- What the reference holds for token `t`: the incoming gradient and the forward values. -/
def Args.token (t : Fin 4096) : Token where
  dz k := A.x4 (ix2 t k)
  zh k := val_main_v30 (F := Ideal) A.x0 A.x1 A.x2 A.x7 (ix2 t k)
  pg k := val_main_v58 (F := Ideal) A.x0 A.x1 A.x2 A.x5 A.x6 A.x7 A.x12 (ix2 t k)
  ple k := val_main_v44 (F := Ideal) A.x3 A.x11 (ix2 t k)
  g e := val_main_v38 (F := Ideal) A.x0 A.x1 A.x2 A.x5 A.x6 A.x7 A.x8 (ix2 t e)
  u e := val_main_v40 (F := Ideal) A.x0 A.x1 A.x2 A.x5 A.x6 A.x7 A.x9 (ix2 t e)
  r := val_main_v25 (F := Ideal) A.x0 A.x1 A.x2 A.x7 (ix2 t 0)

/-- The weights. -/
def Args.weights : Weights where
  wg e d := val_main_v35 (F := Ideal) A.x8 (ix2 e d)
  wu e d := val_main_v36 (F := Ideal) A.x9 (ix2 e d)
  wd e d := val_main_v45 (F := Ideal) A.x10 (ix2 e d)
  wpg a b := A.x12 (ix2 a b)
  wo a b := A.x7 (ix2 a b)
  gain d := A.x5 (ix2 0 d)

theorem copy_apply (v : Vec Ideal S4096x1024 .f32) (t : Fin 4096) (d : Fin 1024) :
    val_main_v64 (F := Ideal) v (ix2 t d) = v (ix2 t d) := by
  pointwise [val_main_v64]

theorem copy_apply' (v : Vec Ideal S4096x1024 .f32) (t : Fin 4096) (d : Fin 1024) :
    val_main_v65 (F := Ideal) v (ix2 t d) = v (ix2 t d) := by
  pointwise [val_main_v65]

theorem act_apply (t : Fin 4096) (e : Fin 2816) :
    val_main_v71 (F := Ideal) A.x4 A.x10 (ix2 t e) = act A.weights (A.token t) e := by
  simp only [act, Args.token, Args.weights, ← copy_apply A.x4]
  pointwise [val_main_v71, val_main_v48]

theorem sig_apply (t : Fin 4096) (e : Fin 2816) :
    val_main_v46_2 (F := Ideal) A.x0 A.x1 A.x2 A.x5 A.x6 A.x7 A.x8 (ix2 t e) = Row.sig ((A.token t).g e) := by
  rw [Row.sig, zero_sub]
  pointwise [val_main_v46_2, val_main_call0_v4, val_main_call0_cst_0, val_main_call0_v3, val_main_call0_v2,
    val_main_call0_cst, val_main_call0_v1, val_main_call0_v0, Args.token]

/-- The reference's gradient of the gate product. -/
theorem dg_sum (t : Fin 4096) (e : Fin 2816) :
    val_main_v117 (F := Ideal) A.x0 A.x1 A.x2 A.x4 A.x5 A.x6 A.x7 A.x8 A.x9 A.x10 (ix2 t e)
      = act A.weights (A.token t) e * (A.token t).u e * Row.sig ((A.token t).g e)
        + (A.token t).g e * (act A.weights (A.token t) e * (A.token t).u e)
          * (Row.sig ((A.token t).g e) * (1 - Row.sig ((A.token t).g e))) := by
  rw [← act_apply, ← sig_apply]
  pointwise [val_main_v117, val_main_v74, val_main_call1_v1, val_main_call1_v2, val_main_call1_v0, val_main_v73,
    val_main_v46_1, val_main_call0_v7, val_main_call0_v6, val_main_call0_cst_1, Args.token]

theorem du_apply (t : Fin 4096) (e : Fin 2816) :
    val_main_v118 (F := Ideal) A.x0 A.x1 A.x2 A.x4 A.x5 A.x6 A.x7 A.x8 A.x10 (ix2 t e)
      = du A.weights (A.token t) e := by
  rw [du, lift, ← act_apply, ← sig_apply, mul_assoc, mul_comm]
  pointwise [val_main_v118, val_main_v72, val_main_v46_0, Args.token]

theorem dple_apply (t : Fin 4096) (k : Fin 1024) :
    val_main_v120 (F := Ideal) A.x0 A.x1 A.x2 A.x4 A.x5 A.x6 A.x7 A.x12 (ix2 t k) = dple (A.token t) k := by
  simp only [dple, Args.token, ← copy_apply' A.x4]
  rw [mul_comm]
  pointwise [val_main_v120, val_main_v66]

theorem ds_apply (t : Fin 4096) (k : Fin 1024) :
    val_main_v119 (F := Ideal) A.x0 A.x1 A.x2 A.x3 A.x4 A.x5 A.x6 A.x7 A.x11 A.x12 (ix2 t k) = ds (A.token t) k := by
  simp only [ds, Args.token, ← copy_apply' A.x4]
  rw [mul_assoc]
  pointwise [val_main_v119, val_main_v68, val_main_v67, val_main_v61, val_main_v60, val_main_v59, val_main_cst_10]

/-- The arguments are real numbers. -/
structure Args.Real : Prop where
  x0 : ∀ i, IsReal (A.x0 i)
  x1 : ∀ i, IsReal (A.x1 i)
  x2 : ∀ i, IsReal (A.x2 i)
  x3 : ∀ i, IsReal (A.x3 i)
  x4 : ∀ i, IsReal (A.x4 i)
  x5 : ∀ i, IsReal (A.x5 i)
  x6 : ∀ i, IsReal (A.x6 i)
  x7 : ∀ i, IsReal (A.x7 i)
  x8 : ∀ i, IsReal (A.x8 i)
  x9 : ∀ i, IsReal (A.x9 i)
  x10 : ∀ i, IsReal (A.x10 i)
  x11 : ∀ i, IsReal (A.x11 i)
  x12 : ∀ i, IsReal (A.x12 i)

variable {A} (hA : A.Real)
include hA

theorem mixed_real (i : S4096x1024.Idx) : IsReal (val_main_v2 (F := Ideal) A.x1 A.x2 i) := by
  have h0 : ∀ i, IsReal (val_main_v0 (F := Ideal) A.x1 i) := fun i => hA.x1 i
  have h1 : ∀ i, IsReal (val_main_v1 (F := Ideal) A.x2 i) := fun i => hA.x2 i
  rw [eq_ix2 i]
  unfold val_main_v2
  generalize val_main_v0 (F := Ideal) A.x1 = a, val_main_v1 (F := Ideal) A.x2 = b at *
  pointwise
  split_ifs <;> first | exact h0 _ | exact h1 _

theorem row_real (t : Fin 4096) (k : Fin 1024) : IsReal (A.row t k) := by
  have h : A.row t k = alpha * A.x0 (ix2 t k) + ∑ j, val_main_v2 (F := Ideal) A.x1 A.x2 (ix2 t j) * A.x7 (ix2 j k) := by
    pointwise [Args.row, Ref.row, val_main_v7, val_main_v4, val_main_v3, val_main_cst, val_main_v6, val_main_v5, alpha]
  rw [h]
  exact (alpha_real.mul (hA.x0 _)).add (IsReal.sum fun j => (mixed_real hA _).mul (hA.x7 _))

theorem hid_real (t : Fin 4096) (k : Fin 1024) :
    IsReal (val_main_v34 (F := Ideal) A.x0 A.x1 A.x2 A.x5 A.x6 A.x7 (ix2 t k)) := by
  have h : val_main_v34 (F := Ideal) A.x0 A.x1 A.x2 A.x5 A.x6 A.x7 (ix2 t k)
      = val_main_v30 (F := Ideal) A.x0 A.x1 A.x2 A.x7 (ix2 t k) * A.x5 (ix2 0 k) + A.x6 (ix2 0 k) := by
    pointwise [val_main_v34, val_main_v33, val_main_v32, val_main_v31]
  rw [h, norm_apply]
  exact (((IsReal.cent (row_real hA t) k).mul (IsReal.rstd (row_real hA t))).mul (hA.x5 _)).add (hA.x6 _)

theorem gate_real (t : Fin 4096) (e : Fin 2816) : IsReal ((A.token t).g e) := by
  have h : (A.token t).g e = ∑ k, val_main_v34 (F := Ideal) A.x0 A.x1 A.x2 A.x5 A.x6 A.x7 (ix2 t k)
      * val_main_v35 (F := Ideal) A.x8 (ix2 e k) := by
    pointwise [Args.token, val_main_v38, val_main_v37]
  rw [h]
  exact IsReal.sum fun k => (hid_real hA _ _).mul (by rw [val_main_v35_apply]; exact hA.x8 _)

theorem up_real (t : Fin 4096) (e : Fin 2816) : IsReal ((A.token t).u e) := by
  have h : (A.token t).u e = ∑ k, val_main_v34 (F := Ideal) A.x0 A.x1 A.x2 A.x5 A.x6 A.x7 (ix2 t k)
      * val_main_v36 (F := Ideal) A.x9 (ix2 e k) := by
    pointwise [Args.token, val_main_v40, val_main_v39]
  rw [h]
  exact IsReal.sum fun k => (hid_real hA _ _).mul (by rw [val_main_v36_apply]; exact hA.x9 _)

theorem act_real (t : Fin 4096) (e : Fin 2816) : IsReal (act A.weights (A.token t) e) :=
  IsReal.sum fun k => (hA.x4 _).mul (by show IsReal (val_main_v45 (F := Ideal) A.x10 _); rw [val_main_v45_apply]; exact hA.x10 _)

theorem pg_real (t : Fin 4096) (k : Fin 1024) : IsReal ((A.token t).pg k) := by
  have h : (A.token t).pg k = Row.sig (∑ j, val_main_v34 (F := Ideal) A.x0 A.x1 A.x2 A.x5 A.x6 A.x7 (ix2 t j)
      * A.x12 (ix2 j k)) := by
    rw [Row.sig, zero_sub]
    pointwise [Args.token, val_main_v58, val_main_v57, val_main_cst_9, val_main_v56, val_main_v55, val_main_cst_8,
      val_main_v54, val_main_v53, val_main_v42, val_main_v41]
  rw [h]
  exact (IsReal.sum fun j => (hid_real hA _ _).mul (hA.x12 _)).sig

theorem ple_real (t : Fin 4096) (k : Fin 1024) : IsReal ((A.token t).ple k) := by
  have h : (A.token t).ple k = ∑ j, A.x3 (ix2 t j) * A.x11 (ix2 j k) := by
    pointwise [Args.token, val_main_v44, val_main_v43]
  rw [h]
  exact IsReal.sum fun j => (hA.x3 _).mul (hA.x11 _)

theorem dg_apply (t : Fin 4096) (e : Fin 2816) :
    val_main_v117 (F := Ideal) A.x0 A.x1 A.x2 A.x4 A.x5 A.x6 A.x7 A.x8 A.x9 A.x10 (ix2 t e)
      = dg A.weights (A.token t) e := by
  rw [dg_sum, dg, Reals.gate_real (act_real hA t e) (gate_real hA t e) (up_real hA t e)]

theorem dh_apply (t : Fin 4096) (d : Fin 1024) :
    val_main_v80 (F := Ideal) A.x0 A.x1 A.x2 A.x3 A.x4 A.x5 A.x6 A.x7 A.x8 A.x9 A.x10 A.x11 A.x12 (ix2 t d)
      = dh A.weights (A.token t) d := by
  have h : val_main_v80 (F := Ideal) A.x0 A.x1 A.x2 A.x3 A.x4 A.x5 A.x6 A.x7 A.x8 A.x9 A.x10 A.x11 A.x12 (ix2 t d)
      = alpha * val_main_v64 (F := Ideal) A.x4 (ix2 t d)
        + ((∑ k, val_main_v119 (F := Ideal) A.x0 A.x1 A.x2 A.x3 A.x4 A.x5 A.x6 A.x7 A.x11 A.x12 (ix2 t k) * A.x12 (ix2 d k)
          + ∑ e, val_main_v118 (F := Ideal) A.x0 A.x1 A.x2 A.x4 A.x5 A.x6 A.x7 A.x8 A.x10 (ix2 t e)
            * val_main_v36 (F := Ideal) A.x9 (ix2 e d))
          + ∑ e, val_main_v117 (F := Ideal) A.x0 A.x1 A.x2 A.x4 A.x5 A.x6 A.x7 A.x8 A.x9 A.x10 (ix2 t e)
            * val_main_v35 (F := Ideal) A.x8 (ix2 e d)) := by
    pointwise [val_main_v80, val_main_v70, val_main_v69, val_main_cst_11, val_main_v79, val_main_v77, val_main_v75,
      val_main_v76, val_main_v78, val_main_v41, val_main_v39, val_main_v37, val_main_v117, val_main_v118, val_main_v119,
      alpha]
  rw [h, copy_apply]
  simp only [dg_apply hA, du_apply, ds_apply]
  rw [dh, back, Finset.sum_add_distrib]
  exact (show ∀ a s u g : EReal, a + ((s + u) + g) = a + (g + u) + s from fun a s u g => by abel) _ _ _ _

theorem dh_real (t : Fin 4096) (d : Fin 1024) : IsReal (dh A.weights (A.token t) d) := by
  have h8 : ∀ e d, IsReal (A.weights.wg e d) := fun e d => by
    show IsReal (val_main_v35 (F := Ideal) A.x8 _); rw [val_main_v35_apply]; exact hA.x8 _
  have h9 : ∀ e d, IsReal (A.weights.wu e d) := fun e d => by
    show IsReal (val_main_v36 (F := Ideal) A.x9 _); rw [val_main_v36_apply]; exact hA.x9 _
  have h1 : IsReal 1 := ⟨1, rfl⟩
  have hs := fun e => (gate_real hA t e).sig
  have ha := act_real hA t
  have hg := gate_real hA t
  have hu := up_real hA t
  have hdg : ∀ e, IsReal (dg A.weights (A.token t) e) := fun e =>
    (((ha e).mul (hu e)).mul (hs e)).mul (h1.add ((hg e).mul (h1.sub (hs e))))
  have hdu : ∀ e, IsReal (du A.weights (A.token t) e) := fun e => ((ha e).mul (hg e)).mul (hs e)
  have hds : ∀ k, IsReal (ds (A.token t) k) := fun k =>
    (((hA.x4 _).mul (ple_real hA t k)).mul (pg_real hA t k)).mul (h1.sub (pg_real hA t k))
  exact ((alpha_real.mul (hA.x4 _)).add (IsReal.sum fun e => ((hdg e).mul (h8 e d)).add ((hdu e).mul (h9 e d)))).add
    (IsReal.sum fun k => (hds k).mul (hA.x12 _))

theorem bias_apply (d : Fin 1024) :
    val_main_v82 (F := Ideal) A.x0 A.x1 A.x2 A.x3 A.x4 A.x5 A.x6 A.x7 A.x8 A.x9 A.x10 A.x11 A.x12 (ix2 0 d)
      = ∑ t, dh A.weights (A.token t) d := by
  simp only [← dh_apply hA]
  pointwise [val_main_v82, val_main_v81, val_main_cst_12]

theorem gain_apply (d : Fin 1024) :
    val_main_v85 (F := Ideal) A.x0 A.x1 A.x2 A.x3 A.x4 A.x5 A.x6 A.x7 A.x8 A.x9 A.x10 A.x11 A.x12 (ix2 0 d)
      = ∑ t, dh A.weights (A.token t) d * (A.token t).zh d := by
  simp only [← dh_apply hA, mul_comm _ ((A.token _).zh d)]
  pointwise [val_main_v85, val_main_v84, val_main_cst_13, val_main_v83, Args.token]

theorem dzh_apply (t : Fin 4096) (d : Fin 1024) :
    val_main_v87 (F := Ideal) A.x0 A.x1 A.x2 A.x3 A.x4 A.x5 A.x6 A.x7 A.x8 A.x9 A.x10 A.x11 A.x12 (ix2 t d)
      = dzh A.weights (A.token t) d := by
  rw [dzh, ← dh_apply hA]
  pointwise [val_main_v87, val_main_v86, Args.weights]

/-- The weight of the variance's term, one number for a row. -/
theorem pull_apply (t : Fin 4096) :
    val_main_v99 (F := Ideal) A.x0 A.x1 A.x2 A.x3 A.x4 A.x5 A.x6 A.x7 A.x8 A.x9 A.x10 A.x11 A.x12 (ix1 t)
      = pull (dzh A.weights (A.token t)) (cent (A.row t)) (rstd (A.row t)) (vare (A.row t)) half := by
  rw [pull]
  simp only [← dzh_apply hA, Args.row, ← cent_apply', ← rstd_apply, ← vare_apply]
  pointwise [val_main_v99, val_main_cst_17, val_main_v98, val_main_v97, val_main_cst_16, val_main_v93, val_main_v90,
    val_main_v89, val_main_cst_14, val_main_v88, val_main_v28, val_main_v27, val_main_cst_6, val_main_v26, half, width]
  exact Fin.sum_univ_one _

theorem dz1_apply (t : Fin 4096) (d : Fin 1024) :
    val_main_v111 (F := Ideal) A.x0 A.x1 A.x2 A.x3 A.x4 A.x5 A.x6 A.x7 A.x8 A.x9 A.x10 A.x11 A.x12 (ix2 t d)
      = dz1 A.weights (A.token t) d := by
  have e : dz1 A.weights (A.token t) d
      = spread (dzh A.weights (A.token t)) (cent (A.row t)) (rstd (A.row t)) (vare (A.row t)) half two d := by
    rw [← norm_eq (A.row t) (dzh A.weights (A.token t)) (row_real hA t) fun k => (dh_real hA t k).mul (hA.x5 _)]
    simp only [dz1, mean1, mean2, Args.token, rstd_apply, norm_apply]
    rfl
  rw [e, spread]
  simp only [← pull_apply hA]
  simp only [← dzh_apply hA, Args.row, ← cent_apply, ← rstd_apply]
  pointwise [val_main_v111, val_main_v110, val_main_v109, val_main_cst_20, val_main_v108, val_main_v107, val_main_cst_19,
    val_main_v106, val_main_v105, val_main_v104, val_main_v103, val_main_cst_18, val_main_v102, val_main_v101,
    val_main_v100, val_main_v96, val_main_v95, val_main_cst_15, val_main_v94, val_main_v92, val_main_v91, val_main_v16,
    val_main_v15, val_main_cst_2, two, width]
  rw [Fin.sum_univ_one]

theorem dyr_apply (t : Fin 4096) (j : Fin 512) :
    val_main_v116 (F := Ideal) A.x0 A.x1 A.x2 A.x3 A.x4 A.x5 A.x6 A.x7 A.x8 A.x9 A.x10 A.x11 A.x12 (ix2 t j)
      = dy A.weights (A.token t) ⟨j, by omega⟩ := by
  simp only [dy, ← dz1_apply hA]
  pointwise [val_main_v116, val_main_v113, val_main_v112, val_main_v5, Args.weights]

theorem dya_apply (t : Fin 4096) (j : Fin 512) :
    val_main_v115 (F := Ideal) A.x0 A.x1 A.x2 A.x3 A.x4 A.x5 A.x6 A.x7 A.x8 A.x9 A.x10 A.x11 A.x12 (ix2 t j)
      = dy A.weights (A.token t) ⟨512 + j, by omega⟩ := by
  simp only [dy, ← dz1_apply hA]
  pointwise [val_main_v115, val_main_v114, val_main_v112, val_main_v5, Args.weights]

end Cert.Ref
-- ==== Proof.Finite.lean ====
module

public import proofs.«01_k».proof.Proof.Ref
public import proofs.«01_k».proof.Proof.Gen.Pre_finite
public import Idealize.ShloMosaic.Lib.ReduceAll
public import Idealize.ShloMosaic.Lib.Pointwise

/-! The precondition, read: when `finite` of the thirteen arguments is one, every element of every argument is a real
number. -/

@[expose] public section

noncomputable section

namespace Cert.Finite

open Cert.Reals Cert.Ref
open Idealize.ShloMosaic

/-- An extended real whose absolute value is below the constant `+∞` is a real number. -/
theorem real_of_lt {x : EReal} (h : Ideal.cmp .olt (max x (-x)) (Ideal.ofBits .f32 0x7F800000#32) = 1) : IsReal x := by
  have top : Ideal.ofBits .f32 0x7F800000#32 = ⊤ := by simp [Ideal.ofBits, Ideal.ieee]
  rw [Ideal.cmp_olt_eq_one, top, max_lt_iff] at h
  refine ⟨x.toReal, (EReal.coe_toReal h.1.ne fun e => ?_).symm⟩
  simp [e] at h

/-- Two flags whose conjunction is one are both one. -/
theorem both {a b : BitVec 1} (h : IntOp.andi a b = 1#1) : a = 1#1 ∧ b = 1#1 := by
  revert a b; decide

/-- One array's part of the precondition: all its absolute values are below `+∞`, so its elements are real. -/
theorem all_real {s u : Shape} [Subsingleton u.Idx] {axes : List (Fin s.rank)} (x : FVec Ideal s .f32)
    (d : Fin u.rank → Fin s.rank) (hb : u.BroadcastsInDim s d) (hr : s.ReducesTo axes u) (hu : 0 < u.numel) (j : u.Idx)
    (e : Host.reduce IntOp.andi (cmpf .olt (Host.absf x) (broadcastInDim s d hb (constant u .f32 0x7F800000#32)))
      (constantI u 1 1#1) hr hu j = 1#1) (i : s.Idx) : IsReal (x i) :=
  real_of_lt (Host.reduce_andi_all _ _ hr hu j e i)

/-- The arguments are real numbers where `finite` of them is one. -/
theorem real (A : Args) (h : Cert.Pre_finite.fn (F := Ideal) A.x0 A.x1 A.x2 A.x3 A.x4 A.x5 A.x6 A.x7 A.x8 A.x9 A.x10 A.x11 A.x12
    = fun _ => 1#1) : A.Real := by
  have j : Cert.Pre_finite.S_.Idx := Shape.Idx.first Cert.Pre_finite.Gen.h_S_
  haveI : Subsingleton Cert.Pre_finite.S_.Idx := ⟨fun a b => funext fun k => k.elim0⟩
  have h0 := congrFun h j
  obtain ⟨h1, e12⟩ := both h0
  obtain ⟨h2, e11⟩ := both h1
  obtain ⟨h3, e10⟩ := both h2
  obtain ⟨h4, e9⟩ := both h3
  obtain ⟨h5, e8⟩ := both h4
  obtain ⟨h6, e7⟩ := both h5
  obtain ⟨h7, e6⟩ := both h6
  obtain ⟨h8, e5⟩ := both h7
  obtain ⟨h9, e4⟩ := both h8
  obtain ⟨h10, e3⟩ := both h9
  obtain ⟨h11, e2⟩ := both h10
  obtain ⟨e0, e1⟩ := both h11
  exact ⟨all_real _ _ _ _ _ j e0, all_real _ _ _ _ _ j e1, all_real _ _ _ _ _ j e2, all_real _ _ _ _ _ j e3, all_real _ _ _ _ _ j e4,
    all_real _ _ _ _ _ j e5, all_real _ _ _ _ _ j e6, all_real _ _ _ _ _ j e7, all_real _ _ _ _ _ j e8, all_real _ _ _ _ _ j e9,
    all_real _ _ _ _ _ j e10, all_real _ _ _ _ _ j e11, all_real _ _ _ _ _ j e12⟩

end Cert.Finite
-- ==== Proof.RunA.lean ====
module

public import proofs.«01_k».proof.Proof.Gen.KernelIdeal.Frame.Runs

/-! One run of the kernel's body at the first grid point: the weights are copied in quarters, several copies into one
scratch in flight together, so every copy is lent its own window of the scratch and of the array it reads. -/

@[expose] public section

-- the long axes of the blocks need a deep recursion
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1260000 in set_option sl_exec.dmaWindow true in set_option sl_exec.dmaWindowSet true in
/-- The body's run at the first grid point, where the weights are copied into the scratch and the two sums start at zero.
    For each output's buffer and each scratch it gives the list of pieces the body writes there, last first. It proves
    that the body, holding its inputs' blocks, the outputs' buffers, the scratch and the arrays in HBM that it copies
    from, runs to an end where the inputs and those arrays are as they were, the copies have been waited for and their
    semaphores are at zero, and each buffer holds its pieces. -/
noncomputable def kernelRun0_A (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .f32) (harg6 : arg6.IsWhole) (arg7 : Memref sig .tc .vmem S256x1 .f32) (harg7 : arg7.IsWhole) (arg8 : Memref sig .tc .vmem S1x1024 .f32) (harg8 : arg8.IsWhole) (arg14 : Memref sig .tc .vmem S256x2816 .bf16) (harg14 : arg14.IsWhole) (arg15 : Memref sig .tc .vmem S256x2816 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x1024 .f32) (harg18 : arg18.IsWhole) (arg19 : Memref sig .tc .vmem S256x512 .bf16) (harg19 : arg19.IsWhole) (arg20 : Memref sig .tc .vmem S256x512 .bf16) (harg20 : arg20.IsWhole) (arg21 : Memref sig .tc .vmem S1x1024 .f32) (harg21 : arg21.IsWhole) (arg22 : Memref sig .tc .vmem S1x1024 .f32) (harg22 : arg22.IsWhole) (arg23 : Memref sig .tc .vmem S2816x1024 .bf16) (harg23 : arg23.IsWhole) (arg24 : Memref sig .tc .vmem S2816x1024 .bf16) (harg24 : arg24.IsWhole) (arg25 : Memref sig .tc .vmem S2816x1024 .bf16) (harg25 : arg25.IsWhole) (arg26 : Memref sig .tc .vmem S1024x1024 .bf16) (harg26 : arg26.IsWhole) (arg27 : Memref sig .tc .vmem S1024x1024 .bf16) (harg27 : arg27.IsWhole) (hc0 : cond0_0 i) (hc1 : cond0_1 i)
    (x0 : Vec F S256x1024 .f32) (x1 : Vec F S256x2816 .bf16) (x2 : Vec F S256x2816 .bf16) (x3 : Vec F S256x1024 .bf16) (x4 : Vec F S256x1024 .bf16) (x5 : Vec F S256x1024 .f32) (x6 : Vec F S256x1 .f32) (x7 : Vec F S1x1024 .f32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) :
    Σ' (L8 : List (View.Piece (Elt F) S256x2816 .bf16)), Σ' (L9 : List (View.Piece (Elt F) S256x2816 .bf16)), Σ' (L10 : List (View.Piece (Elt F) S256x1024 .bf16)), Σ' (L11 : List (View.Piece (Elt F) S256x1024 .bf16)), Σ' (L12 : List (View.Piece (Elt F) S256x1024 .f32)), Σ' (L13 : List (View.Piece (Elt F) S256x512 .bf16)), Σ' (L14 : List (View.Piece (Elt F) S256x512 .bf16)), Σ' (L15 : List (View.Piece (Elt F) S1x1024 .f32)), Σ' (L16 : List (View.Piece (Elt F) S1x1024 .f32)), Σ' (LS0 : List (View.Piece (Elt F) S2816x1024 .bf16)), Σ' (LS1 : List (View.Piece (Elt F) S2816x1024 .bf16)), Σ' (LS2 : List (View.Piece (Elt F) S2816x1024 .bf16)), Σ' (LS3 : List (View.Piece (Elt F) S1024x1024 .bf16)), { LS4 : List (View.Piece (Elt F) S1024x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ hbPt0 c hbM0_0 fh0 ∗ hbPt0 c hbM0_1 fh1 ∗ hbPt0 c hbM0_2 fh2 ∗ hbPt0 c hbM0_3 fh3 ∗ hbPt0 c hbM0_4 fh4 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg14.view.loc (c : Thread nD τ) ↦[arg14.view.set]{fullShare} arg14.view.writes (Elt F) f L8) ∗ (∃ f, arg15.view.loc (c : Thread nD τ) ↦[arg15.view.set]{fullShare} arg15.view.writes (Elt F) f L9) ∗ (∃ f, arg16.view.loc (c : Thread nD τ) ↦[arg16.view.set]{fullShare} arg16.view.writes (Elt F) f L10) ∗ (∃ f, arg17.view.loc (c : Thread nD τ) ↦[arg17.view.set]{fullShare} arg17.view.writes (Elt F) f L11) ∗ (∃ f, arg18.view.loc (c : Thread nD τ) ↦[arg18.view.set]{fullShare} arg18.view.writes (Elt F) f L12) ∗ (∃ f, arg19.view.loc (c : Thread nD τ) ↦[arg19.view.set]{fullShare} arg19.view.writes (Elt F) f L13) ∗ (∃ f, arg20.view.loc (c : Thread nD τ) ↦[arg20.view.set]{fullShare} arg20.view.writes (Elt F) f L14) ∗ (∃ f, arg21.view.loc (c : Thread nD τ) ↦[arg21.view.set]{fullShare} arg21.view.writes (Elt F) f L15) ∗ (∃ f, arg22.view.loc (c : Thread nD τ) ↦[arg22.view.set]{fullShare} arg22.view.writes (Elt F) f L16) ∗ (∃ f, arg23.view.loc (c : Thread nD τ) ↦[arg23.view.set]{fullShare} arg23.view.writes (Elt F) f LS0) ∗ (∃ f, arg24.view.loc (c : Thread nD τ) ↦[arg24.view.set]{fullShare} arg24.view.writes (Elt F) f LS1) ∗ (∃ f, arg25.view.loc (c : Thread nD τ) ↦[arg25.view.set]{fullShare} arg25.view.writes (Elt F) f LS2) ∗ (∃ f, arg26.view.loc (c : Thread nD τ) ↦[arg26.view.set]{fullShare} arg26.view.writes (Elt F) f LS3) ∗ (∃ f, arg27.view.loc (c : Thread nD τ) ↦[arg27.view.set]{fullShare} arg27.view.writes (Elt F) f LS4) ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ hbPt0 c hbM0_0 fh0 ∗ hbPt0 c hbM0_1 fh1 ∗ hbPt0 c hbM0_2 fh2 ∗ hbPt0 c hbM0_3 fh3 ∗ hbPt0 c hbM0_4 fh4 ∗ (∃ W', owes (c : Thread nD τ) 0 W')) -∗ K ⟨⟩))
          ⊢ wp frame (wpE (defs₀ (F := F)) Variants.none c none) Set.univ (cc0_ffn_bwd i arg1 harg1 arg2 harg2 arg3 harg3 arg4 harg4 arg5 harg5 arg6 harg6 arg7 harg7 arg8 harg8 (Memref.whole main_v28) (Memref.isWhole_whole _) (Memref.whole main_v29) (Memref.isWhole_whole _) (Memref.whole main_v30) (Memref.isWhole_whole _) (Memref.whole main_arg12) (Memref.isWhole_whole _) (Memref.whole main_arg7) (Memref.isWhole_whole _) arg14 harg14 arg15 harg15 arg16 harg16 arg17 harg17 arg18 harg18 arg19 harg19 arg20 harg20 arg21 harg21 arg22 harg22 arg23 harg23 arg24 harg24 arg25 harg25 arg26 harg26 arg27 harg27 cc0_scratch5) K } := by
  refine ⟨?_, ?_, ?_, ?_, ?_, ?_, ?_, ?_, ?_, ?_, ?_, ?_, ?_, ?_, fun W K => ?run⟩
  case run =>
    simp only [cc0_ffn_bwd_eq_skeleton]; unfold cc0_ffn_bwd_skel
    simp only [k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, ⟨%ds1, %fs1, -, HS1⟩, ⟨%ds2, %fs2, -, HS2⟩, ⟨%ds3, %fs3, -, HS3⟩, ⟨%ds4, %fs4, -, HS4⟩, Hq0, Hq1, Hq2, Hq3, Hq4, Hq5, Hq6, Hq7, Hq8, Hq9, Hq10, Hq11, Hq12, Hq13, Hh0, Hh1, Hh2, Hh3, Hh4, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hh0]; · iexact Hh0
    isplitl [Hh1]; · iexact Hh1
    isplitl [Hh2]; · iexact Hh2
    isplitl [Hh3]; · iexact Hh3
    isplitl [Hh4]; · iexact Hh4
    iexists _; iexact HW

end Cert.KernelIdeal.Run

end
-- ==== Proof.RunB.lean ====
module

public import proofs.«01_k».proof.Proof.Gen.KernelIdeal.Frame.Runs

/-! One run of the kernel's body at every later grid point: the weights lie in the scratch already. -/

@[expose] public section

-- the long axes of the blocks need a deep recursion
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1600000 in
/-- The body's run at the later grid points, where the scratch already holds the weights and the two sums go on.
    For each output's buffer and each scratch it gives the list of pieces the body writes there, last first. It proves
    that the body, holding its inputs' blocks, the outputs' buffers, the scratch and the arrays in HBM that it copies
    from, runs to an end where the inputs and those arrays are as they were, the copies have been waited for and their
    semaphores are at zero, and each buffer holds its pieces. -/
noncomputable def kernelRun0_B (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .f32) (harg6 : arg6.IsWhole) (arg7 : Memref sig .tc .vmem S256x1 .f32) (harg7 : arg7.IsWhole) (arg8 : Memref sig .tc .vmem S1x1024 .f32) (harg8 : arg8.IsWhole) (arg14 : Memref sig .tc .vmem S256x2816 .bf16) (harg14 : arg14.IsWhole) (arg15 : Memref sig .tc .vmem S256x2816 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x1024 .f32) (harg18 : arg18.IsWhole) (arg19 : Memref sig .tc .vmem S256x512 .bf16) (harg19 : arg19.IsWhole) (arg20 : Memref sig .tc .vmem S256x512 .bf16) (harg20 : arg20.IsWhole) (arg21 : Memref sig .tc .vmem S1x1024 .f32) (harg21 : arg21.IsWhole) (arg22 : Memref sig .tc .vmem S1x1024 .f32) (harg22 : arg22.IsWhole) (arg23 : Memref sig .tc .vmem S2816x1024 .bf16) (harg23 : arg23.IsWhole) (arg24 : Memref sig .tc .vmem S2816x1024 .bf16) (harg24 : arg24.IsWhole) (arg25 : Memref sig .tc .vmem S2816x1024 .bf16) (harg25 : arg25.IsWhole) (arg26 : Memref sig .tc .vmem S1024x1024 .bf16) (harg26 : arg26.IsWhole) (arg27 : Memref sig .tc .vmem S1024x1024 .bf16) (harg27 : arg27.IsWhole) (hc0 : ¬cond0_0 i) (hc1 : ¬cond0_1 i)
    (x0 : Vec F S256x1024 .f32) (x1 : Vec F S256x2816 .bf16) (x2 : Vec F S256x2816 .bf16) (x3 : Vec F S256x1024 .bf16) (x4 : Vec F S256x1024 .bf16) (x5 : Vec F S256x1024 .f32) (x6 : Vec F S256x1 .f32) (x7 : Vec F S1x1024 .f32) (xo15 : Vec F S1x1024 .f32) (xo16 : Vec F S1x1024 .f32) (xs0 : Vec F S2816x1024 .bf16) (xs1 : Vec F S2816x1024 .bf16) (xs2 : Vec F S2816x1024 .bf16) (xs3 : Vec F S1024x1024 .bf16) (xs4 : Vec F S1024x1024 .bf16) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) :
    Σ' (L8 : List (View.Piece (Elt F) S256x2816 .bf16)), Σ' (L9 : List (View.Piece (Elt F) S256x2816 .bf16)), Σ' (L10 : List (View.Piece (Elt F) S256x1024 .bf16)), Σ' (L11 : List (View.Piece (Elt F) S256x1024 .bf16)), Σ' (L12 : List (View.Piece (Elt F) S256x1024 .f32)), Σ' (L13 : List (View.Piece (Elt F) S256x512 .bf16)), Σ' (L14 : List (View.Piece (Elt F) S256x512 .bf16)), Σ' (L15 : List (View.Piece (Elt F) S1x1024 .f32)), Σ' (L16 : List (View.Piece (Elt F) S1x1024 .f32)), Σ' (LS0 : List (View.Piece (Elt F) S2816x1024 .bf16)), Σ' (LS1 : List (View.Piece (Elt F) S2816x1024 .bf16)), Σ' (LS2 : List (View.Piece (Elt F) S2816x1024 .bf16)), Σ' (LS3 : List (View.Piece (Elt F) S1024x1024 .bf16)), { LS4 : List (View.Piece (Elt F) S1024x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xo15 ∗ owns (c : Thread nD τ) arg22 fullShare xo16 ∗ owns (c : Thread nD τ) arg23 fullShare xs0 ∗ owns (c : Thread nD τ) arg24 fullShare xs1 ∗ owns (c : Thread nD τ) arg25 fullShare xs2 ∗ owns (c : Thread nD τ) arg26 fullShare xs3 ∗ owns (c : Thread nD τ) arg27 fullShare xs4 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ hbPt0 c hbM0_0 fh0 ∗ hbPt0 c hbM0_1 fh1 ∗ hbPt0 c hbM0_2 fh2 ∗ hbPt0 c hbM0_3 fh3 ∗ hbPt0 c hbM0_4 fh4 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg14.view.loc (c : Thread nD τ) ↦[arg14.view.set]{fullShare} arg14.view.writes (Elt F) f L8) ∗ (∃ f, arg15.view.loc (c : Thread nD τ) ↦[arg15.view.set]{fullShare} arg15.view.writes (Elt F) f L9) ∗ (∃ f, arg16.view.loc (c : Thread nD τ) ↦[arg16.view.set]{fullShare} arg16.view.writes (Elt F) f L10) ∗ (∃ f, arg17.view.loc (c : Thread nD τ) ↦[arg17.view.set]{fullShare} arg17.view.writes (Elt F) f L11) ∗ (∃ f, arg18.view.loc (c : Thread nD τ) ↦[arg18.view.set]{fullShare} arg18.view.writes (Elt F) f L12) ∗ (∃ f, arg19.view.loc (c : Thread nD τ) ↦[arg19.view.set]{fullShare} arg19.view.writes (Elt F) f L13) ∗ (∃ f, arg20.view.loc (c : Thread nD τ) ↦[arg20.view.set]{fullShare} arg20.view.writes (Elt F) f L14) ∗ (∃ f, arg21.view.loc (c : Thread nD τ) ↦[arg21.view.set]{fullShare} arg21.view.writes (Elt F) f L15) ∗ (∃ f, arg22.view.loc (c : Thread nD τ) ↦[arg22.view.set]{fullShare} arg22.view.writes (Elt F) f L16) ∗ owns (c : Thread nD τ) arg23 fullShare xs0 ∗ owns (c : Thread nD τ) arg24 fullShare xs1 ∗ owns (c : Thread nD τ) arg25 fullShare xs2 ∗ owns (c : Thread nD τ) arg26 fullShare xs3 ∗ owns (c : Thread nD τ) arg27 fullShare xs4 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ hbPt0 c hbM0_0 fh0 ∗ hbPt0 c hbM0_1 fh1 ∗ hbPt0 c hbM0_2 fh2 ∗ hbPt0 c hbM0_3 fh3 ∗ hbPt0 c hbM0_4 fh4 ∗ (∃ W', owes (c : Thread nD τ) 0 W')) -∗ K ⟨⟩))
          ⊢ wp frame (wpE (defs₀ (F := F)) Variants.none c none) Set.univ (cc0_ffn_bwd i arg1 harg1 arg2 harg2 arg3 harg3 arg4 harg4 arg5 harg5 arg6 harg6 arg7 harg7 arg8 harg8 (Memref.whole main_v28) (Memref.isWhole_whole _) (Memref.whole main_v29) (Memref.isWhole_whole _) (Memref.whole main_v30) (Memref.isWhole_whole _) (Memref.whole main_arg12) (Memref.isWhole_whole _) (Memref.whole main_arg7) (Memref.isWhole_whole _) arg14 harg14 arg15 harg15 arg16 harg16 arg17 harg17 arg18 harg18 arg19 harg19 arg20 harg20 arg21 harg21 arg22 harg22 arg23 harg23 arg24 harg24 arg25 harg25 arg26 harg26 arg27 harg27 cc0_scratch5) K } := by
  refine ⟨?_, ?_, ?_, ?_, ?_, ?_, ?_, ?_, ?_, [], [], [], [], [], fun W K => ?run⟩
  case run =>
    simp only [cc0_ffn_bwd_eq_skeleton]; unfold cc0_ffn_bwd_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%f15, %hf15, H15⟩, ⟨%f16, %hf16, H16⟩, ⟨%fs0, %hfs0, HS0⟩, ⟨%fs1, %hfs1, HS1⟩, ⟨%fs2, %hfs2, HS2⟩, ⟨%fs3, %hfs3, HS3⟩, ⟨%fs4, %hfs4, HS4⟩, Hq0, Hq1, Hq2, Hq3, Hq4, Hq5, Hq6, Hq7, Hq8, Hq9, Hq10, Hq11, Hq12, Hq13, Hh0, Hh1, Hh2, Hh3, Hh4, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg21.eq_unread hf15; obtain rfl := harg22.eq_unread hf16; obtain rfl := harg23.eq_unread hfs0; obtain rfl := harg24.eq_unread hfs1; obtain rfl := harg25.eq_unread hfs2; obtain rfl := harg26.eq_unread hfs3; obtain rfl := harg27.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]
    · iexists _; isplitr; · ipureintro; exact harg23.read_unread _
      iexact HS0
    isplitl [HS1]
    · iexists _; isplitr; · ipureintro; exact harg24.read_unread _
      iexact HS1
    isplitl [HS2]
    · iexists _; isplitr; · ipureintro; exact harg25.read_unread _
      iexact HS2
    isplitl [HS3]
    · iexists _; isplitr; · ipureintro; exact harg26.read_unread _
      iexact HS3
    isplitl [HS4]
    · iexists _; isplitr; · ipureintro; exact harg27.read_unread _
      iexact HS4
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hh0]; · iexact Hh0
    isplitl [Hh1]; · iexact Hh1
    isplitl [Hh2]; · iexact Hh2
    isplitl [Hh3]; · iexact Hh3
    isplitl [Hh4]; · iexact Hh4
    iexists _; iexact HW

end Cert.KernelIdeal.Run

end
-- ==== Proof.Frame.lean ====
module

public import proofs.«01_k».proof.Proof.RunA
public import proofs.«01_k».proof.Proof.RunB
public import Idealize.ShloMosaic.Lib.Claim

/-! The frame of the kernel's one region from the two runs of its body: what every output buffer and every scratch holds
after each grid point, the invariant between points, and the launch. -/

@[expose] public section

-- the long axes of the blocks need a deep recursion
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- The run of the first point's case, at point `t`'s buffers and input blocks. -/
@[reducible] def runA (c : Dev nD) (t : Fin cfg0.N) (h0 : t.val % 16 = 0) (h1 : t.val % 16 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (V m c main_v28) (V m c main_v29) (V m c main_v30) (V m c main_arg12) (V m c main_arg7)

/-- The run of the later points' case, at point `t`'s buffers and input blocks, over what the point before left. -/
@[reducible] def runB (c : Dev nD) (t : Fin cfg0.N) (h0 : ¬t.val % 16 = 0) (h1 : ¬t.val % 16 = 0) (xo15 : Vec F S1x1024 .f32) (xo16 : Vec F S1x1024 .f32) (xs0 : Vec F S2816x1024 .bf16) (xs1 : Vec F S2816x1024 .bf16) (xs2 : Vec F S2816x1024 .bf16) (xs3 : Vec F S1024x1024 .bf16) (xs4 : Vec F S1024x1024 .bf16) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) xo15 xo16 xs0 xs1 xs2 xs3 xs4 (V m c main_v28) (V m c main_v29) (V m c main_v30) (V m c main_arg12) (V m c main_arg7)

/-- Case A's pieces for output 8 tile its block, so they cover it. -/
theorem cover0_A_8 (c : Dev nD) (t : Fin cfg0.N) (h0 : t.val % 16 = 0) (h1 : t.val % 16 = 0) (y : S256x2816.Idx) :
    ∃ pc ∈ (runA m c t h0 h1).1, y ∈ pc.1.set :=
  View.cover_of_tiledL (runA m c t h0 h1).1 S256x256.size (by sl_kernel_rfl) y

/-- What case A leaves in output 8's staging buffer: its pieces read back over anything. -/
def out0_A_8 (c : Dev nD) (t : Fin cfg0.N) (h0 : t.val % 16 = 0) (h1 : t.val % 16 = 0) : Vec F S256x2816 .bf16 :=
  VO0_8.read (Elt F) (VO0_8.writes (Elt F) VO0_8.junk (runA m c t h0 h1).1)

/-- Case A's pieces for output 9 tile its block, so they cover it. -/
theorem cover0_A_9 (c : Dev nD) (t : Fin cfg0.N) (h0 : t.val % 16 = 0) (h1 : t.val % 16 = 0) (y : S256x2816.Idx) :
    ∃ pc ∈ (runA m c t h0 h1).2.1, y ∈ pc.1.set :=
  View.cover_of_tiledL (runA m c t h0 h1).2.1 S256x256.size (by sl_kernel_rfl) y

/-- What case A leaves in output 9's staging buffer: its pieces read back over anything. -/
def out0_A_9 (c : Dev nD) (t : Fin cfg0.N) (h0 : t.val % 16 = 0) (h1 : t.val % 16 = 0) : Vec F S256x2816 .bf16 :=
  VO0_9.read (Elt F) (VO0_9.writes (Elt F) VO0_9.junk (runA m c t h0 h1).2.1)

/-- Case A's pieces for output 10 tile its block, so they cover it. -/
theorem cover0_A_10 (c : Dev nD) (t : Fin cfg0.N) (h0 : t.val % 16 = 0) (h1 : t.val % 16 = 0) (y : S256x1024.Idx) :
    ∃ pc ∈ (runA m c t h0 h1).2.2.1, y ∈ pc.1.set :=
  View.cover_of_tiledL (runA m c t h0 h1).2.2.1 S256x1024.size (by sl_kernel_rfl) y

/-- What case A leaves in output 10's staging buffer: its pieces read back over anything. -/
def out0_A_10 (c : Dev nD) (t : Fin cfg0.N) (h0 : t.val % 16 = 0) (h1 : t.val % 16 = 0) : Vec F S256x1024 .bf16 :=
  VO0_10.read (Elt F) (VO0_10.writes (Elt F) VO0_10.junk (runA m c t h0 h1).2.2.1)

/-- Case A's pieces for output 11 tile its block, so they cover it. -/
theorem cover0_A_11 (c : Dev nD) (t : Fin cfg0.N) (h0 : t.val % 16 = 0) (h1 : t.val % 16 = 0) (y : S256x1024.Idx) :
    ∃ pc ∈ (runA m c t h0 h1).2.2.2.1, y ∈ pc.1.set :=
  View.cover_of_tiledL (runA m c t h0 h1).2.2.2.1 S256x1024.size (by sl_kernel_rfl) y

/-- What case A leaves in output 11's staging buffer: its pieces read back over anything. -/
def out0_A_11 (c : Dev nD) (t : Fin cfg0.N) (h0 : t.val % 16 = 0) (h1 : t.val % 16 = 0) : Vec F S256x1024 .bf16 :=
  VO0_11.read (Elt F) (VO0_11.writes (Elt F) VO0_11.junk (runA m c t h0 h1).2.2.2.1)

/-- Case A's pieces for output 12 tile its block, so they cover it. -/
theorem cover0_A_12 (c : Dev nD) (t : Fin cfg0.N) (h0 : t.val % 16 = 0) (h1 : t.val % 16 = 0) (y : S256x1024.Idx) :
    ∃ pc ∈ (runA m c t h0 h1).2.2.2.2.1, y ∈ pc.1.set :=
  View.cover_of_tiledL (runA m c t h0 h1).2.2.2.2.1 S256x1024.size (by sl_kernel_rfl) y

/-- What case A leaves in output 12's staging buffer: its pieces read back over anything. -/
def out0_A_12 (c : Dev nD) (t : Fin cfg0.N) (h0 : t.val % 16 = 0) (h1 : t.val % 16 = 0) : Vec F S256x1024 .f32 :=
  VO0_12.read (Elt F) (VO0_12.writes (Elt F) VO0_12.junk (runA m c t h0 h1).2.2.2.2.1)

/-- Case A's pieces for output 13 tile its block, so they cover it. -/
theorem cover0_A_13 (c : Dev nD) (t : Fin cfg0.N) (h0 : t.val % 16 = 0) (h1 : t.val % 16 = 0) (y : S256x512.Idx) :
    ∃ pc ∈ (runA m c t h0 h1).2.2.2.2.2.1, y ∈ pc.1.set :=
  View.cover_of_tiledL (runA m c t h0 h1).2.2.2.2.2.1 S256x512.size (by sl_kernel_rfl) y

/-- What case A leaves in output 13's staging buffer: its pieces read back over anything. -/
def out0_A_13 (c : Dev nD) (t : Fin cfg0.N) (h0 : t.val % 16 = 0) (h1 : t.val % 16 = 0) : Vec F S256x512 .bf16 :=
  VO0_13.read (Elt F) (VO0_13.writes (Elt F) VO0_13.junk (runA m c t h0 h1).2.2.2.2.2.1)

/-- Case A's pieces for output 14 tile its block, so they cover it. -/
theorem cover0_A_14 (c : Dev nD) (t : Fin cfg0.N) (h0 : t.val % 16 = 0) (h1 : t.val % 16 = 0) (y : S256x512.Idx) :
    ∃ pc ∈ (runA m c t h0 h1).2.2.2.2.2.2.1, y ∈ pc.1.set :=
  View.cover_of_tiledL (runA m c t h0 h1).2.2.2.2.2.2.1 S256x512.size (by sl_kernel_rfl) y

/-- What case A leaves in output 14's staging buffer: its pieces read back over anything. -/
def out0_A_14 (c : Dev nD) (t : Fin cfg0.N) (h0 : t.val % 16 = 0) (h1 : t.val % 16 = 0) : Vec F S256x512 .bf16 :=
  VO0_14.read (Elt F) (VO0_14.writes (Elt F) VO0_14.junk (runA m c t h0 h1).2.2.2.2.2.2.1)

/-- Case A's pieces for output 15 tile its block, so they cover it. -/
theorem cover0_A_15 (c : Dev nD) (t : Fin cfg0.N) (h0 : t.val % 16 = 0) (h1 : t.val % 16 = 0) (y : S1x1024.Idx) :
    ∃ pc ∈ (runA m c t h0 h1).2.2.2.2.2.2.2.1, y ∈ pc.1.set :=
  View.cover_of_tiledL (runA m c t h0 h1).2.2.2.2.2.2.2.1 S1x1024.size (by sl_kernel_rfl) y

/-- What case A leaves in output 15's staging buffer: its pieces read back over anything. -/
def out0_A_15 (c : Dev nD) (t : Fin cfg0.N) (h0 : t.val % 16 = 0) (h1 : t.val % 16 = 0) : Vec F S1x1024 .f32 :=
  VO0_15.read (Elt F) (VO0_15.writes (Elt F) VO0_15.junk (runA m c t h0 h1).2.2.2.2.2.2.2.1)

/-- Case A's pieces for output 16 tile its block, so they cover it. -/
theorem cover0_A_16 (c : Dev nD) (t : Fin cfg0.N) (h0 : t.val % 16 = 0) (h1 : t.val % 16 = 0) (y : S1x1024.Idx) :
    ∃ pc ∈ (runA m c t h0 h1).2.2.2.2.2.2.2.2.1, y ∈ pc.1.set :=
  View.cover_of_tiledL (runA m c t h0 h1).2.2.2.2.2.2.2.2.1 S1x1024.size (by sl_kernel_rfl) y

/-- What case A leaves in output 16's staging buffer: its pieces read back over anything. -/
def out0_A_16 (c : Dev nD) (t : Fin cfg0.N) (h0 : t.val % 16 = 0) (h1 : t.val % 16 = 0) : Vec F S1x1024 .f32 :=
  VO0_16.read (Elt F) (VO0_16.writes (Elt F) VO0_16.junk (runA m c t h0 h1).2.2.2.2.2.2.2.2.1)

/-- Case A's pieces for scratch `arg23`, which the kernel carries between points, cover it: 4 pieces of `S704x1024` tiling it. -/
theorem scover0_A_0 (c : Dev nD) (t : Fin cfg0.N) (h0 : t.val % 16 = 0) (h1 : t.val % 16 = 0) (y : S2816x1024.Idx) :
    ∃ pc ∈ (runA m c t h0 h1).2.2.2.2.2.2.2.2.2.1, y ∈ pc.1.set :=
  View.cover_of_tiledL (runA m c t h0 h1).2.2.2.2.2.2.2.2.2.1 S704x1024.size (by sl_kernel_rfl) y

/-- What case A leaves in scratch `arg23`: its pieces read back over anything. -/
def sout0_A_0 (c : Dev nD) (t : Fin cfg0.N) (h0 : t.val % 16 = 0) (h1 : t.val % 16 = 0) : Vec F S2816x1024 .bf16 :=
  VS0_0.read (Elt F) (VS0_0.writes (Elt F) VS0_0.junk (runA m c t h0 h1).2.2.2.2.2.2.2.2.2.1)

/-- Case A's pieces for scratch `arg24`, which the kernel carries between points, cover it: 4 pieces of `S704x1024` tiling it. -/
theorem scover0_A_1 (c : Dev nD) (t : Fin cfg0.N) (h0 : t.val % 16 = 0) (h1 : t.val % 16 = 0) (y : S2816x1024.Idx) :
    ∃ pc ∈ (runA m c t h0 h1).2.2.2.2.2.2.2.2.2.2.1, y ∈ pc.1.set :=
  View.cover_of_tiledL (runA m c t h0 h1).2.2.2.2.2.2.2.2.2.2.1 S704x1024.size (by sl_kernel_rfl) y

/-- What case A leaves in scratch `arg24`: its pieces read back over anything. -/
def sout0_A_1 (c : Dev nD) (t : Fin cfg0.N) (h0 : t.val % 16 = 0) (h1 : t.val % 16 = 0) : Vec F S2816x1024 .bf16 :=
  VS0_1.read (Elt F) (VS0_1.writes (Elt F) VS0_1.junk (runA m c t h0 h1).2.2.2.2.2.2.2.2.2.2.1)

/-- Case A's pieces for scratch `arg25`, which the kernel carries between points, cover it: 4 pieces of `S704x1024` tiling it. -/
theorem scover0_A_2 (c : Dev nD) (t : Fin cfg0.N) (h0 : t.val % 16 = 0) (h1 : t.val % 16 = 0) (y : S2816x1024.Idx) :
    ∃ pc ∈ (runA m c t h0 h1).2.2.2.2.2.2.2.2.2.2.2.1, y ∈ pc.1.set :=
  View.cover_of_tiledL (runA m c t h0 h1).2.2.2.2.2.2.2.2.2.2.2.1 S704x1024.size (by sl_kernel_rfl) y

/-- What case A leaves in scratch `arg25`: its pieces read back over anything. -/
def sout0_A_2 (c : Dev nD) (t : Fin cfg0.N) (h0 : t.val % 16 = 0) (h1 : t.val % 16 = 0) : Vec F S2816x1024 .bf16 :=
  VS0_2.read (Elt F) (VS0_2.writes (Elt F) VS0_2.junk (runA m c t h0 h1).2.2.2.2.2.2.2.2.2.2.2.1)

/-- Case A's pieces for scratch `arg26`, which the kernel carries between points, cover it: 1 piece of `S1024x1024` tiling it. -/
theorem scover0_A_3 (c : Dev nD) (t : Fin cfg0.N) (h0 : t.val % 16 = 0) (h1 : t.val % 16 = 0) (y : S1024x1024.Idx) :
    ∃ pc ∈ (runA m c t h0 h1).2.2.2.2.2.2.2.2.2.2.2.2.1, y ∈ pc.1.set :=
  View.cover_of_tiledL (runA m c t h0 h1).2.2.2.2.2.2.2.2.2.2.2.2.1 S1024x1024.size (by sl_kernel_rfl) y

/-- What case A leaves in scratch `arg26`: its pieces read back over anything. -/
def sout0_A_3 (c : Dev nD) (t : Fin cfg0.N) (h0 : t.val % 16 = 0) (h1 : t.val % 16 = 0) : Vec F S1024x1024 .bf16 :=
  VS0_3.read (Elt F) (VS0_3.writes (Elt F) VS0_3.junk (runA m c t h0 h1).2.2.2.2.2.2.2.2.2.2.2.2.1)

/-- Case A's pieces for scratch `arg27`, which the kernel carries between points, cover it: 1 piece of `S1024x1024` tiling it. -/
theorem scover0_A_4 (c : Dev nD) (t : Fin cfg0.N) (h0 : t.val % 16 = 0) (h1 : t.val % 16 = 0) (y : S1024x1024.Idx) :
    ∃ pc ∈ (runA m c t h0 h1).2.2.2.2.2.2.2.2.2.2.2.2.2.1, y ∈ pc.1.set :=
  View.cover_of_tiledL (runA m c t h0 h1).2.2.2.2.2.2.2.2.2.2.2.2.2.1 S1024x1024.size (by sl_kernel_rfl) y

/-- What case A leaves in scratch `arg27`: its pieces read back over anything. -/
def sout0_A_4 (c : Dev nD) (t : Fin cfg0.N) (h0 : t.val % 16 = 0) (h1 : t.val % 16 = 0) : Vec F S1024x1024 .bf16 :=
  VS0_4.read (Elt F) (VS0_4.writes (Elt F) VS0_4.junk (runA m c t h0 h1).2.2.2.2.2.2.2.2.2.2.2.2.2.1)

/-- Case B's pieces for output 8 tile its block, so they cover it. -/
theorem cover0_B_8 (c : Dev nD) (t : Fin cfg0.N) (h0 : ¬t.val % 16 = 0) (h1 : ¬t.val % 16 = 0) (xo15 : Vec F S1x1024 .f32) (xo16 : Vec F S1x1024 .f32) (xs0 : Vec F S2816x1024 .bf16) (xs1 : Vec F S2816x1024 .bf16) (xs2 : Vec F S2816x1024 .bf16) (xs3 : Vec F S1024x1024 .bf16) (xs4 : Vec F S1024x1024 .bf16) (y : S256x2816.Idx) :
    ∃ pc ∈ (runB m c t h0 h1 xo15 xo16 xs0 xs1 xs2 xs3 xs4).1, y ∈ pc.1.set :=
  View.cover_of_tiledL (runB m c t h0 h1 xo15 xo16 xs0 xs1 xs2 xs3 xs4).1 S256x256.size (by sl_kernel_rfl) y

/-- What case B leaves in output 8's staging buffer: its pieces read back over anything. -/
def out0_B_8 (c : Dev nD) (t : Fin cfg0.N) (h0 : ¬t.val % 16 = 0) (h1 : ¬t.val % 16 = 0) (xo15 : Vec F S1x1024 .f32) (xo16 : Vec F S1x1024 .f32) (xs0 : Vec F S2816x1024 .bf16) (xs1 : Vec F S2816x1024 .bf16) (xs2 : Vec F S2816x1024 .bf16) (xs3 : Vec F S1024x1024 .bf16) (xs4 : Vec F S1024x1024 .bf16) : Vec F S256x2816 .bf16 :=
  VO0_8.read (Elt F) (VO0_8.writes (Elt F) VO0_8.junk (runB m c t h0 h1 xo15 xo16 xs0 xs1 xs2 xs3 xs4).1)

/-- Case B's pieces for output 9 tile its block, so they cover it. -/
theorem cover0_B_9 (c : Dev nD) (t : Fin cfg0.N) (h0 : ¬t.val % 16 = 0) (h1 : ¬t.val % 16 = 0) (xo15 : Vec F S1x1024 .f32) (xo16 : Vec F S1x1024 .f32) (xs0 : Vec F S2816x1024 .bf16) (xs1 : Vec F S2816x1024 .bf16) (xs2 : Vec F S2816x1024 .bf16) (xs3 : Vec F S1024x1024 .bf16) (xs4 : Vec F S1024x1024 .bf16) (y : S256x2816.Idx) :
    ∃ pc ∈ (runB m c t h0 h1 xo15 xo16 xs0 xs1 xs2 xs3 xs4).2.1, y ∈ pc.1.set :=
  View.cover_of_tiledL (runB m c t h0 h1 xo15 xo16 xs0 xs1 xs2 xs3 xs4).2.1 S256x256.size (by sl_kernel_rfl) y

/-- What case B leaves in output 9's staging buffer: its pieces read back over anything. -/
def out0_B_9 (c : Dev nD) (t : Fin cfg0.N) (h0 : ¬t.val % 16 = 0) (h1 : ¬t.val % 16 = 0) (xo15 : Vec F S1x1024 .f32) (xo16 : Vec F S1x1024 .f32) (xs0 : Vec F S2816x1024 .bf16) (xs1 : Vec F S2816x1024 .bf16) (xs2 : Vec F S2816x1024 .bf16) (xs3 : Vec F S1024x1024 .bf16) (xs4 : Vec F S1024x1024 .bf16) : Vec F S256x2816 .bf16 :=
  VO0_9.read (Elt F) (VO0_9.writes (Elt F) VO0_9.junk (runB m c t h0 h1 xo15 xo16 xs0 xs1 xs2 xs3 xs4).2.1)

/-- Case B's pieces for output 10 tile its block, so they cover it. -/
theorem cover0_B_10 (c : Dev nD) (t : Fin cfg0.N) (h0 : ¬t.val % 16 = 0) (h1 : ¬t.val % 16 = 0) (xo15 : Vec F S1x1024 .f32) (xo16 : Vec F S1x1024 .f32) (xs0 : Vec F S2816x1024 .bf16) (xs1 : Vec F S2816x1024 .bf16) (xs2 : Vec F S2816x1024 .bf16) (xs3 : Vec F S1024x1024 .bf16) (xs4 : Vec F S1024x1024 .bf16) (y : S256x1024.Idx) :
    ∃ pc ∈ (runB m c t h0 h1 xo15 xo16 xs0 xs1 xs2 xs3 xs4).2.2.1, y ∈ pc.1.set :=
  View.cover_of_tiledL (runB m c t h0 h1 xo15 xo16 xs0 xs1 xs2 xs3 xs4).2.2.1 S256x1024.size (by sl_kernel_rfl) y

/-- What case B leaves in output 10's staging buffer: its pieces read back over anything. -/
def out0_B_10 (c : Dev nD) (t : Fin cfg0.N) (h0 : ¬t.val % 16 = 0) (h1 : ¬t.val % 16 = 0) (xo15 : Vec F S1x1024 .f32) (xo16 : Vec F S1x1024 .f32) (xs0 : Vec F S2816x1024 .bf16) (xs1 : Vec F S2816x1024 .bf16) (xs2 : Vec F S2816x1024 .bf16) (xs3 : Vec F S1024x1024 .bf16) (xs4 : Vec F S1024x1024 .bf16) : Vec F S256x1024 .bf16 :=
  VO0_10.read (Elt F) (VO0_10.writes (Elt F) VO0_10.junk (runB m c t h0 h1 xo15 xo16 xs0 xs1 xs2 xs3 xs4).2.2.1)

/-- Case B's pieces for output 11 tile its block, so they cover it. -/
theorem cover0_B_11 (c : Dev nD) (t : Fin cfg0.N) (h0 : ¬t.val % 16 = 0) (h1 : ¬t.val % 16 = 0) (xo15 : Vec F S1x1024 .f32) (xo16 : Vec F S1x1024 .f32) (xs0 : Vec F S2816x1024 .bf16) (xs1 : Vec F S2816x1024 .bf16) (xs2 : Vec F S2816x1024 .bf16) (xs3 : Vec F S1024x1024 .bf16) (xs4 : Vec F S1024x1024 .bf16) (y : S256x1024.Idx) :
    ∃ pc ∈ (runB m c t h0 h1 xo15 xo16 xs0 xs1 xs2 xs3 xs4).2.2.2.1, y ∈ pc.1.set :=
  View.cover_of_tiledL (runB m c t h0 h1 xo15 xo16 xs0 xs1 xs2 xs3 xs4).2.2.2.1 S256x1024.size (by sl_kernel_rfl) y

/-- What case B leaves in output 11's staging buffer: its pieces read back over anything. -/
def out0_B_11 (c : Dev nD) (t : Fin cfg0.N) (h0 : ¬t.val % 16 = 0) (h1 : ¬t.val % 16 = 0) (xo15 : Vec F S1x1024 .f32) (xo16 : Vec F S1x1024 .f32) (xs0 : Vec F S2816x1024 .bf16) (xs1 : Vec F S2816x1024 .bf16) (xs2 : Vec F S2816x1024 .bf16) (xs3 : Vec F S1024x1024 .bf16) (xs4 : Vec F S1024x1024 .bf16) : Vec F S256x1024 .bf16 :=
  VO0_11.read (Elt F) (VO0_11.writes (Elt F) VO0_11.junk (runB m c t h0 h1 xo15 xo16 xs0 xs1 xs2 xs3 xs4).2.2.2.1)

/-- Case B's pieces for output 12 tile its block, so they cover it. -/
theorem cover0_B_12 (c : Dev nD) (t : Fin cfg0.N) (h0 : ¬t.val % 16 = 0) (h1 : ¬t.val % 16 = 0) (xo15 : Vec F S1x1024 .f32) (xo16 : Vec F S1x1024 .f32) (xs0 : Vec F S2816x1024 .bf16) (xs1 : Vec F S2816x1024 .bf16) (xs2 : Vec F S2816x1024 .bf16) (xs3 : Vec F S1024x1024 .bf16) (xs4 : Vec F S1024x1024 .bf16) (y : S256x1024.Idx) :
    ∃ pc ∈ (runB m c t h0 h1 xo15 xo16 xs0 xs1 xs2 xs3 xs4).2.2.2.2.1, y ∈ pc.1.set :=
  View.cover_of_tiledL (runB m c t h0 h1 xo15 xo16 xs0 xs1 xs2 xs3 xs4).2.2.2.2.1 S256x1024.size (by sl_kernel_rfl) y

/-- What case B leaves in output 12's staging buffer: its pieces read back over anything. -/
def out0_B_12 (c : Dev nD) (t : Fin cfg0.N) (h0 : ¬t.val % 16 = 0) (h1 : ¬t.val % 16 = 0) (xo15 : Vec F S1x1024 .f32) (xo16 : Vec F S1x1024 .f32) (xs0 : Vec F S2816x1024 .bf16) (xs1 : Vec F S2816x1024 .bf16) (xs2 : Vec F S2816x1024 .bf16) (xs3 : Vec F S1024x1024 .bf16) (xs4 : Vec F S1024x1024 .bf16) : Vec F S256x1024 .f32 :=
  VO0_12.read (Elt F) (VO0_12.writes (Elt F) VO0_12.junk (runB m c t h0 h1 xo15 xo16 xs0 xs1 xs2 xs3 xs4).2.2.2.2.1)

/-- Case B's pieces for output 13 tile its block, so they cover it. -/
theorem cover0_B_13 (c : Dev nD) (t : Fin cfg0.N) (h0 : ¬t.val % 16 = 0) (h1 : ¬t.val % 16 = 0) (xo15 : Vec F S1x1024 .f32) (xo16 : Vec F S1x1024 .f32) (xs0 : Vec F S2816x1024 .bf16) (xs1 : Vec F S2816x1024 .bf16) (xs2 : Vec F S2816x1024 .bf16) (xs3 : Vec F S1024x1024 .bf16) (xs4 : Vec F S1024x1024 .bf16) (y : S256x512.Idx) :
    ∃ pc ∈ (runB m c t h0 h1 xo15 xo16 xs0 xs1 xs2 xs3 xs4).2.2.2.2.2.1, y ∈ pc.1.set :=
  View.cover_of_tiledL (runB m c t h0 h1 xo15 xo16 xs0 xs1 xs2 xs3 xs4).2.2.2.2.2.1 S256x512.size (by sl_kernel_rfl) y

/-- What case B leaves in output 13's staging buffer: its pieces read back over anything. -/
def out0_B_13 (c : Dev nD) (t : Fin cfg0.N) (h0 : ¬t.val % 16 = 0) (h1 : ¬t.val % 16 = 0) (xo15 : Vec F S1x1024 .f32) (xo16 : Vec F S1x1024 .f32) (xs0 : Vec F S2816x1024 .bf16) (xs1 : Vec F S2816x1024 .bf16) (xs2 : Vec F S2816x1024 .bf16) (xs3 : Vec F S1024x1024 .bf16) (xs4 : Vec F S1024x1024 .bf16) : Vec F S256x512 .bf16 :=
  VO0_13.read (Elt F) (VO0_13.writes (Elt F) VO0_13.junk (runB m c t h0 h1 xo15 xo16 xs0 xs1 xs2 xs3 xs4).2.2.2.2.2.1)

/-- Case B's pieces for output 14 tile its block, so they cover it. -/
theorem cover0_B_14 (c : Dev nD) (t : Fin cfg0.N) (h0 : ¬t.val % 16 = 0) (h1 : ¬t.val % 16 = 0) (xo15 : Vec F S1x1024 .f32) (xo16 : Vec F S1x1024 .f32) (xs0 : Vec F S2816x1024 .bf16) (xs1 : Vec F S2816x1024 .bf16) (xs2 : Vec F S2816x1024 .bf16) (xs3 : Vec F S1024x1024 .bf16) (xs4 : Vec F S1024x1024 .bf16) (y : S256x512.Idx) :
    ∃ pc ∈ (runB m c t h0 h1 xo15 xo16 xs0 xs1 xs2 xs3 xs4).2.2.2.2.2.2.1, y ∈ pc.1.set :=
  View.cover_of_tiledL (runB m c t h0 h1 xo15 xo16 xs0 xs1 xs2 xs3 xs4).2.2.2.2.2.2.1 S256x512.size (by sl_kernel_rfl) y

/-- What case B leaves in output 14's staging buffer: its pieces read back over anything. -/
def out0_B_14 (c : Dev nD) (t : Fin cfg0.N) (h0 : ¬t.val % 16 = 0) (h1 : ¬t.val % 16 = 0) (xo15 : Vec F S1x1024 .f32) (xo16 : Vec F S1x1024 .f32) (xs0 : Vec F S2816x1024 .bf16) (xs1 : Vec F S2816x1024 .bf16) (xs2 : Vec F S2816x1024 .bf16) (xs3 : Vec F S1024x1024 .bf16) (xs4 : Vec F S1024x1024 .bf16) : Vec F S256x512 .bf16 :=
  VO0_14.read (Elt F) (VO0_14.writes (Elt F) VO0_14.junk (runB m c t h0 h1 xo15 xo16 xs0 xs1 xs2 xs3 xs4).2.2.2.2.2.2.1)

/-- Case B's pieces for output 15 tile its block, so they cover it. -/
theorem cover0_B_15 (c : Dev nD) (t : Fin cfg0.N) (h0 : ¬t.val % 16 = 0) (h1 : ¬t.val % 16 = 0) (xo15 : Vec F S1x1024 .f32) (xo16 : Vec F S1x1024 .f32) (xs0 : Vec F S2816x1024 .bf16) (xs1 : Vec F S2816x1024 .bf16) (xs2 : Vec F S2816x1024 .bf16) (xs3 : Vec F S1024x1024 .bf16) (xs4 : Vec F S1024x1024 .bf16) (y : S1x1024.Idx) :
    ∃ pc ∈ (runB m c t h0 h1 xo15 xo16 xs0 xs1 xs2 xs3 xs4).2.2.2.2.2.2.2.1, y ∈ pc.1.set :=
  View.cover_of_tiledL (runB m c t h0 h1 xo15 xo16 xs0 xs1 xs2 xs3 xs4).2.2.2.2.2.2.2.1 S1x1024.size (by sl_kernel_rfl) y

/-- What case B leaves in output 15's staging buffer: its pieces read back over anything. -/
def out0_B_15 (c : Dev nD) (t : Fin cfg0.N) (h0 : ¬t.val % 16 = 0) (h1 : ¬t.val % 16 = 0) (xo15 : Vec F S1x1024 .f32) (xo16 : Vec F S1x1024 .f32) (xs0 : Vec F S2816x1024 .bf16) (xs1 : Vec F S2816x1024 .bf16) (xs2 : Vec F S2816x1024 .bf16) (xs3 : Vec F S1024x1024 .bf16) (xs4 : Vec F S1024x1024 .bf16) : Vec F S1x1024 .f32 :=
  VO0_15.read (Elt F) (VO0_15.writes (Elt F) VO0_15.junk (runB m c t h0 h1 xo15 xo16 xs0 xs1 xs2 xs3 xs4).2.2.2.2.2.2.2.1)

/-- Case B's pieces for output 16 tile its block, so they cover it. -/
theorem cover0_B_16 (c : Dev nD) (t : Fin cfg0.N) (h0 : ¬t.val % 16 = 0) (h1 : ¬t.val % 16 = 0) (xo15 : Vec F S1x1024 .f32) (xo16 : Vec F S1x1024 .f32) (xs0 : Vec F S2816x1024 .bf16) (xs1 : Vec F S2816x1024 .bf16) (xs2 : Vec F S2816x1024 .bf16) (xs3 : Vec F S1024x1024 .bf16) (xs4 : Vec F S1024x1024 .bf16) (y : S1x1024.Idx) :
    ∃ pc ∈ (runB m c t h0 h1 xo15 xo16 xs0 xs1 xs2 xs3 xs4).2.2.2.2.2.2.2.2.1, y ∈ pc.1.set :=
  View.cover_of_tiledL (runB m c t h0 h1 xo15 xo16 xs0 xs1 xs2 xs3 xs4).2.2.2.2.2.2.2.2.1 S1x1024.size (by sl_kernel_rfl) y

/-- What case B leaves in output 16's staging buffer: its pieces read back over anything. -/
def out0_B_16 (c : Dev nD) (t : Fin cfg0.N) (h0 : ¬t.val % 16 = 0) (h1 : ¬t.val % 16 = 0) (xo15 : Vec F S1x1024 .f32) (xo16 : Vec F S1x1024 .f32) (xs0 : Vec F S2816x1024 .bf16) (xs1 : Vec F S2816x1024 .bf16) (xs2 : Vec F S2816x1024 .bf16) (xs3 : Vec F S1024x1024 .bf16) (xs4 : Vec F S1024x1024 .bf16) : Vec F S1x1024 .f32 :=
  VO0_16.read (Elt F) (VO0_16.writes (Elt F) VO0_16.junk (runB m c t h0 h1 xo15 xo16 xs0 xs1 xs2 xs3 xs4).2.2.2.2.2.2.2.2.1)

/-- Case B stores nothing into scratch `arg23`: it holds what the point before left. -/
def sout0_B_0 (c : Dev nD) (t : Fin cfg0.N) (h0 : ¬t.val % 16 = 0) (h1 : ¬t.val % 16 = 0) (xo15 : Vec F S1x1024 .f32) (xo16 : Vec F S1x1024 .f32) (xs0 : Vec F S2816x1024 .bf16) (xs1 : Vec F S2816x1024 .bf16) (xs2 : Vec F S2816x1024 .bf16) (xs3 : Vec F S1024x1024 .bf16) (xs4 : Vec F S1024x1024 .bf16) : Vec F S2816x1024 .bf16 := xs0

/-- Case B stores nothing into scratch `arg24`: it holds what the point before left. -/
def sout0_B_1 (c : Dev nD) (t : Fin cfg0.N) (h0 : ¬t.val % 16 = 0) (h1 : ¬t.val % 16 = 0) (xo15 : Vec F S1x1024 .f32) (xo16 : Vec F S1x1024 .f32) (xs0 : Vec F S2816x1024 .bf16) (xs1 : Vec F S2816x1024 .bf16) (xs2 : Vec F S2816x1024 .bf16) (xs3 : Vec F S1024x1024 .bf16) (xs4 : Vec F S1024x1024 .bf16) : Vec F S2816x1024 .bf16 := xs1

/-- Case B stores nothing into scratch `arg25`: it holds what the point before left. -/
def sout0_B_2 (c : Dev nD) (t : Fin cfg0.N) (h0 : ¬t.val % 16 = 0) (h1 : ¬t.val % 16 = 0) (xo15 : Vec F S1x1024 .f32) (xo16 : Vec F S1x1024 .f32) (xs0 : Vec F S2816x1024 .bf16) (xs1 : Vec F S2816x1024 .bf16) (xs2 : Vec F S2816x1024 .bf16) (xs3 : Vec F S1024x1024 .bf16) (xs4 : Vec F S1024x1024 .bf16) : Vec F S2816x1024 .bf16 := xs2

/-- Case B stores nothing into scratch `arg26`: it holds what the point before left. -/
def sout0_B_3 (c : Dev nD) (t : Fin cfg0.N) (h0 : ¬t.val % 16 = 0) (h1 : ¬t.val % 16 = 0) (xo15 : Vec F S1x1024 .f32) (xo16 : Vec F S1x1024 .f32) (xs0 : Vec F S2816x1024 .bf16) (xs1 : Vec F S2816x1024 .bf16) (xs2 : Vec F S2816x1024 .bf16) (xs3 : Vec F S1024x1024 .bf16) (xs4 : Vec F S1024x1024 .bf16) : Vec F S1024x1024 .bf16 := xs3

/-- Case B stores nothing into scratch `arg27`: it holds what the point before left. -/
def sout0_B_4 (c : Dev nD) (t : Fin cfg0.N) (h0 : ¬t.val % 16 = 0) (h1 : ¬t.val % 16 = 0) (xo15 : Vec F S1x1024 .f32) (xo16 : Vec F S1x1024 .f32) (xs0 : Vec F S2816x1024 .bf16) (xs1 : Vec F S2816x1024 .bf16) (xs2 : Vec F S2816x1024 .bf16) (xs3 : Vec F S1024x1024 .bf16) (xs4 : Vec F S1024x1024 .bf16) : Vec F S1024x1024 .bf16 := xs4

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x2816 .bf16 × Vec F S256x2816 .bf16 × Vec F S256x1024 .bf16 × Vec F S256x1024 .bf16 × Vec F S256x1024 .f32 × Vec F S256x512 .bf16 × Vec F S256x512 .bf16 × Vec F S1x1024 .f32 × Vec F S1x1024 .f32 × Vec F S2816x1024 .bf16 × Vec F S2816x1024 .bf16 × Vec F S2816x1024 .bf16 × Vec F S1024x1024 .bf16 × Vec F S1024x1024 .bf16
  | 0, hn => (out0_A_8 m c ⟨0, hn⟩ (Nat.zero_mod _) (Nat.zero_mod _), out0_A_9 m c ⟨0, hn⟩ (Nat.zero_mod _) (Nat.zero_mod _), out0_A_10 m c ⟨0, hn⟩ (Nat.zero_mod _) (Nat.zero_mod _), out0_A_11 m c ⟨0, hn⟩ (Nat.zero_mod _) (Nat.zero_mod _), out0_A_12 m c ⟨0, hn⟩ (Nat.zero_mod _) (Nat.zero_mod _), out0_A_13 m c ⟨0, hn⟩ (Nat.zero_mod _) (Nat.zero_mod _), out0_A_14 m c ⟨0, hn⟩ (Nat.zero_mod _) (Nat.zero_mod _), out0_A_15 m c ⟨0, hn⟩ (Nat.zero_mod _) (Nat.zero_mod _), out0_A_16 m c ⟨0, hn⟩ (Nat.zero_mod _) (Nat.zero_mod _), sout0_A_0 m c ⟨0, hn⟩ (Nat.zero_mod _) (Nat.zero_mod _), sout0_A_1 m c ⟨0, hn⟩ (Nat.zero_mod _) (Nat.zero_mod _), sout0_A_2 m c ⟨0, hn⟩ (Nat.zero_mod _) (Nat.zero_mod _), sout0_A_3 m c ⟨0, hn⟩ (Nat.zero_mod _) (Nat.zero_mod _), sout0_A_4 m c ⟨0, hn⟩ (Nat.zero_mod _) (Nat.zero_mod _))
  | n + 1, hn =>
    if h0 : (n + 1) % 16 = 0 then
      if h1 : (n + 1) % 16 = 0 then
        (out0_A_8 m c ⟨n + 1, hn⟩ h0 h1, out0_A_9 m c ⟨n + 1, hn⟩ h0 h1, out0_A_10 m c ⟨n + 1, hn⟩ h0 h1, out0_A_11 m c ⟨n + 1, hn⟩ h0 h1, out0_A_12 m c ⟨n + 1, hn⟩ h0 h1, out0_A_13 m c ⟨n + 1, hn⟩ h0 h1, out0_A_14 m c ⟨n + 1, hn⟩ h0 h1, out0_A_15 m c ⟨n + 1, hn⟩ h0 h1, out0_A_16 m c ⟨n + 1, hn⟩ h0 h1, sout0_A_0 m c ⟨n + 1, hn⟩ h0 h1, sout0_A_1 m c ⟨n + 1, hn⟩ h0 h1, sout0_A_2 m c ⟨n + 1, hn⟩ h0 h1, sout0_A_3 m c ⟨n + 1, hn⟩ h0 h1, sout0_A_4 m c ⟨n + 1, hn⟩ h0 h1)
      else
        False.elim (by have hN : n + 1 < 16 := lt_of_lt_of_eq hn (show cfg0.N = 16 from N_0); omega)
    else
      if h1 : (n + 1) % 16 = 0 then
        False.elim (by have hN : n + 1 < 16 := lt_of_lt_of_eq hn (show cfg0.N = 16 from N_0); omega)
      else
        (out0_B_8 m c ⟨n + 1, hn⟩ h0 h1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2.1 (outsAt0 c n (Nat.lt_of_succ_lt hn)).2.2.2.2.2.2.2.2.2.2.2.2.2, out0_B_9 m c ⟨n + 1, hn⟩ h0 h1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2.1 (outsAt0 c n (Nat.lt_of_succ_lt hn)).2.2.2.2.2.2.2.2.2.2.2.2.2, out0_B_10 m c ⟨n + 1, hn⟩ h0 h1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2.1 (outsAt0 c n (Nat.lt_of_succ_lt hn)).2.2.2.2.2.2.2.2.2.2.2.2.2, out0_B_11 m c ⟨n + 1, hn⟩ h0 h1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2.1 (outsAt0 c n (Nat.lt_of_succ_lt hn)).2.2.2.2.2.2.2.2.2.2.2.2.2, out0_B_12 m c ⟨n + 1, hn⟩ h0 h1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2.1 (outsAt0 c n (Nat.lt_of_succ_lt hn)).2.2.2.2.2.2.2.2.2.2.2.2.2, out0_B_13 m c ⟨n + 1, hn⟩ h0 h1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2.1 (outsAt0 c n (Nat.lt_of_succ_lt hn)).2.2.2.2.2.2.2.2.2.2.2.2.2, out0_B_14 m c ⟨n + 1, hn⟩ h0 h1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2.1 (outsAt0 c n (Nat.lt_of_succ_lt hn)).2.2.2.2.2.2.2.2.2.2.2.2.2, out0_B_15 m c ⟨n + 1, hn⟩ h0 h1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2.1 (outsAt0 c n (Nat.lt_of_succ_lt hn)).2.2.2.2.2.2.2.2.2.2.2.2.2, out0_B_16 m c ⟨n + 1, hn⟩ h0 h1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2.1 (outsAt0 c n (Nat.lt_of_succ_lt hn)).2.2.2.2.2.2.2.2.2.2.2.2.2, sout0_B_0 c ⟨n + 1, hn⟩ h0 h1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2.1 (outsAt0 c n (Nat.lt_of_succ_lt hn)).2.2.2.2.2.2.2.2.2.2.2.2.2, sout0_B_1 c ⟨n + 1, hn⟩ h0 h1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2.1 (outsAt0 c n (Nat.lt_of_succ_lt hn)).2.2.2.2.2.2.2.2.2.2.2.2.2, sout0_B_2 c ⟨n + 1, hn⟩ h0 h1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2.1 (outsAt0 c n (Nat.lt_of_succ_lt hn)).2.2.2.2.2.2.2.2.2.2.2.2.2, sout0_B_3 c ⟨n + 1, hn⟩ h0 h1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2.1 (outsAt0 c n (Nat.lt_of_succ_lt hn)).2.2.2.2.2.2.2.2.2.2.2.2.2, sout0_B_4 c ⟨n + 1, hn⟩ h0 h1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2.1 (outsAt0 c n (Nat.lt_of_succ_lt hn)).2.2.2.2.2.2.2.2.2.2.2.2.2)

/-- `outsAt0` at a point of case A: that case's contents. -/
theorem outsAt0_A (c : Dev nD) (t : Fin cfg0.N) (h0 : t.val % 16 = 0) (h1 : t.val % 16 = 0) :
    outsAt0 m c t.val t.isLt = (out0_A_8 m c t h0 h1, out0_A_9 m c t h0 h1, out0_A_10 m c t h0 h1, out0_A_11 m c t h0 h1, out0_A_12 m c t h0 h1, out0_A_13 m c t h0 h1, out0_A_14 m c t h0 h1, out0_A_15 m c t h0 h1, out0_A_16 m c t h0 h1, sout0_A_0 m c t h0 h1, sout0_A_1 m c t h0 h1, sout0_A_2 m c t h0 h1, sout0_A_3 m c t h0 h1, sout0_A_4 m c t h0 h1) := by
  obtain ⟨n, hn⟩ := t
  cases n with
  | zero => exact rfl
  | succ n => exact (dif_pos h0).trans ((dif_pos h1).trans rfl)

/-- `outsAt0` at a point of case B: that case's contents, over what the point before left. -/
theorem outsAt0_B (c : Dev nD) (t : Fin cfg0.N) (h0 : ¬t.val % 16 = 0) (h1 : ¬t.val % 16 = 0) :
    outsAt0 m c t.val t.isLt = (out0_B_8 m c t h0 h1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2, out0_B_9 m c t h0 h1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2, out0_B_10 m c t h0 h1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2, out0_B_11 m c t h0 h1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2, out0_B_12 m c t h0 h1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2, out0_B_13 m c t h0 h1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2, out0_B_14 m c t h0 h1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2, out0_B_15 m c t h0 h1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2, out0_B_16 m c t h0 h1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2, sout0_B_0 c t h0 h1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2, sout0_B_1 c t h0 h1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2, sout0_B_2 c t h0 h1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2, sout0_B_3 c t h0 h1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2, sout0_B_4 c t h0 h1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2) := by
  obtain ⟨n, hn⟩ := t
  cases n with
  | zero => exact (by exfalso; (try dsimp only at h0); exact absurd (Nat.zero_mod _) h0)
  | succ n => exact (dif_neg h0).trans ((dif_neg h1).trans rfl)

/-- The region invariant before position `n` with a scratch the kernel CARRIES between points: before the first point the
    launch's invariant (`ΦD`: every scratch at anything, the own cells at zero, the HBM operands, the generator register); afterwards the same with each carried
    scratch at what the point before left in it (`outsAt0`'s scratch components), the others at anything. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.2.2.2.2.2.1) ∗ owns (c : Thread nD τ) scM0_1 fullShare ((outsAt0 m c n hn).2.2.2.2.2.2.2.2.2.2.1) ∗ owns (c : Thread nD τ) scM0_2 fullShare ((outsAt0 m c n hn).2.2.2.2.2.2.2.2.2.2.2.1) ∗ owns (c : Thread nD τ) scM0_3 fullShare ((outsAt0 m c n hn).2.2.2.2.2.2.2.2.2.2.2.2.1) ∗ owns (c : Thread nD τ) scM0_4 fullShare ((outsAt0 m c n hn).2.2.2.2.2.2.2.2.2.2.2.2.2)) ∗ (∃ r, prngReg c r) ∗ iprop(semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0) ∗ iprop(hbPt0 c hbM0_0 (V m c main_v28) ∗ hbPt0 c hbM0_1 (V m c main_v29) ∗ hbPt0 c hbM0_2 (V m c main_v30) ∗ hbPt0 c hbM0_3 (V m c main_arg12) ∗ hbPt0 c hbM0_4 (V m c main_arg7)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.2.2.1) ∗ owns (c : Thread nD τ) scM0_1 fullShare ((outsAt0 m c n hn).2.2.2.2.2.2.2.2.2.2.1) ∗ owns (c : Thread nD τ) scM0_2 fullShare ((outsAt0 m c n hn).2.2.2.2.2.2.2.2.2.2.2.1) ∗ owns (c : Thread nD τ) scM0_3 fullShare ((outsAt0 m c n hn).2.2.2.2.2.2.2.2.2.2.2.2.1) ∗ owns (c : Thread nD τ) scM0_4 fullShare ((outsAt0 m c n hn).2.2.2.2.2.2.2.2.2.2.2.2.2)) ∗ (∃ r, prngReg c r) ∗ iprop(semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0) ∗ iprop(hbPt0 c hbM0_0 (V m c main_v28) ∗ hbPt0 c hbM0_1 (V m c main_v29) ∗ hbPt0 c hbM0_2 (V m c main_v30) ∗ hbPt0 c hbM0_3 (V m c main_arg12) ∗ hbPt0 c hbM0_4 (V m c main_arg7))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2.1) ∗ owns (c : Thread nD τ) scM0_1 fullShare ((outsAt0 m c (n - 1) (by omega)).2.2.2.2.2.2.2.2.2.2.1) ∗ owns (c : Thread nD τ) scM0_2 fullShare ((outsAt0 m c (n - 1) (by omega)).2.2.2.2.2.2.2.2.2.2.2.1) ∗ owns (c : Thread nD τ) scM0_3 fullShare ((outsAt0 m c (n - 1) (by omega)).2.2.2.2.2.2.2.2.2.2.2.2.1) ∗ owns (c : Thread nD τ) scM0_4 fullShare ((outsAt0 m c (n - 1) (by omega)).2.2.2.2.2.2.2.2.2.2.2.2.2)) ∗ (∃ r, prngReg c r) ∗ iprop(semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0) ∗ iprop(hbPt0 c hbM0_0 (V m c main_v28) ∗ hbPt0 c hbM0_1 (V m c main_v29) ∗ hbPt0 c hbM0_2 (V m c main_v30) ∗ hbPt0 c hbM0_3 (V m c main_arg12) ∗ hbPt0 c hbM0_4 (V m c main_arg7))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (`ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2.1
    | ⟨12, _⟩ => (outsAt0 m c t.val t.isLt).2.2.2.2.1
    | ⟨13, _⟩ => (outsAt0 m c t.val t.isLt).2.2.2.2.2.1
    | ⟨14, _⟩ => (outsAt0 m c t.val t.isLt).2.2.2.2.2.2.1
    | ⟨15, _⟩ => (outsAt0 m c t.val t.isLt).2.2.2.2.2.2.2.1
    | ⟨16, _⟩ => (outsAt0 m c t.val t.isLt).2.2.2.2.2.2.2.2.1
    | ⟨_ + 17, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem after0_11 (c : Dev nD) (t : Fin cfg0.N) : (dats m 0 c).after 11 t = (outsAt0 m c t.val t.isLt).2.2.2.1 := by dsimp only [dats]
theorem after0_12 (c : Dev nD) (t : Fin cfg0.N) : (dats m 0 c).after 12 t = (outsAt0 m c t.val t.isLt).2.2.2.2.1 := by dsimp only [dats]
theorem after0_13 (c : Dev nD) (t : Fin cfg0.N) : (dats m 0 c).after 13 t = (outsAt0 m c t.val t.isLt).2.2.2.2.2.1 := by dsimp only [dats]
theorem after0_14 (c : Dev nD) (t : Fin cfg0.N) : (dats m 0 c).after 14 t = (outsAt0 m c t.val t.isLt).2.2.2.2.2.2.1 := by dsimp only [dats]
theorem after0_15 (c : Dev nD) (t : Fin cfg0.N) : (dats m 0 c).after 15 t = (outsAt0 m c t.val t.isLt).2.2.2.2.2.2.2.1 := by dsimp only [dats]
theorem after0_16 (c : Dev nD) (t : Fin cfg0.N) : (dats m 0 c).after 16 t = (outsAt0 m c t.val t.isLt).2.2.2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- At a point of case B output 15's current staging buffer holds what the body left at the point before: the point is
    not the first, the buffer was not written back between (`flush0_15`), the window is live and uncut (`Dat.before_out_kept`). -/
theorem before0_15_B (c : Dev nD) (t : Fin cfg0.N) (h0 : ¬t.val % 16 = 0) (h1 : ¬t.val % 16 = 0) (d) :
    (dats m 0 c).before 15 t d = (outsAt0 m c (t.val - 1) (Nat.lt_of_le_of_lt (Nat.sub_le _ _) t.isLt)).2.2.2.2.2.2.2.1 := by
  have hN : t.val < 16 := lt_of_lt_of_eq t.isLt (show cfg0.N = 16 from N_0)
  rw [Dat.before_out_kept _ 15 rfl t (by omega) (Bool.eq_false_iff.mpr fun h => by have := (flush0_15 _).mp h; dsimp only at this; omega)
    (fun _ => rfl) (fun _ _ => rfl)]
  dsimp only [dats]
/-- At a point of case B output 16's current staging buffer holds what the body left at the point before: the point is
    not the first, the buffer was not written back between (`flush0_16`), the window is live and uncut (`Dat.before_out_kept`). -/
theorem before0_16_B (c : Dev nD) (t : Fin cfg0.N) (h0 : ¬t.val % 16 = 0) (h1 : ¬t.val % 16 = 0) (d) :
    (dats m 0 c).before 16 t d = (outsAt0 m c (t.val - 1) (Nat.lt_of_le_of_lt (Nat.sub_le _ _) t.isLt)).2.2.2.2.2.2.2.2.1 := by
  have hN : t.val < 16 := lt_of_lt_of_eq t.isLt (show cfg0.N = 16 from N_0)
  rw [Dat.before_out_kept _ 16 rfl t (by omega) (Bool.eq_false_iff.mpr fun h => by have := (flush0_16 _).mp h; dsimp only at this; omega)
    (fun _ => rfl) (fun _ _ => rfl)]
  dsimp only [dats]

/-! ## The body obligation, at a generic point -/

/-- What the body is called with at point `t` (`BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t))

set_option maxHeartbeats 16000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`, the rest of `ΦD` opened by `PhiD0_eq`), the other scratch at anything, the register, its DMA cells at zero and the HBM operands, and takes the carried scratch back at this point's contents (`PhiS_succ`, by `scoverK_κ_N`), the cells and operands as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = PhiS m c (t.val + 1) t.isLt from rfl, PhiS_succ,
    after0_0, after0_1, after0_2, after0_3, after0_4, after0_5, after0_6, after0_7, after0_8, after0_9, after0_10, after0_11, after0_12, after0_13, after0_14, after0_15, after0_16]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases h1 : t.val % 16 = 0
    · by_cases hz : t.val = 0
      · rw [PhiS_castSucc m c t, PhiS_zero m c _ _ hz, PhiD0_eq]
        rw [outsAt0_A m c t h0 h1]
        unfold out0_A_8 out0_A_9 out0_A_10 out0_A_11 out0_A_12 out0_A_13 out0_A_14 out0_A_15 out0_A_16 sout0_A_0 sout0_A_1 sout0_A_2 sout0_A_3 sout0_A_4; (try dsimp only)
        iintro ⟨⟨⟨HS0, HS1, HS2, HS3, HS4⟩, Hg, ⟨Hq0, Hq1, Hq2, Hq3, Hq4, Hq5, Hq6, Hq7, Hq8, Hq9, Hq10, Hq11, Hq12, Hq13⟩, ⟨Hh0, Hh1, Hh2, Hh3, Hh4⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((runA m c t h0 h1).2.2.2.2.2.2.2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexists _; iexact H11
        isplitl [H12]; · iexists _; iexact H12
        isplitl [H13]; · iexists _; iexact H13
        isplitl [H14]; · iexists _; iexact H14
        isplitl [H15]; · iexists _; iexact H15
        isplitl [H16]; · iexists _; iexact H16
        isplitl [HS0]; · iexact HS0
        isplitl [HS1]; · iexact HS1
        isplitl [HS2]; · iexact HS2
        isplitl [HS3]; · iexact HS3
        isplitl [HS4]; · iexact HS4
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hh0]; · iexact Hh0
        isplitl [Hh1]; · iexact Hh1
        isplitl [Hh2]; · iexact Hh2
        isplitl [Hh3]; · iexact Hh3
        isplitl [Hh4]; · iexact Hh4
        isplitl [HW]; · iexact HW
        iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%es0, HS0⟩, ⟨%es1, HS1⟩, ⟨%es2, HS2⟩, ⟨%es3, HS3⟩, ⟨%es4, HS4⟩, Hq0, Hq1, Hq2, Hq3, Hq4, Hq5, Hq6, Hq7, Hq8, Hq9, Hq10, Hq11, Hq12, Hq13, Hh0, Hh1, Hh2, Hh3, Hh4, ⟨%W', HW'⟩⟩
        isplitl [HS0 HS1 HS2 HS3 HS4 Hg Hq0 Hq1 Hq2 Hq3 Hq4 Hq5 Hq6 Hq7 Hq8 Hq9 Hq10 Hq11 Hq12 Hq13 Hh0 Hh1 Hh2 Hh3 Hh4]
        · isplitl [HS0 HS1 HS2 HS3 HS4]
          · isplitl [HS0]
            · unfold owns; iexists _; isplitr
              swap; · iexact HS0
              ipureintro; exact View.read_writes_of_cover _ _ _ _ _ (scover0_A_0 m c t h0 h1)
            isplitl [HS1]
            · unfold owns; iexists _; isplitr
              swap; · iexact HS1
              ipureintro; exact View.read_writes_of_cover _ _ _ _ _ (scover0_A_1 m c t h0 h1)
            isplitl [HS2]
            · unfold owns; iexists _; isplitr
              swap; · iexact HS2
              ipureintro; exact View.read_writes_of_cover _ _ _ _ _ (scover0_A_2 m c t h0 h1)
            isplitl [HS3]
            · unfold owns; iexists _; isplitr
              swap; · iexact HS3
              ipureintro; exact View.read_writes_of_cover _ _ _ _ _ (scover0_A_3 m c t h0 h1)
            unfold owns; iexists _; isplitr
            swap; · iexact HS4
            ipureintro; exact View.read_writes_of_cover _ _ _ _ _ (scover0_A_4 m c t h0 h1)
          isplitl [Hg]
          · iexact Hg
          isplitl [Hq0 Hq1 Hq2 Hq3 Hq4 Hq5 Hq6 Hq7 Hq8 Hq9 Hq10 Hq11 Hq12 Hq13]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            isplitl [Hq10]; · iexact Hq10
            isplitl [Hq11]; · iexact Hq11
            isplitl [Hq12]; · iexact Hq12
            iexact Hq13
          isplitl [Hh0]; · iexact Hh0
          isplitl [Hh1]; · iexact Hh1
          isplitl [Hh2]; · iexact Hh2
          isplitl [Hh3]; · iexact Hh3
          iexact Hh4
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 m c t h0 h1)
        isplitl [H9]
        · unfold owns; iexists _; isplitr
          swap; · iexact H9
          ipureintro; exact View.read_writes_of_cover _ _ _ _ _ (cover0_A_9 m c t h0 h1)
        isplitl [H10]
        · unfold owns; iexists _; isplitr
          swap; · iexact H10
          ipureintro; exact View.read_writes_of_cover _ _ _ _ _ (cover0_A_10 m c t h0 h1)
        isplitl [H11]
        · unfold owns; iexists _; isplitr
          swap; · iexact H11
          ipureintro; exact View.read_writes_of_cover _ _ _ _ _ (cover0_A_11 m c t h0 h1)
        isplitl [H12]
        · unfold owns; iexists _; isplitr
          swap; · iexact H12
          ipureintro; exact View.read_writes_of_cover _ _ _ _ _ (cover0_A_12 m c t h0 h1)
        isplitl [H13]
        · unfold owns; iexists _; isplitr
          swap; · iexact H13
          ipureintro; exact View.read_writes_of_cover _ _ _ _ _ (cover0_A_13 m c t h0 h1)
        isplitl [H14]
        · unfold owns; iexists _; isplitr
          swap; · iexact H14
          ipureintro; exact View.read_writes_of_cover _ _ _ _ _ (cover0_A_14 m c t h0 h1)
        isplitl [H15]
        · unfold owns; iexists _; isplitr
          swap; · iexact H15
          ipureintro; exact View.read_writes_of_cover _ _ _ _ _ (cover0_A_15 m c t h0 h1)
        unfold owns; iexists _; isplitr
        swap; · iexact H16
        ipureintro; exact View.read_writes_of_cover _ _ _ _ _ (cover0_A_16 m c t h0 h1)
      · exfalso; have hN : t.val < 16 := lt_of_lt_of_eq t.isLt (show cfg0.N = 16 from N_0); omega
    · exfalso; omega
  · by_cases h1 : t.val % 16 = 0
    · exfalso; omega
    · by_cases hz : t.val = 0
      · exfalso; have hN : t.val < 16 := lt_of_lt_of_eq t.isLt (show cfg0.N = 16 from N_0); omega
      · rw [PhiS_castSucc m c t, PhiS_pos m c _ _ hz]
        rw [outsAt0_B m c t h0 h1]
        simp only [before0_15_B m c t h0 h1, before0_16_B m c t h0 h1]
        unfold out0_B_8 out0_B_9 out0_B_10 out0_B_11 out0_B_12 out0_B_13 out0_B_14 out0_B_15 out0_B_16 sout0_B_0 sout0_B_1 sout0_B_2 sout0_B_3 sout0_B_4; (try dsimp only)
        iintro ⟨⟨⟨HS0, HS1, HS2, HS3, HS4⟩, Hg, ⟨Hq0, Hq1, Hq2, Hq3, Hq4, Hq5, Hq6, Hq7, Hq8, Hq9, Hq10, Hq11, Hq12, Hq13⟩, ⟨Hh0, Hh1, Hh2, Hh3, Hh4⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((runB m c t h0 h1 _ _ _ _ _ _ _).2.2.2.2.2.2.2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexists _; iexact H11
        isplitl [H12]; · iexists _; iexact H12
        isplitl [H13]; · iexists _; iexact H13
        isplitl [H14]; · iexists _; iexact H14
        isplitl [H15]; · iexact H15
        isplitl [H16]; · iexact H16
        isplitl [HS0]; · iexact HS0
        isplitl [HS1]; · iexact HS1
        isplitl [HS2]; · iexact HS2
        isplitl [HS3]; · iexact HS3
        isplitl [HS4]; · iexact HS4
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hh0]; · iexact Hh0
        isplitl [Hh1]; · iexact Hh1
        isplitl [Hh2]; · iexact Hh2
        isplitl [Hh3]; · iexact Hh3
        isplitl [Hh4]; · iexact Hh4
        isplitl [HW]; · iexact HW
        iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, HS0, HS1, HS2, HS3, HS4, Hq0, Hq1, Hq2, Hq3, Hq4, Hq5, Hq6, Hq7, Hq8, Hq9, Hq10, Hq11, Hq12, Hq13, Hh0, Hh1, Hh2, Hh3, Hh4, ⟨%W', HW'⟩⟩
        isplitl [HS0 HS1 HS2 HS3 HS4 Hg Hq0 Hq1 Hq2 Hq3 Hq4 Hq5 Hq6 Hq7 Hq8 Hq9 Hq10 Hq11 Hq12 Hq13 Hh0 Hh1 Hh2 Hh3 Hh4]
        · isplitl [HS0 HS1 HS2 HS3 HS4]
          · isplitl [HS0]; · iexact HS0
            isplitl [HS1]; · iexact HS1
            isplitl [HS2]; · iexact HS2
            isplitl [HS3]; · iexact HS3
            iexact HS4
          isplitl [Hg]
          · iexact Hg
          isplitl [Hq0 Hq1 Hq2 Hq3 Hq4 Hq5 Hq6 Hq7 Hq8 Hq9 Hq10 Hq11 Hq12 Hq13]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            isplitl [Hq10]; · iexact Hq10
            isplitl [Hq11]; · iexact Hq11
            isplitl [Hq12]; · iexact Hq12
            iexact Hq13
          isplitl [Hh0]; · iexact Hh0
          isplitl [Hh1]; · iexact Hh1
          isplitl [Hh2]; · iexact Hh2
          isplitl [Hh3]; · iexact Hh3
          iexact Hh4
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_B_8 m c t h0 h1 _ _ _ _ _ _ _)
        isplitl [H9]
        · unfold owns; iexists _; isplitr
          swap; · iexact H9
          ipureintro; exact View.read_writes_of_cover _ _ _ _ _ (cover0_B_9 m c t h0 h1 _ _ _ _ _ _ _)
        isplitl [H10]
        · unfold owns; iexists _; isplitr
          swap; · iexact H10
          ipureintro; exact View.read_writes_of_cover _ _ _ _ _ (cover0_B_10 m c t h0 h1 _ _ _ _ _ _ _)
        isplitl [H11]
        · unfold owns; iexists _; isplitr
          swap; · iexact H11
          ipureintro; exact View.read_writes_of_cover _ _ _ _ _ (cover0_B_11 m c t h0 h1 _ _ _ _ _ _ _)
        isplitl [H12]
        · unfold owns; iexists _; isplitr
          swap; · iexact H12
          ipureintro; exact View.read_writes_of_cover _ _ _ _ _ (cover0_B_12 m c t h0 h1 _ _ _ _ _ _ _)
        isplitl [H13]
        · unfold owns; iexists _; isplitr
          swap; · iexact H13
          ipureintro; exact View.read_writes_of_cover _ _ _ _ _ (cover0_B_13 m c t h0 h1 _ _ _ _ _ _ _)
        isplitl [H14]
        · unfold owns; iexists _; isplitr
          swap; · iexact H14
          ipureintro; exact View.read_writes_of_cover _ _ _ _ _ (cover0_B_14 m c t h0 h1 _ _ _ _ _ _ _)
        isplitl [H15]
        · unfold owns; iexists _; isplitr
          swap; · iexact H15
          ipureintro; exact View.read_writes_of_cover _ _ _ _ _ (cover0_B_15 m c t h0 h1 _ _ _ _ _ _ _)
        unfold owns; iexists _; isplitr
        swap; · iexact H16
        ipureintro; exact View.read_writes_of_cover _ _ _ _ _ (cover0_B_16 m c t h0 h1 _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (`triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3, HS4⟩, Hg, ⟨Hq0, Hq1, Hq2, Hq3, Hq4, Hq5, Hq6, Hq7, Hq8, Hq9, Hq10, Hq11, Hq12, Hq13⟩, ⟨Hh0, Hh1, Hh2, Hh3, Hh4⟩⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  isplitl [Hg]; · iexact Hg
  isplitl [Hq0 Hq1 Hq2 Hq3 Hq4 Hq5 Hq6 Hq7 Hq8 Hq9 Hq10 Hq11 Hq12 Hq13]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    iexact Hq13
  isplitl [Hh0]; · iexact Hh0
  isplitl [Hh1]; · iexact Hh1
  isplitl [Hh2]; · iexact Hh2
  isplitl [Hh3]; · iexact Hh3
  iexact Hh4

/-- The same after the last point. -/
theorem hout (c : Dev nD) : (dats m 0 c).Φ (Fin.last cfg0.N) ⊢ Pipeline.ΦD osem0 spec0 H0 (V m) c :=
  Phi_out m c _ (by rw [Fin.val_last]; have : cfg0.N = 16 := N_0; omega)

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (`FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.KernelIdeal.Run

end
-- ==== Proof.Payload.lean ====
module

public import proofs.«01_k».proof.Proof.Gen.KernelIdeal.Skeleton
public import proofs.«01_k».proof.Proof.Row
public import Idealize.ShloMosaic.Lib.Pointwise

/-! What one chunk of the hidden width contributes, read at an entry of the tile. -/

@[expose] public section

set_option maxRecDepth 16384

noncomputable section

namespace Cert.KernelIdeal.Payload

open Idealize.ShloMosaic Cert.KernelIdeal.Gen Cert.Row

theorem gate_apply (z : FVec Ideal S256x1024 .bf16) (w : Vec Ideal S256x1024 .bf16) (g u : Vec Ideal S256x256 .bf16)
    (i : Fin 256) (j : Fin 256) :
    k0_pay17 (F := Ideal) z w g u (ix2 i j)
      = gate (∑ k, z (ix2 i k) * w (ix2 j k)) (g (ix2 i j)) (u (ix2 i j)) := by
  pointwise [k0_pay17, k0_pay14, k0_pay15, k0_pay16, gate, Row.sig]

theorem lift_apply (z : FVec Ideal S256x1024 .bf16) (w : Vec Ideal S256x1024 .bf16) (g : Vec Ideal S256x256 .bf16)
    (i : Fin 256) (j : Fin 256) :
    k0_pay18 (F := Ideal) z w g (ix2 i j) = lift (∑ k, z (ix2 i k) * w (ix2 j k)) (g (ix2 i j)) := by
  pointwise [k0_pay18, k0_pay14, k0_pay15, k0_pay16, lift, Row.sig]

theorem step_apply (h : FVec Ideal S256x1024 .f32) (x y : FVec Ideal S256x256 .bf16) (a b : Vec Ideal S256x1024 .bf16)
    (i : Fin 256) (d : Fin 1024) :
    k0_pay19 (F := Ideal) h x y a b (ix2 i d)
      = h (ix2 i d) + ∑ j, (x (ix2 i j) * a (ix2 j d) + y (ix2 i j) * b (ix2 j d)) := by
  rw [Finset.sum_add_distrib, ← add_assoc]
  pointwise [k0_pay19]

theorem alpha_apply (z : Vec Ideal S256x1024 .f32) (i : Fin 256) (d : Fin 1024) :
    k0_pay7 (F := Ideal) z (ix2 i d) = alpha * z (ix2 i d) := by
  pointwise [k0_pay7, alpha]

theorem ds_apply (z : Vec Ideal S256x1024 .f32) (p e : Vec Ideal S256x1024 .bf16) (i : Fin 256) (d : Fin 1024) :
    k0_pay75 (F := Ideal) z p e (ix2 i d)
      = z (ix2 i d) * e (ix2 i d) * p (ix2 i d) * (1 - p (ix2 i d)) := by
  pointwise [k0_pay75, k0_pay73]

theorem dple_apply (z : Vec Ideal S256x1024 .f32) (p : Vec Ideal S256x1024 .bf16) (i : Fin 256) (d : Fin 1024) :
    k0_pay74 (F := Ideal) z p (ix2 i d) = z (ix2 i d) * p (ix2 i d) := by
  pointwise [k0_pay74, k0_pay73]

theorem gain_apply (h zh : FVec Ideal S256x1024 .f32) (o : Vec Ideal S1x1024 .f32) (d : Fin 1024) :
    k0_pay78 (F := Ideal) h zh o (ix2 0 d) = o (ix2 0 d) + ∑ i, h (ix2 i d) * zh (ix2 i d) := by
  pointwise [k0_pay78]

theorem bias_apply (h : FVec Ideal S256x1024 .f32) (o : Vec Ideal S1x1024 .f32) (d : Fin 1024) :
    k0_pay79 (F := Ideal) h o (ix2 0 d) = o (ix2 0 d) + ∑ i, h (ix2 i d) := by
  pointwise [k0_pay79]

theorem norm_apply (h zh : FVec Ideal S256x1024 .f32) (g : Vec Ideal S1x1024 .f32) (r : Vec Ideal S256x1 .f32)
    (i : Fin 256) (d : Fin 1024) :
    k0_pay80 (F := Ideal) h zh g r (ix2 i d)
      = r (ix2 i 0) * (h (ix2 i d) * g (ix2 0 d) - Ideal.div (∑ k, h (ix2 i k) * g (ix2 0 k)) width
          - zh (ix2 i d) * Ideal.div (∑ k, h (ix2 i k) * g (ix2 0 k) * zh (ix2 i k)) width) := by
  pointwise [k0_pay80, width]

theorem dy_apply (z : FVec Ideal S256x1024 .bf16) (w : Vec Ideal S1024x1024 .bf16) (i : Fin 256) (j : Fin 512) :
    k0_pay2 (F := Ideal) z w (ix2 i j) = ∑ k, z (ix2 i k) * w (ix2 ⟨j, by omega⟩ k) := by
  pointwise [k0_pay2, k0_pay1]

theorem dy'_apply (z : FVec Ideal S256x1024 .bf16) (w : Vec Ideal S1024x1024 .bf16) (i : Fin 256) (j : Fin 512) :
    k0_pay3 (F := Ideal) z w (ix2 i j) = ∑ k, z (ix2 i k) * w (ix2 ⟨512 + j, by omega⟩ k) := by
  pointwise [k0_pay3, k0_pay1]

end Cert.KernelIdeal.Payload
-- ==== Proof.Tile.lean ====
module

public import proofs.«01_k».proof.Proof.Payload

/-! One tile of 256 tokens: the kernel's chunk-by-chunk values are the row formulas of `Row`. -/

@[expose] public section

set_option maxRecDepth 16384

noncomputable section

namespace Cert.KernelIdeal.Tile

open Idealize.ShloMosaic Cert.KernelIdeal.Gen Cert.KernelIdeal.Payload Cert.Row

/-- The blocks one grid point reads, and the weights in the scratch. -/
structure Blocks where
  dz : Vec Ideal S256x1024 .f32
  g : Vec Ideal S256x2816 .bf16
  u : Vec Ideal S256x2816 .bf16
  pg : Vec Ideal S256x1024 .bf16
  ple : Vec Ideal S256x1024 .bf16
  zh : Vec Ideal S256x1024 .f32
  r : Vec Ideal S256x1 .f32
  gain : Vec Ideal S1x1024 .f32
  wg : Vec Ideal S2816x1024 .bf16
  wu : Vec Ideal S2816x1024 .bf16
  wd : Vec Ideal S2816x1024 .bf16
  wpg : Vec Ideal S1024x1024 .bf16
  wo : Vec Ideal S1024x1024 .bf16

variable (x : Blocks)

/-- Row `i` of the blocks. -/
def Blocks.token (i : Fin 256) : Token where
  dz k := x.dz (ix2 i k)
  zh k := x.zh (ix2 i k)
  pg k := x.pg (ix2 i k)
  ple k := x.ple (ix2 i k)
  g e := x.g (ix2 i e)
  u e := x.u (ix2 i e)
  r := x.r (ix2 i 0)

/-- The weights in the scratch, with the layer norm's gain. -/
def Blocks.weights : Weights where
  wg e d := x.wg (ix2 e d)
  wu e d := x.wu (ix2 e d)
  wd e d := x.wd (ix2 e d)
  wpg a b := x.wpg (ix2 a b)
  wo a b := x.wo (ix2 a b)
  gain d := x.gain (ix2 0 d)

/-- Chunk `n` of a block's columns. -/
def cols (n : Fin 11) (v : Vec Ideal S256x2816 .bf16) : Vec Ideal S256x256 .bf16 := fun y => v (ix2 (y 0) (col n (y 1)))
/-- Chunk `n` of a weight's rows. -/
def rows (n : Fin 11) (w : Vec Ideal S2816x1024 .bf16) : Vec Ideal S256x1024 .bf16 := fun y => w (ix2 (col n (y 0)) (y 1))

/-- Chunk `n` of the gate product's gradient, as the kernel computes it. -/
def gates (n : Fin 11) : FVec Ideal S256x256 .bf16 := k0_pay17 (k0_pay6 x.dz) (rows n x.wd) (cols n x.g) (cols n x.u)
/-- Chunk `n` of the up product's gradient, as the kernel computes it. -/
def lifts (n : Fin 11) : FVec Ideal S256x256 .bf16 := k0_pay18 (k0_pay6 x.dz) (rows n x.wd) (cols n x.g)
/-- One chunk added into the running gradient of the layer's input. -/
def step (n : Fin 11) (h : FVec Ideal S256x1024 .f32) : FVec Ideal S256x1024 .f32 :=
  k0_pay19 h (gates x n) (lifts x n) (rows n x.wg) (rows n x.wu)

/-- The gradient of the layer's input, as the kernel computes it. -/
def hidden : FVec Ideal S256x1024 .f32 :=
  k0_pay76 x.dz (gates x 9) (lifts x 9)
    (step x 8 (step x 7 (step x 6 (step x 5 (step x 4 (step x 3 (step x 2 (step x 1 (step x 0 (k0_pay7 x.dz))))))))))
    (gates x 10) (lifts x 10) (rows 9 x.wg) (rows 9 x.wu) (rows 10 x.wg) (rows 10 x.wu) x.pg x.ple x.wpg

theorem gates_apply (n : Fin 11) (i j : Fin 256) : gates x n (ix2 i j) = dg x.weights (x.token i) (col n j) := by
  rw [gates, gate_apply]; rfl

theorem lifts_apply (n : Fin 11) (i j : Fin 256) : lifts x n (ix2 i j) = du x.weights (x.token i) (col n j) := by
  rw [lifts, lift_apply]; rfl

/-- Column `d` of what chunk `n` sends back for row `i`. -/
def share (n : Fin 11) (i : Fin 256) (d : Fin 1024) : EReal :=
  ∑ j, (dg x.weights (x.token i) (col n j) * x.weights.wg (col n j) d
    + du x.weights (x.token i) (col n j) * x.weights.wu (col n j) d)

theorem step_apply' (n : Fin 11) (h : FVec Ideal S256x1024 .f32) (i : Fin 256) (d : Fin 1024) :
    step x n h (ix2 i d) = h (ix2 i d) + share x n i d := by
  rw [step, step_apply]
  simp only [gates_apply, lifts_apply]
  rfl

/-- The last two chunks and the embedding gate's part, added to what the first nine chunks left. -/
theorem last_apply (h : FVec Ideal S256x1024 .f32) (i : Fin 256) (d : Fin 1024) :
    k0_pay76 x.dz (gates x 9) (lifts x 9) h (gates x 10) (lifts x 10) (rows 9 x.wg) (rows 9 x.wu) (rows 10 x.wg)
        (rows 10 x.wu) x.pg x.ple x.wpg (ix2 i d)
      = step x 10 (step x 9 h) (ix2 i d) + ∑ k, ds (x.token i) k * x.weights.wpg d k := by
  have e : ∀ k, k0_pay75 (F := Ideal) x.dz x.pg x.ple (ix2 i k) = ds (x.token i) k := fun k => ds_apply _ _ _ _ _
  rw [← Finset.sum_congr rfl fun k _ => congrArg (· * x.weights.wpg d k) (e k)]
  unfold step
  generalize gates x 9 = a, lifts x 9 = b, gates x 10 = a', lifts x 10 = b'
  generalize rows 9 x.wg = p, rows 9 x.wu = q, rows 10 x.wg = p', rows 10 x.wu = q'
  pointwise [k0_pay76, k0_pay19, Blocks.weights]

/-- A sum over the eleven chunks, written out in the order the kernel adds them. -/
theorem sum_eleven (f : Fin 11 → EReal) :
    ∑ n, f n = f 0 + f 1 + f 2 + f 3 + f 4 + f 5 + f 6 + f 7 + f 8 + f 9 + f 10 := by
  rw [Fin.sum_univ_castSucc, Fin.sum_univ_castSucc, Fin.sum_univ_castSucc, Fin.sum_univ_eight]; rfl

theorem hidden_apply (i : Fin 256) (d : Fin 1024) : hidden x (ix2 i d) = dh x.weights (x.token i) d := by
  have e : back x.weights (x.token i) d = ∑ n, share x n i d := sum_chunks _
  rw [hidden, last_apply, dh, e, sum_eleven]
  iterate 11 rw [step_apply']
  rw [alpha_apply]
  simp only [add_assoc]
  rfl

/-- The gradient of the layer norm's input, as the kernel computes it. -/
theorem norm_tile (i : Fin 256) (d : Fin 1024) :
    k0_pay80 (F := Ideal) (hidden x) (k0_pay77 x.zh) x.gain x.r (ix2 i d) = dz1 x.weights (x.token i) d := by
  have e : k0_pay77 (F := Ideal) x.zh = x.zh := by funext y; rw [eq_ix2 y]; pointwise [k0_pay77]
  rw [norm_apply, e]
  simp only [hidden_apply]
  rfl

theorem trunc_tile (i : Fin 256) (d : Fin 1024) :
    k0_pay81 (F := Ideal) (hidden x) (k0_pay77 x.zh) x.gain x.r (ix2 i d) = dz1 x.weights (x.token i) d :=
  (by pointwise [k0_pay81] : k0_pay81 (F := Ideal) (hidden x) (k0_pay77 x.zh) x.gain x.r (ix2 i d)
    = k0_pay80 (F := Ideal) (hidden x) (k0_pay77 x.zh) x.gain x.r (ix2 i d)).trans (norm_tile x i d)

theorem left_tile (i : Fin 256) (j : Fin 512) :
    k0_pay2 (F := Ideal) (k0_pay81 (hidden x) (k0_pay77 x.zh) x.gain x.r) x.wo (ix2 i j)
      = dy x.weights (x.token i) ⟨j, by omega⟩ := by
  rw [dy_apply]; simp only [trunc_tile]; rfl

theorem right_tile (i : Fin 256) (j : Fin 512) :
    k0_pay3 (F := Ideal) (k0_pay81 (hidden x) (k0_pay77 x.zh) x.gain x.r) x.wo (ix2 i j)
      = dy x.weights (x.token i) ⟨512 + j, by omega⟩ := by
  rw [dy'_apply]; simp only [trunc_tile]; rfl

theorem gain_tile (o : Vec Ideal S1x1024 .f32) (d : Fin 1024) :
    k0_pay78 (F := Ideal) (hidden x) (k0_pay77 x.zh) o (ix2 0 d)
      = o (ix2 0 d) + ∑ i, dh x.weights (x.token i) d * (x.token i).zh d := by
  have e : k0_pay77 (F := Ideal) x.zh = x.zh := by funext y; rw [eq_ix2 y]; pointwise [k0_pay77]
  rw [gain_apply, e]; simp only [hidden_apply]; rfl

theorem bias_tile (o : Vec Ideal S1x1024 .f32) (d : Fin 1024) :
    k0_pay79 (F := Ideal) (hidden x) o (ix2 0 d) = o (ix2 0 d) + ∑ i, dh x.weights (x.token i) d := by
  rw [bias_apply]; simp only [hidden_apply]

end Cert.KernelIdeal.Tile
-- ==== Proof.Loads.lean ====
module

public import proofs.«01_k».proof.Proof.Frame
public import proofs.«01_k».proof.Proof.Tile
public import Idealize.ShloMosaic.Lib.Pipeline.ValueKit

/-! What the kernel's loads read: a whole block, one chunk of 256 columns of a block, one chunk of 256 rows of a weight. -/

@[expose] public section

noncomputable section

namespace Cert.KernelIdeal.Loads

open Cert.KernelIdeal.Gen Cert.KernelIdeal.Tile
open Idealize.ShloMosaic Idealize.ShloMosaic.TcCoe Idealize.ShloMosaic.Tactic

/-- A load of a whole block of two axes reads its contents. -/
theorem read_whole {a b : ℕ} {e : EltTy} (r : Memref sig .tc .vmem ⟨2, ![a, b]⟩ e) (h : r.IsWhole)
    (w : Vec Ideal ⟨2, ![a, b]⟩ e) (inb) :
    View.readAt (Elt Ideal) r.view (Rect.unit ![0, 0] ![a, b] inb).toLoadRect (h.unread w) = w := by
  rw [View.readAt_eq_ld, h.read_unread]
  funext j
  exact View.ld_unit_apply_of w ![0, 0] _ inb j j fun k => by fin_cases k <;> exact (Nat.zero_add _).symm

/-- A load of chunk `n` of a weight's rows. -/
theorem read_rows (n : Fin 11) (o : ℕ) (ho : o = 256 * n) (r : Memref sig .tc .vmem S2816x1024 .bf16) (h : r.IsWhole)
    (w : Vec Ideal S2816x1024 .bf16) (inb) :
    View.readAt (Elt Ideal) r.view (Rect.unit ![o, 0] ![256, 1024] inb).toLoadRect (h.unread w) = rows n w := by
  subst ho
  rw [View.readAt_eq_ld, h.read_unread]
  funext j
  exact View.ld_unit_apply_of w ![256 * n, 0] _ inb j (ix2 (Row.col n (j 0)) (j 1)) fun k => by
    fin_cases k; exacts [rfl, (Nat.zero_add _).symm]

/-- A load of chunk `n` of a block's columns. -/
theorem read_cols (n : Fin 11) (o : ℕ) (ho : o = 256 * n) (r : Memref sig .tc .vmem S256x2816 .bf16) (h : r.IsWhole)
    (w : Vec Ideal S256x2816 .bf16) (inb) :
    View.readAt (Elt Ideal) r.view (Rect.unit ![0, o] ![256, 256] inb).toLoadRect (h.unread w) = cols n w := by
  subst ho
  rw [View.readAt_eq_ld, h.read_unread]
  funext j
  exact View.ld_unit_apply_of w ![0, 256 * n] _ inb j (ix2 (j 0) (Row.col n (j 1))) fun k => by
    fin_cases k; exacts [(Nat.zero_add _).symm, rfl]

/-- Writes that cover a shape and all hold the values of one array leave that array. -/
theorem canon_read {s : Shape} {e : EltTy} (L : List (View.Piece (Elt Ideal) s e)) (w : s.Idx → Elt Ideal e)
    (hc : ∀ y, ∃ p ∈ L, y ∈ p.1.set) (h : ∀ p ∈ L, ∀ x, p.2 x = w (p.1.emb x)) : View.canon L = w :=
  funext fun y => View.canon_eq_of_allAt L y (w y) (hc y) fun p hp x hx => (h p hp x).trans (congrArg w hx)

/-- Four quarters of a weight's rows, each holding the array's values, leave the array. -/
theorem quarters (w : Vec Ideal S2816x1024 .bf16) (h3 h2 h1 h0) (p3 p2 p1 p0)
    (e3 : p3 = fun x => w ((Rect.unit (s := S2816x1024) ![2112, 0] ![704, 1024] h3).emb x))
    (e2 : p2 = fun x => w ((Rect.unit (s := S2816x1024) ![1408, 0] ![704, 1024] h2).emb x))
    (e1 : p1 = fun x => w ((Rect.unit (s := S2816x1024) ![704, 0] ![704, 1024] h1).emb x))
    (e0 : p0 = fun x => w ((Rect.unit (s := S2816x1024) ![0, 0] ![704, 1024] h0).emb x)) :
    View.canon (Val := Elt Ideal) (s := S2816x1024) (e := .bf16) [⟨Rect.unit ![2112, 0] ![704, 1024] h3, p3⟩, ⟨Rect.unit ![1408, 0] ![704, 1024] h2, p2⟩,
      ⟨Rect.unit ![704, 0] ![704, 1024] h1, p1⟩, ⟨Rect.unit ![0, 0] ![704, 1024] h0, p0⟩] = w := by
  refine canon_read _ w (View.cover_of_tiledL _ S704x1024.size (by rfl)) fun p hp x => ?_
  simp only [List.mem_cons, List.not_mem_nil, or_false] at hp
  rcases hp with rfl | rfl | rfl | rfl
  exacts [congrFun e3 x, congrFun e2 x, congrFun e1 x, congrFun e0 x]

/-- A load of chunk `n` of the rows of an array the scratch was given in quarters. -/
theorem read_quarters (n : Fin 11) (o : ℕ) (ho : o = 256 * n) (v : View sig .tc .vmem S2816x1024 .bf16)
    (L : List (View.Piece (Elt Ideal) S2816x1024 .bf16)) (w : Vec Ideal S2816x1024 .bf16) (hL : View.canon L = w) (inb) :
    v.readCov L (Rect.unit ![o, 0] ![256, 1024] inb).toLoadRect = rows n w := by
  subst ho
  rw [View.readCov_eq_canon', hL]
  funext j
  exact View.ld_unit_apply_of w ![256 * n, 0] _ inb j (ix2 (Row.col n (j 0)) (j 1)) fun k => by
    fin_cases k; exacts [rfl, (Nat.zero_add _).symm]

theorem read_scratch0 (n : Fin 11) (o : ℕ) (ho : o = 256 * n) (h : scM0_0.IsWhole) (w : Vec Ideal S2816x1024 .bf16) (inb) :
    View.readAt (Elt Ideal) (View.whole cc0_scratch0) (Rect.unit ![o, 0] ![256, 1024] inb).toLoadRect (h.unread w) = rows n w :=
  read_rows n o ho scM0_0 h w inb
theorem read_scratch1 (n : Fin 11) (o : ℕ) (ho : o = 256 * n) (h : scM0_1.IsWhole) (w : Vec Ideal S2816x1024 .bf16) (inb) :
    View.readAt (Elt Ideal) (View.whole cc0_scratch1) (Rect.unit ![o, 0] ![256, 1024] inb).toLoadRect (h.unread w) = rows n w :=
  read_rows n o ho scM0_1 h w inb
theorem read_scratch2 (n : Fin 11) (o : ℕ) (ho : o = 256 * n) (h : scM0_2.IsWhole) (w : Vec Ideal S2816x1024 .bf16) (inb) :
    View.readAt (Elt Ideal) (View.whole cc0_scratch2) (Rect.unit ![o, 0] ![256, 1024] inb).toLoadRect (h.unread w) = rows n w :=
  read_rows n o ho scM0_2 h w inb
theorem read_scratch3 (h : scM0_3.IsWhole) (w : Vec Ideal S1024x1024 .bf16) (inb) :
    View.readAt (Elt Ideal) (View.whole cc0_scratch3) (Rect.unit ![0, 0] ![1024, 1024] inb).toLoadRect (h.unread w) = w :=
  read_whole scM0_3 h w inb
theorem read_scratch4 (h : scM0_4.IsWhole) (w : Vec Ideal S1024x1024 .bf16) (inb) :
    View.readAt (Elt Ideal) (View.whole cc0_scratch4) (Rect.unit ![0, 0] ![1024, 1024] inb).toLoadRect (h.unread w) = w :=
  read_whole scM0_4 h w inb

theorem quarter0 : ∀ a, (![0, 0] : Fin 2 → ℕ) a + (![704, 1024] : Fin 2 → ℕ) a ≤ S2816x1024.size a := by decide
theorem quarter1 : ∀ a, (![704, 0] : Fin 2 → ℕ) a + (![704, 1024] : Fin 2 → ℕ) a ≤ S2816x1024.size a := by decide
theorem quarter2 : ∀ a, (![1408, 0] : Fin 2 → ℕ) a + (![704, 1024] : Fin 2 → ℕ) a ≤ S2816x1024.size a := by decide
theorem quarter3 : ∀ a, (![2112, 0] : Fin 2 → ℕ) a + (![704, 1024] : Fin 2 → ℕ) a ≤ S2816x1024.size a := by decide

/-- The four copies of `main_v28` into its scratch. -/
abbrev parts_main_v28 (f : Vec Ideal S2816x1024 .bf16) : List (View.Piece (Elt Ideal) S2816x1024 .bf16) :=
  [⟨Rect.unit ![2112, 0] ![704, 1024] quarter3,
      ReadAs.same.apply (View.read (Elt Ideal) ((View.whole main_v28).slice (Rect.unit ![2112, 0] ![704, 1024] quarter3)) f)⟩,
    ⟨Rect.unit ![1408, 0] ![704, 1024] quarter2,
      ReadAs.same.apply (View.read (Elt Ideal) ((View.whole main_v28).slice (Rect.unit ![1408, 0] ![704, 1024] quarter2)) f)⟩,
    ⟨Rect.unit ![704, 0] ![704, 1024] quarter1,
      ReadAs.same.apply (View.read (Elt Ideal) ((View.whole main_v28).slice (Rect.unit ![704, 0] ![704, 1024] quarter1)) f)⟩,
    ⟨Rect.unit ![0, 0] ![704, 1024] quarter0,
      ReadAs.same.apply (View.read (Elt Ideal) ((View.whole main_v28).slice (Rect.unit ![0, 0] ![704, 1024] quarter0)) f)⟩]
theorem canon_main_v28 (f : Vec Ideal S2816x1024 .bf16) : View.canon (parts_main_v28 f) = f :=
  quarters f _ _ _ _ _ _ _ _ rfl rfl rfl rfl
theorem read_main_v28 (n : Fin 11) (o : ℕ) (ho : o = 256 * n) (v : View sig .tc .vmem S2816x1024 .bf16)
    (f : Vec Ideal S2816x1024 .bf16) (inb) :
    v.readCov (parts_main_v28 f) (Rect.unit ![o, 0] ![256, 1024] inb).toLoadRect = rows n f :=
  read_quarters n o ho v _ f (canon_main_v28 f) inb

/-- The four copies of `main_v29` into its scratch. -/
abbrev parts_main_v29 (f : Vec Ideal S2816x1024 .bf16) : List (View.Piece (Elt Ideal) S2816x1024 .bf16) :=
  [⟨Rect.unit ![2112, 0] ![704, 1024] quarter3,
      ReadAs.same.apply (View.read (Elt Ideal) ((View.whole main_v29).slice (Rect.unit ![2112, 0] ![704, 1024] quarter3)) f)⟩,
    ⟨Rect.unit ![1408, 0] ![704, 1024] quarter2,
      ReadAs.same.apply (View.read (Elt Ideal) ((View.whole main_v29).slice (Rect.unit ![1408, 0] ![704, 1024] quarter2)) f)⟩,
    ⟨Rect.unit ![704, 0] ![704, 1024] quarter1,
      ReadAs.same.apply (View.read (Elt Ideal) ((View.whole main_v29).slice (Rect.unit ![704, 0] ![704, 1024] quarter1)) f)⟩,
    ⟨Rect.unit ![0, 0] ![704, 1024] quarter0,
      ReadAs.same.apply (View.read (Elt Ideal) ((View.whole main_v29).slice (Rect.unit ![0, 0] ![704, 1024] quarter0)) f)⟩]
theorem canon_main_v29 (f : Vec Ideal S2816x1024 .bf16) : View.canon (parts_main_v29 f) = f :=
  quarters f _ _ _ _ _ _ _ _ rfl rfl rfl rfl
theorem read_main_v29 (n : Fin 11) (o : ℕ) (ho : o = 256 * n) (v : View sig .tc .vmem S2816x1024 .bf16)
    (f : Vec Ideal S2816x1024 .bf16) (inb) :
    v.readCov (parts_main_v29 f) (Rect.unit ![o, 0] ![256, 1024] inb).toLoadRect = rows n f :=
  read_quarters n o ho v _ f (canon_main_v29 f) inb

/-- The four copies of `main_v30` into its scratch. -/
abbrev parts_main_v30 (f : Vec Ideal S2816x1024 .bf16) : List (View.Piece (Elt Ideal) S2816x1024 .bf16) :=
  [⟨Rect.unit ![2112, 0] ![704, 1024] quarter3,
      ReadAs.same.apply (View.read (Elt Ideal) ((View.whole main_v30).slice (Rect.unit ![2112, 0] ![704, 1024] quarter3)) f)⟩,
    ⟨Rect.unit ![1408, 0] ![704, 1024] quarter2,
      ReadAs.same.apply (View.read (Elt Ideal) ((View.whole main_v30).slice (Rect.unit ![1408, 0] ![704, 1024] quarter2)) f)⟩,
    ⟨Rect.unit ![704, 0] ![704, 1024] quarter1,
      ReadAs.same.apply (View.read (Elt Ideal) ((View.whole main_v30).slice (Rect.unit ![704, 0] ![704, 1024] quarter1)) f)⟩,
    ⟨Rect.unit ![0, 0] ![704, 1024] quarter0,
      ReadAs.same.apply (View.read (Elt Ideal) ((View.whole main_v30).slice (Rect.unit ![0, 0] ![704, 1024] quarter0)) f)⟩]
theorem canon_main_v30 (f : Vec Ideal S2816x1024 .bf16) : View.canon (parts_main_v30 f) = f :=
  quarters f _ _ _ _ _ _ _ _ rfl rfl rfl rfl
theorem read_main_v30 (n : Fin 11) (o : ℕ) (ho : o = 256 * n) (v : View sig .tc .vmem S2816x1024 .bf16)
    (f : Vec Ideal S2816x1024 .bf16) (inb) :
    v.readCov (parts_main_v30 f) (Rect.unit ![o, 0] ![256, 1024] inb).toLoadRect = rows n f :=
  read_quarters n o ho v _ f (canon_main_v30 f) inb

theorem canon_main_arg12 (f : Vec Ideal S1024x1024 .bf16) :
    View.canon (Val := Elt Ideal) (s := S1024x1024) (e := .bf16)
      [⟨Rect.whole S1024x1024, ReadAs.same.apply (View.read (Elt Ideal) (View.whole main_arg12) f)⟩] = f :=
  View.canon_unit_zero rfl _ _
theorem read_main_arg12 (v : View sig .tc .vmem S1024x1024 .bf16) (f : Vec Ideal S1024x1024 .bf16) (inb) :
    v.readCov (Val := Elt Ideal) [⟨Rect.whole S1024x1024, ReadAs.same.apply (View.read (Elt Ideal) (View.whole main_arg12) f)⟩]
      (Rect.unit ![0, 0] ![1024, 1024] inb).toLoadRect = f := by
  rw [View.readCov_eq_canon', canon_main_arg12]
  funext j
  exact View.ld_unit_apply_of f ![0, 0] _ inb j j fun k => by fin_cases k <;> exact (Nat.zero_add _).symm

theorem canon_main_arg7 (f : Vec Ideal S1024x1024 .bf16) :
    View.canon (Val := Elt Ideal) (s := S1024x1024) (e := .bf16)
      [⟨Rect.whole S1024x1024, ReadAs.same.apply (View.read (Elt Ideal) (View.whole main_arg7) f)⟩] = f :=
  View.canon_unit_zero rfl _ _
theorem read_main_arg7 (v : View sig .tc .vmem S1024x1024 .bf16) (f : Vec Ideal S1024x1024 .bf16) (inb) :
    v.readCov (Val := Elt Ideal) [⟨Rect.whole S1024x1024, ReadAs.same.apply (View.read (Elt Ideal) (View.whole main_arg7) f)⟩]
      (Rect.unit ![0, 0] ![1024, 1024] inb).toLoadRect = f := by
  rw [View.readCov_eq_canon', canon_main_arg7]
  funext j
  exact View.ld_unit_apply_of f ![0, 0] _ inb j j fun k => by fin_cases k <;> exact (Nat.zero_add _).symm

theorem zeros : (![0, 0] : Fin 2 → ℕ) = fun _ => 0 := by decide

end Cert.KernelIdeal.Loads
-- ==== Proof.Chunks.lean ====
module

public import proofs.«01_k».proof.Proof.Loads

@[expose] public section

set_option maxRecDepth 65536
set_option maxHeartbeats 1600000

noncomputable section

namespace Cert.KernelIdeal.Run
open Cert.KernelIdeal.Gen Cert.KernelIdeal.Tile Cert.KernelIdeal.Loads Cert.Row
open Idealize.ShloMosaic Idealize.ShloMosaic.TcCoe Idealize.ShloMosaic.Tactic

/-! The body is unrolled over the eleven chunks of the hidden columns, so each chunk has its own copy of the same three
computations. Here they are told to be the ones of chunk 1. -/

section
variable (dz : Vec Ideal S256x1024 .f32) (w wg wu : Vec Ideal S256x1024 .bf16) (g u : Vec Ideal S256x256 .bf16)
variable (d l : FVec Ideal S256x256 .bf16) (h : FVec Ideal S256x1024 .f32) (z : FVec Ideal S256x1024 .bf16)
theorem gate0 : k0_pay12 (k0_pay9 g) (k0_pay10 g) (k0_pay11 dz w u) = k0_pay17 (k0_pay6 dz) w g u := rfl
theorem lift0 : k0_pay13 (k0_pay8 dz w) (k0_pay9 g) (k0_pay10 g) = k0_pay18 (k0_pay6 dz) w g := rfl
theorem gate2 : k0_pay23 z w g u = k0_pay17 z w g u := rfl
theorem gate3 : k0_pay29 z w g u = k0_pay17 z w g u := rfl
theorem gate4 : k0_pay35 z w g u = k0_pay17 z w g u := rfl
theorem gate5 : k0_pay41 z w g u = k0_pay17 z w g u := rfl
theorem gate6 : k0_pay47 z w g u = k0_pay17 z w g u := rfl
theorem gate7 : k0_pay53 z w g u = k0_pay17 z w g u := rfl
theorem gate8 : k0_pay59 z w g u = k0_pay17 z w g u := rfl
theorem gate9 : k0_pay65 z w g u = k0_pay17 z w g u := rfl
theorem gate10 : k0_pay71 z w g u = k0_pay17 z w g u := rfl
theorem lift2 : k0_pay24 z w g = k0_pay18 z w g := rfl
theorem lift3 : k0_pay30 z w g = k0_pay18 z w g := rfl
theorem lift4 : k0_pay36 z w g = k0_pay18 z w g := rfl
theorem lift5 : k0_pay42 z w g = k0_pay18 z w g := rfl
theorem lift6 : k0_pay48 z w g = k0_pay18 z w g := rfl
theorem lift7 : k0_pay54 z w g = k0_pay18 z w g := rfl
theorem lift8 : k0_pay60 z w g = k0_pay18 z w g := rfl
theorem lift9 : k0_pay66 z w g = k0_pay18 z w g := rfl
theorem lift10 : k0_pay72 z w g = k0_pay18 z w g := rfl
theorem pull1 : k0_pay25 d l h wg wu = k0_pay19 h d l wg wu := rfl
theorem pull2 : k0_pay31 d l h wg wu = k0_pay19 h d l wg wu := rfl
theorem pull3 : k0_pay37 d l h wg wu = k0_pay19 h d l wg wu := rfl
theorem pull4 : k0_pay43 d l h wg wu = k0_pay19 h d l wg wu := rfl
theorem pull5 : k0_pay49 d l h wg wu = k0_pay19 h d l wg wu := rfl
theorem pull6 : k0_pay55 d l h wg wu = k0_pay19 h d l wg wu := rfl
theorem pull7 : k0_pay61 d l h wg wu = k0_pay19 h d l wg wu := rfl
theorem pull8 : k0_pay67 d l h wg wu = k0_pay19 h d l wg wu := rfl
end

/-- A list of stores headed by chunk `n` of `gates` agrees with it wherever the rest does. -/
theorem gate_cons (x : Blocks) (n : Fin 11) (o : ℕ) (ho : o = 256 * n) {inb : ∀ a, (![0, o] : Fin 2 → ℕ) a + (![256, 256] : Fin 2 → ℕ) a ≤ S256x2816.size a}
    {v : Vec Ideal S256x256 .bf16} {L : List (View.Piece (Elt Ideal) S256x2816 .bf16)} {y : S256x2816.Idx} (hv : v = gates x n)
    (h : View.AllAt L y (dg x.weights (x.token (y 0)) (y 1))) :
    View.AllAt (⟨Rect.unit ![0, o] ![256, 256] inb, v⟩ :: L) y (dg x.weights (x.token (y 0)) (y 1)) := by
  refine View.allAt_cons _ _ _ (fun j hj => ?_) h
  subst hj hv
  have e : (Rect.unit (s := S256x2816) ![0, o] ![256, 256] inb).emb j = ix2 (j 0) (col n (j 1)) := by
    funext a
    fin_cases a
    · exact Fin.ext ((ValueKit.rect_emb_unit_val _ _ inb j 0).trans (Nat.zero_add _))
    · exact Fin.ext ((ValueKit.rect_emb_unit_val _ _ inb j 1).trans (congrArg (· + (j 1).val) ho))
  rw [e]
  exact (congrArg (gates x n) (eq_ix2 j)).trans (gates_apply x n (j 0) (j 1))

/-- A list of stores headed by chunk `n` of `lifts` agrees with it wherever the rest does. -/
theorem lift_cons (x : Blocks) (n : Fin 11) (o : ℕ) (ho : o = 256 * n) {inb : ∀ a, (![0, o] : Fin 2 → ℕ) a + (![256, 256] : Fin 2 → ℕ) a ≤ S256x2816.size a}
    {v : Vec Ideal S256x256 .bf16} {L : List (View.Piece (Elt Ideal) S256x2816 .bf16)} {y : S256x2816.Idx} (hv : v = lifts x n)
    (h : View.AllAt L y (du x.weights (x.token (y 0)) (y 1))) :
    View.AllAt (⟨Rect.unit ![0, o] ![256, 256] inb, v⟩ :: L) y (du x.weights (x.token (y 0)) (y 1)) := by
  refine View.allAt_cons _ _ _ (fun j hj => ?_) h
  subst hj hv
  have e : (Rect.unit (s := S256x2816) ![0, o] ![256, 256] inb).emb j = ix2 (j 0) (col n (j 1)) := by
    funext a
    fin_cases a
    · exact Fin.ext ((ValueKit.rect_emb_unit_val _ _ inb j 0).trans (Nat.zero_add _))
    · exact Fin.ext ((ValueKit.rect_emb_unit_val _ _ inb j 1).trans (congrArg (· + (j 1).val) ho))
  rw [e]
  exact (congrArg (lifts x n) (eq_ix2 j)).trans (lifts_apply x n (j 0) (j 1))

variable (m : (ℓ : Loc nD τ sig) → Buf (Elt Ideal) ℓ)

/-- What point `t` works on: its blocks of the launch's arrays, and the weights in the scratch. -/
def blocks (c : Dev nD) (t : Fin cfg0.N) (s0 s1 s2 : Vec Ideal S2816x1024 .bf16) (s3 s4 : Vec Ideal S1024x1024 .bf16) :
    Blocks where
  dz := iblk m c 0 t
  g := iblk m c 1 t
  u := iblk m c 2 t
  pg := iblk m c 3 t
  ple := iblk m c 4 t
  zh := iblk m c 5 t
  r := iblk m c 6 t
  gain := iblk m c 7 t
  wg := s0
  wu := s1
  wd := s2
  wpg := s3
  wo := s4

/-- The weights as the launch finds them. -/
abbrev point (c : Dev nD) (t : Fin cfg0.N) : Blocks :=
  blocks m c t (V m c main_v28) (V m c main_v29) (V m c main_v30) (V m c main_arg12) (V m c main_arg7)

end Cert.KernelIdeal.Run
-- ==== Proof.PointA.lean ====
module

public import proofs.«01_k».proof.Proof.Chunks

@[expose] public section

set_option maxRecDepth 65536
set_option maxHeartbeats 1600000

noncomputable section

namespace Cert.KernelIdeal.Run
open Cert.KernelIdeal.Gen Cert.KernelIdeal.Tile Cert.KernelIdeal.Loads Cert.Row
open Idealize.ShloMosaic Idealize.ShloMosaic.TcCoe Idealize.ShloMosaic.Tactic

/-! What the body leaves at the first point, which copies the weights into the scratch first. -/

variable (m : (ℓ : Loc nD τ sig) → Buf (Elt Ideal) ℓ) (c : Dev nD) (t : Fin cfg0.N)
variable (h0 h1 : t.val % 16 = 0)

theorem hidden_A :
    kernelRun0_A.sl.r_38 (F := Ideal) c (ms0_0 t) (hs0_0 t) (ms0_1 t) (hs0_1 t) (ms0_2 t) (hs0_2 t) (ms0_3 t) (hs0_3 t) (ms0_4 t) (hs0_4 t)
      scM0_0 scM0_1 scM0_2 scM0_3 (iblk m c 0 t) (iblk m c 1 t) (iblk m c 2 t) (iblk m c 3 t) (iblk m c 4 t) (V m c main_v28) (V m c main_v29) (V m c main_v30) (V m c main_arg12)
      = Tile.hidden (point m c t) := by
  sl_unfold_words
  simp only [read_whole, read_cols 0 0 rfl, read_cols 1 256 rfl, read_cols 2 512 rfl, read_cols 3 768 rfl, read_cols 4 1024 rfl, read_cols 5 1280 rfl, read_cols 6 1536 rfl, read_cols 7 1792 rfl, read_cols 8 2048 rfl, read_cols 9 2304 rfl, read_cols 10 2560 rfl,
    read_main_v28 0 0 rfl, read_main_v28 1 256 rfl, read_main_v28 2 512 rfl, read_main_v28 3 768 rfl, read_main_v28 4 1024 rfl, read_main_v28 5 1280 rfl, read_main_v28 6 1536 rfl, read_main_v28 7 1792 rfl, read_main_v28 8 2048 rfl, read_main_v28 9 2304 rfl, read_main_v28 10 2560 rfl,
    read_main_v29 0 0 rfl, read_main_v29 1 256 rfl, read_main_v29 2 512 rfl, read_main_v29 3 768 rfl, read_main_v29 4 1024 rfl, read_main_v29 5 1280 rfl, read_main_v29 6 1536 rfl, read_main_v29 7 1792 rfl, read_main_v29 8 2048 rfl, read_main_v29 9 2304 rfl, read_main_v29 10 2560 rfl,
    read_main_v30 0 0 rfl, read_main_v30 1 256 rfl, read_main_v30 2 512 rfl, read_main_v30 3 768 rfl, read_main_v30 4 1024 rfl, read_main_v30 5 1280 rfl, read_main_v30 6 1536 rfl, read_main_v30 7 1792 rfl, read_main_v30 8 2048 rfl, read_main_v30 9 2304 rfl, read_main_v30 10 2560 rfl, read_main_arg12,
    gate0, lift0,
    gate2, gate3, gate4, gate5, gate6, gate7, gate8, gate9, gate10, lift2, lift3, lift4, lift5, lift6, lift7, lift8, lift9, lift10, pull1, pull2, pull3, pull4, pull5, pull6, pull7, pull8]
  simp only [Tile.hidden, step, gates, lifts, point, blocks]
  congr 1
  exact read_main_arg12 _ _ _

theorem out_A_8 (y : S256x2816.Idx) :
    out0_A_8 m c t h0 h1 y = dg (point m c t).weights ((point m c t).token (y 0)) (y 1) := by
  unfold out0_A_8
  rw [View.read_writes_junk_eq_canon]
  refine View.canon_eq_of_allAt _ y _ (cover0_A_8 m c t h0 h1 y) ?_
  unfold runA kernelRun0_A
  dsimp only
  refine gate_cons _ 10 2560 rfl ?_
    (gate_cons _ 9 2304 rfl ?_
    (gate_cons _ 8 2048 rfl ?_
    (gate_cons _ 7 1792 rfl ?_
    (gate_cons _ 6 1536 rfl ?_
    (gate_cons _ 5 1280 rfl ?_
    (gate_cons _ 4 1024 rfl ?_
    (gate_cons _ 3 768 rfl ?_
    (gate_cons _ 2 512 rfl ?_
    (gate_cons _ 1 256 rfl ?_
    (gate_cons _ 0 0 rfl ?_ (View.allAt_nil _ _))))))))))) <;>
  · sl_unfold_words
    simp only [read_whole, read_cols 0 0 rfl, read_cols 1 256 rfl, read_cols 2 512 rfl, read_cols 3 768 rfl, read_cols 4 1024 rfl, read_cols 5 1280 rfl, read_cols 6 1536 rfl, read_cols 7 1792 rfl, read_cols 8 2048 rfl, read_cols 9 2304 rfl, read_cols 10 2560 rfl,
      read_main_v30 0 0 rfl, read_main_v30 1 256 rfl, read_main_v30 2 512 rfl, read_main_v30 3 768 rfl, read_main_v30 4 1024 rfl, read_main_v30 5 1280 rfl, read_main_v30 6 1536 rfl, read_main_v30 7 1792 rfl, read_main_v30 8 2048 rfl, read_main_v30 9 2304 rfl, read_main_v30 10 2560 rfl,
      gate0, lift0, gate2, gate3, gate4, gate5, gate6, gate7, gate8, gate9, gate10]
    rfl

theorem out_A_9 (y : S256x2816.Idx) :
    out0_A_9 m c t h0 h1 y = du (point m c t).weights ((point m c t).token (y 0)) (y 1) := by
  unfold out0_A_9
  rw [View.read_writes_junk_eq_canon]
  refine View.canon_eq_of_allAt _ y _ (cover0_A_9 m c t h0 h1 y) ?_
  unfold runA kernelRun0_A
  dsimp only
  refine lift_cons _ 10 2560 rfl ?_
    (lift_cons _ 9 2304 rfl ?_
    (lift_cons _ 8 2048 rfl ?_
    (lift_cons _ 7 1792 rfl ?_
    (lift_cons _ 6 1536 rfl ?_
    (lift_cons _ 5 1280 rfl ?_
    (lift_cons _ 4 1024 rfl ?_
    (lift_cons _ 3 768 rfl ?_
    (lift_cons _ 2 512 rfl ?_
    (lift_cons _ 1 256 rfl ?_
    (lift_cons _ 0 0 rfl ?_ (View.allAt_nil _ _))))))))))) <;>
  · sl_unfold_words
    simp only [read_whole, read_cols 0 0 rfl, read_cols 1 256 rfl, read_cols 2 512 rfl, read_cols 3 768 rfl, read_cols 4 1024 rfl, read_cols 5 1280 rfl, read_cols 6 1536 rfl, read_cols 7 1792 rfl, read_cols 8 2048 rfl, read_cols 9 2304 rfl, read_cols 10 2560 rfl,
      read_main_v30 0 0 rfl, read_main_v30 1 256 rfl, read_main_v30 2 512 rfl, read_main_v30 3 768 rfl, read_main_v30 4 1024 rfl, read_main_v30 5 1280 rfl, read_main_v30 6 1536 rfl, read_main_v30 7 1792 rfl, read_main_v30 8 2048 rfl, read_main_v30 9 2304 rfl, read_main_v30 10 2560 rfl,
      gate0, lift0, lift2, lift3, lift4, lift5, lift6, lift7, lift8, lift9, lift10]
    rfl

theorem out_A_10 :
    out0_A_10 m c t h0 h1 = k0_pay75 (iblk m c 0 t) (iblk m c 3 t) (iblk m c 4 t) := by
  unfold out0_A_10
  rw [View.read_writes_junk_eq_canon]
  unfold runA kernelRun0_A
  dsimp only
  rw [View.canon_unit_zero zeros]
  sl_unfold_words
  simp only [read_whole] <;> rfl

theorem out_A_11 :
    out0_A_11 m c t h0 h1 = k0_pay74 (iblk m c 0 t) (iblk m c 3 t) := by
  unfold out0_A_11
  rw [View.read_writes_junk_eq_canon]
  unfold runA kernelRun0_A
  dsimp only
  rw [View.canon_unit_zero zeros]
  sl_unfold_words
  simp only [read_whole] <;> rfl

theorem out_A_12 :
    out0_A_12 m c t h0 h1 = k0_pay80 (Tile.hidden (point m c t)) (k0_pay77 (iblk m c 5 t)) (iblk m c 7 t) (iblk m c 6 t) := by
  unfold out0_A_12
  rw [View.read_writes_junk_eq_canon]
  unfold runA kernelRun0_A
  dsimp only
  rw [View.canon_unit_zero zeros, hidden_A m c t]
  sl_unfold_words
  simp only [read_whole] <;> rfl

theorem out_A_13 :
    out0_A_13 m c t h0 h1 = k0_pay2 (k0_pay81 (Tile.hidden (point m c t)) (k0_pay77 (iblk m c 5 t)) (iblk m c 7 t) (iblk m c 6 t)) (V m c main_arg7) := by
  unfold out0_A_13
  rw [View.read_writes_junk_eq_canon]
  unfold runA kernelRun0_A
  dsimp only
  unfold kernelRun0_A.sl.r_40
  rw [View.canon_unit_zero zeros, hidden_A m c t]
  sl_unfold_words
  simp only [read_whole] <;> exact congrArg (k0_pay2 _) (read_main_arg7 _ _ _)

theorem out_A_14 :
    out0_A_14 m c t h0 h1 = k0_pay3 (k0_pay81 (Tile.hidden (point m c t)) (k0_pay77 (iblk m c 5 t)) (iblk m c 7 t) (iblk m c 6 t)) (V m c main_arg7) := by
  unfold out0_A_14
  rw [View.read_writes_junk_eq_canon]
  unfold runA kernelRun0_A
  dsimp only
  unfold kernelRun0_A.sl.r_40
  rw [View.canon_unit_zero zeros, hidden_A m c t]
  sl_unfold_words
  simp only [read_whole] <;> exact congrArg (k0_pay3 _) (read_main_arg7 _ _ _)

theorem out_A_15 :
    out0_A_15 m c t h0 h1 = k0_pay78 (Tile.hidden (point m c t)) (k0_pay77 (iblk m c 5 t)) (k0_pay4 (F := Ideal)) := by
  unfold out0_A_15
  rw [View.read_writes_junk_eq_canon]
  unfold runA kernelRun0_A
  dsimp only
  rw [View.canon_cons_unit_zero zeros, hidden_A m c t]
  sl_unfold_words
  rw [View.readCov_cons_toLoadRect]
  simp only [read_whole] <;> rfl

theorem out_A_16 :
    out0_A_16 m c t h0 h1 = k0_pay79 (Tile.hidden (point m c t)) (k0_pay5 (F := Ideal)) := by
  unfold out0_A_16
  rw [View.read_writes_junk_eq_canon]
  unfold runA kernelRun0_A
  dsimp only
  rw [View.canon_cons_unit_zero zeros, hidden_A m c t]
  sl_unfold_words
  rw [View.readCov_cons_toLoadRect]

theorem sout_A_0 : sout0_A_0 m c t h0 h1 = V m c main_v28 := by
  unfold sout0_A_0
  rw [View.read_writes_junk_eq_canon]
  unfold runA kernelRun0_A
  exact canon_main_v28 _

theorem sout_A_1 : sout0_A_1 m c t h0 h1 = V m c main_v29 := by
  unfold sout0_A_1
  rw [View.read_writes_junk_eq_canon]
  unfold runA kernelRun0_A
  exact canon_main_v29 _

theorem sout_A_2 : sout0_A_2 m c t h0 h1 = V m c main_v30 := by
  unfold sout0_A_2
  rw [View.read_writes_junk_eq_canon]
  unfold runA kernelRun0_A
  exact canon_main_v30 _

theorem sout_A_3 : sout0_A_3 m c t h0 h1 = V m c main_arg12 := by
  unfold sout0_A_3
  rw [View.read_writes_junk_eq_canon]
  unfold runA kernelRun0_A
  exact canon_main_arg12 _

theorem sout_A_4 : sout0_A_4 m c t h0 h1 = V m c main_arg7 := by
  unfold sout0_A_4
  rw [View.read_writes_junk_eq_canon]
  unfold runA kernelRun0_A
  exact canon_main_arg7 _

end Cert.KernelIdeal.Run
-- ==== Proof.PointB.lean ====
module

public import proofs.«01_k».proof.Proof.Chunks

@[expose] public section

set_option maxRecDepth 65536
set_option maxHeartbeats 1600000

noncomputable section

namespace Cert.KernelIdeal.Run
open Cert.KernelIdeal.Gen Cert.KernelIdeal.Tile Cert.KernelIdeal.Loads Cert.Row
open Idealize.ShloMosaic Idealize.ShloMosaic.TcCoe Idealize.ShloMosaic.Tactic

/-! What the body leaves at a later point, which finds the weights in the scratch. -/

variable (m : (ℓ : Loc nD τ sig) → Buf (Elt Ideal) ℓ) (c : Dev nD) (t : Fin cfg0.N)
variable (h0 h1 : ¬t.val % 16 = 0) (o15 o16 : Vec Ideal S1x1024 .f32)
  (s0 s1 s2 : Vec Ideal S2816x1024 .bf16) (s3 s4 : Vec Ideal S1024x1024 .bf16)

theorem hidden_B :
    kernelRun0_B.sl.r_38 (F := Ideal) c (ms0_0 t) (hs0_0 t) (ms0_1 t) (hs0_1 t) (ms0_2 t) (hs0_2 t) (ms0_3 t) (hs0_3 t) (ms0_4 t) (hs0_4 t)
      scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) s0 s1 s2 s3
      = Tile.hidden (blocks m c t s0 s1 s2 s3 s4) := by
  sl_unfold_words
  simp only [read_whole, read_cols 0 0 rfl, read_cols 1 256 rfl, read_cols 2 512 rfl, read_cols 3 768 rfl, read_cols 4 1024 rfl, read_cols 5 1280 rfl, read_cols 6 1536 rfl, read_cols 7 1792 rfl, read_cols 8 2048 rfl, read_cols 9 2304 rfl, read_cols 10 2560 rfl,
    read_scratch0 0 0 rfl, read_scratch0 1 256 rfl, read_scratch0 2 512 rfl, read_scratch0 3 768 rfl, read_scratch0 4 1024 rfl, read_scratch0 5 1280 rfl, read_scratch0 6 1536 rfl, read_scratch0 7 1792 rfl, read_scratch0 8 2048 rfl, read_scratch0 9 2304 rfl, read_scratch0 10 2560 rfl,
    read_scratch1 0 0 rfl, read_scratch1 1 256 rfl, read_scratch1 2 512 rfl, read_scratch1 3 768 rfl, read_scratch1 4 1024 rfl, read_scratch1 5 1280 rfl, read_scratch1 6 1536 rfl, read_scratch1 7 1792 rfl, read_scratch1 8 2048 rfl, read_scratch1 9 2304 rfl, read_scratch1 10 2560 rfl,
    read_scratch2 0 0 rfl, read_scratch2 1 256 rfl, read_scratch2 2 512 rfl, read_scratch2 3 768 rfl, read_scratch2 4 1024 rfl, read_scratch2 5 1280 rfl, read_scratch2 6 1536 rfl, read_scratch2 7 1792 rfl, read_scratch2 8 2048 rfl, read_scratch2 9 2304 rfl, read_scratch2 10 2560 rfl, read_scratch3,
    gate0, lift0,
    gate2, gate3, gate4, gate5, gate6, gate7, gate8, gate9, gate10, lift2, lift3, lift4, lift5, lift6, lift7, lift8, lift9, lift10, pull1, pull2, pull3, pull4, pull5, pull6, pull7, pull8]
  simp only [Tile.hidden, step, gates, lifts, blocks]

theorem out_B_8 (y : S256x2816.Idx) :
    out0_B_8 m c t h0 h1 o15 o16 s0 s1 s2 s3 s4 y = dg (blocks m c t s0 s1 s2 s3 s4).weights ((blocks m c t s0 s1 s2 s3 s4).token (y 0)) (y 1) := by
  unfold out0_B_8
  rw [View.read_writes_junk_eq_canon]
  refine View.canon_eq_of_allAt _ y _ (cover0_B_8 m c t h0 h1 o15 o16 s0 s1 s2 s3 s4 y) ?_
  unfold runB kernelRun0_B
  dsimp only
  refine gate_cons _ 10 2560 rfl ?_
    (gate_cons _ 9 2304 rfl ?_
    (gate_cons _ 8 2048 rfl ?_
    (gate_cons _ 7 1792 rfl ?_
    (gate_cons _ 6 1536 rfl ?_
    (gate_cons _ 5 1280 rfl ?_
    (gate_cons _ 4 1024 rfl ?_
    (gate_cons _ 3 768 rfl ?_
    (gate_cons _ 2 512 rfl ?_
    (gate_cons _ 1 256 rfl ?_
    (gate_cons _ 0 0 rfl ?_ (View.allAt_nil _ _))))))))))) <;>
  · sl_unfold_words
    simp only [read_whole, read_cols 0 0 rfl, read_cols 1 256 rfl, read_cols 2 512 rfl, read_cols 3 768 rfl, read_cols 4 1024 rfl, read_cols 5 1280 rfl, read_cols 6 1536 rfl, read_cols 7 1792 rfl, read_cols 8 2048 rfl, read_cols 9 2304 rfl, read_cols 10 2560 rfl,
      read_scratch2 0 0 rfl, read_scratch2 1 256 rfl, read_scratch2 2 512 rfl, read_scratch2 3 768 rfl, read_scratch2 4 1024 rfl, read_scratch2 5 1280 rfl, read_scratch2 6 1536 rfl, read_scratch2 7 1792 rfl, read_scratch2 8 2048 rfl, read_scratch2 9 2304 rfl, read_scratch2 10 2560 rfl,
      gate0, lift0, gate2, gate3, gate4, gate5, gate6, gate7, gate8, gate9, gate10]
    rfl

theorem out_B_9 (y : S256x2816.Idx) :
    out0_B_9 m c t h0 h1 o15 o16 s0 s1 s2 s3 s4 y = du (blocks m c t s0 s1 s2 s3 s4).weights ((blocks m c t s0 s1 s2 s3 s4).token (y 0)) (y 1) := by
  unfold out0_B_9
  rw [View.read_writes_junk_eq_canon]
  refine View.canon_eq_of_allAt _ y _ (cover0_B_9 m c t h0 h1 o15 o16 s0 s1 s2 s3 s4 y) ?_
  unfold runB kernelRun0_B
  dsimp only
  refine lift_cons _ 10 2560 rfl ?_
    (lift_cons _ 9 2304 rfl ?_
    (lift_cons _ 8 2048 rfl ?_
    (lift_cons _ 7 1792 rfl ?_
    (lift_cons _ 6 1536 rfl ?_
    (lift_cons _ 5 1280 rfl ?_
    (lift_cons _ 4 1024 rfl ?_
    (lift_cons _ 3 768 rfl ?_
    (lift_cons _ 2 512 rfl ?_
    (lift_cons _ 1 256 rfl ?_
    (lift_cons _ 0 0 rfl ?_ (View.allAt_nil _ _))))))))))) <;>
  · sl_unfold_words
    simp only [read_whole, read_cols 0 0 rfl, read_cols 1 256 rfl, read_cols 2 512 rfl, read_cols 3 768 rfl, read_cols 4 1024 rfl, read_cols 5 1280 rfl, read_cols 6 1536 rfl, read_cols 7 1792 rfl, read_cols 8 2048 rfl, read_cols 9 2304 rfl, read_cols 10 2560 rfl,
      read_scratch2 0 0 rfl, read_scratch2 1 256 rfl, read_scratch2 2 512 rfl, read_scratch2 3 768 rfl, read_scratch2 4 1024 rfl, read_scratch2 5 1280 rfl, read_scratch2 6 1536 rfl, read_scratch2 7 1792 rfl, read_scratch2 8 2048 rfl, read_scratch2 9 2304 rfl, read_scratch2 10 2560 rfl,
      gate0, lift0, lift2, lift3, lift4, lift5, lift6, lift7, lift8, lift9, lift10]
    rfl

theorem out_B_10 :
    out0_B_10 m c t h0 h1 o15 o16 s0 s1 s2 s3 s4 = k0_pay75 (iblk m c 0 t) (iblk m c 3 t) (iblk m c 4 t) := by
  unfold out0_B_10
  rw [View.read_writes_junk_eq_canon]
  unfold runB kernelRun0_B
  dsimp only
  rw [View.canon_unit_zero zeros]
  sl_unfold_words
  simp only [read_whole] <;> rfl

theorem out_B_11 :
    out0_B_11 m c t h0 h1 o15 o16 s0 s1 s2 s3 s4 = k0_pay74 (iblk m c 0 t) (iblk m c 3 t) := by
  unfold out0_B_11
  rw [View.read_writes_junk_eq_canon]
  unfold runB kernelRun0_B
  dsimp only
  rw [View.canon_unit_zero zeros]
  sl_unfold_words
  simp only [read_whole] <;> rfl

theorem out_B_12 :
    out0_B_12 m c t h0 h1 o15 o16 s0 s1 s2 s3 s4 = k0_pay80 (Tile.hidden (blocks m c t s0 s1 s2 s3 s4)) (k0_pay77 (iblk m c 5 t)) (iblk m c 7 t) (iblk m c 6 t) := by
  unfold out0_B_12
  rw [View.read_writes_junk_eq_canon]
  unfold runB kernelRun0_B
  dsimp only
  rw [View.canon_unit_zero zeros, hidden_B m c t s0 s1 s2 s3 s4]
  sl_unfold_words
  simp only [read_whole] <;> rfl

theorem out_B_13 :
    out0_B_13 m c t h0 h1 o15 o16 s0 s1 s2 s3 s4 = k0_pay2 (k0_pay81 (Tile.hidden (blocks m c t s0 s1 s2 s3 s4)) (k0_pay77 (iblk m c 5 t)) (iblk m c 7 t) (iblk m c 6 t)) s4 := by
  unfold out0_B_13
  rw [View.read_writes_junk_eq_canon]
  unfold runB kernelRun0_B
  dsimp only
  unfold kernelRun0_B.sl.r_40
  rw [View.canon_unit_zero zeros, hidden_B m c t s0 s1 s2 s3 s4]
  sl_unfold_words
  simp only [read_whole, read_scratch4] <;> rfl

theorem out_B_14 :
    out0_B_14 m c t h0 h1 o15 o16 s0 s1 s2 s3 s4 = k0_pay3 (k0_pay81 (Tile.hidden (blocks m c t s0 s1 s2 s3 s4)) (k0_pay77 (iblk m c 5 t)) (iblk m c 7 t) (iblk m c 6 t)) s4 := by
  unfold out0_B_14
  rw [View.read_writes_junk_eq_canon]
  unfold runB kernelRun0_B
  dsimp only
  unfold kernelRun0_B.sl.r_40
  rw [View.canon_unit_zero zeros, hidden_B m c t s0 s1 s2 s3 s4]
  sl_unfold_words
  simp only [read_whole, read_scratch4] <;> rfl

theorem out_B_15 :
    out0_B_15 m c t h0 h1 o15 o16 s0 s1 s2 s3 s4 = k0_pay78 (Tile.hidden (blocks m c t s0 s1 s2 s3 s4)) (k0_pay77 (iblk m c 5 t)) o15 := by
  unfold out0_B_15
  rw [View.read_writes_junk_eq_canon]
  unfold runB kernelRun0_B
  dsimp only
  rw [View.canon_unit_zero zeros, hidden_B m c t s0 s1 s2 s3 s4]
  sl_unfold_words
  simp only [read_whole] <;> rfl

theorem out_B_16 :
    out0_B_16 m c t h0 h1 o15 o16 s0 s1 s2 s3 s4 = k0_pay79 (Tile.hidden (blocks m c t s0 s1 s2 s3 s4)) o16 := by
  unfold out0_B_16
  rw [View.read_writes_junk_eq_canon]
  unfold runB kernelRun0_B
  dsimp only
  rw [View.canon_unit_zero zeros, hidden_B m c t s0 s1 s2 s3 s4]
  sl_unfold_words
  simp only [read_whole] <;> rfl

end Cert.KernelIdeal.Run
-- ==== Proof.Places.lean ====
module

public import proofs.«01_k».proof.Proof.Chunks

@[expose] public section

set_option maxRecDepth 65536
set_option maxHeartbeats 1600000

noncomputable section

namespace Cert.KernelIdeal.Run
open Cert.KernelIdeal.Gen Cert.KernelIdeal.Tile Cert.KernelIdeal.Loads Cert.Row
open Idealize.ShloMosaic Idealize.ShloMosaic.TcCoe Idealize.ShloMosaic.Tactic

variable (m : (ℓ : Loc nD τ sig) → Buf (Elt Ideal) ℓ)

/-! Where the blocks lie: point `t` works on tokens `256 t … 256 t + 255`. -/

/-- Token `i` of point `t`. -/
def place (t : Fin cfg0.N) (i : Fin 256) : Fin 4096 := tok (t.cast N_0) i

theorem index0 : ∀ t : Fin cfg0.N, (cfg0.win 0).index t 0 = t.val ∧ (cfg0.win 0).index t 1 = 0 := by decide +kernel
theorem index1 : ∀ t : Fin cfg0.N, (cfg0.win 1).index t 0 = t.val ∧ (cfg0.win 1).index t 1 = 0 := by decide +kernel
theorem index2 : ∀ t : Fin cfg0.N, (cfg0.win 2).index t 0 = t.val ∧ (cfg0.win 2).index t 1 = 0 := by decide +kernel
theorem index3 : ∀ t : Fin cfg0.N, (cfg0.win 3).index t 0 = t.val ∧ (cfg0.win 3).index t 1 = 0 := by decide +kernel
theorem index4 : ∀ t : Fin cfg0.N, (cfg0.win 4).index t 0 = t.val ∧ (cfg0.win 4).index t 1 = 0 := by decide +kernel
theorem index5 : ∀ t : Fin cfg0.N, (cfg0.win 5).index t 0 = t.val ∧ (cfg0.win 5).index t 1 = 0 := by decide +kernel
theorem index6 : ∀ t : Fin cfg0.N, (cfg0.win 6).index t 0 = t.val ∧ (cfg0.win 6).index t 1 = 0 := by decide +kernel
theorem index8 : ∀ t : Fin cfg0.N, (cfg0.win 8).index t 0 = t.val ∧ (cfg0.win 8).index t 1 = 0 := by decide +kernel
theorem index9 : ∀ t : Fin cfg0.N, (cfg0.win 9).index t 0 = t.val ∧ (cfg0.win 9).index t 1 = 0 := by decide +kernel
theorem index10 : ∀ t : Fin cfg0.N, (cfg0.win 10).index t 0 = t.val ∧ (cfg0.win 10).index t 1 = 0 := by decide +kernel
theorem index11 : ∀ t : Fin cfg0.N, (cfg0.win 11).index t 0 = t.val ∧ (cfg0.win 11).index t 1 = 0 := by decide +kernel
theorem index12 : ∀ t : Fin cfg0.N, (cfg0.win 12).index t 0 = t.val ∧ (cfg0.win 12).index t 1 = 0 := by decide +kernel
theorem index13 : ∀ t : Fin cfg0.N, (cfg0.win 13).index t 0 = t.val ∧ (cfg0.win 13).index t 1 = 0 := by decide +kernel
theorem index14 : ∀ t : Fin cfg0.N, (cfg0.win 14).index t 0 = t.val ∧ (cfg0.win 14).index t 1 = 0 := by decide +kernel
theorem index7 : ∀ t : Fin cfg0.N, (cfg0.win 7).index t 0 = 0 ∧ (cfg0.win 7).index t 1 = 0 := by decide +kernel

theorem block0 (c : Dev nD) (t : Fin cfg0.N) (i : Fin 256) (k : Fin 1024) :
    iblk m c 0 t (ix2 i k) = V m c main_arg4 (ix2 (place t i) k) := by
  have h := index0 t
  unfold place tok
  blk_ext [iblk, h.1, h.2]
  exact congrArg (· + i.val) (Nat.mul_comm _ _)

theorem block1 (c : Dev nD) (t : Fin cfg0.N) (i : Fin 256) (k : Fin 2816) :
    iblk m c 1 t (ix2 i k) = V m c main_v39 (ix2 (place t i) k) := by
  have h := index1 t
  unfold place tok
  blk_ext [iblk, h.1, h.2]
  exact congrArg (· + i.val) (Nat.mul_comm _ _)

theorem block2 (c : Dev nD) (t : Fin cfg0.N) (i : Fin 256) (k : Fin 2816) :
    iblk m c 2 t (ix2 i k) = V m c main_v40 (ix2 (place t i) k) := by
  have h := index2 t
  unfold place tok
  blk_ext [iblk, h.1, h.2]
  exact congrArg (· + i.val) (Nat.mul_comm _ _)

theorem block3 (c : Dev nD) (t : Fin cfg0.N) (i : Fin 256) (k : Fin 1024) :
    iblk m c 3 t (ix2 i k) = V m c main_v47 (ix2 (place t i) k) := by
  have h := index3 t
  unfold place tok
  blk_ext [iblk, h.1, h.2]
  exact congrArg (· + i.val) (Nat.mul_comm _ _)

theorem block4 (c : Dev nD) (t : Fin cfg0.N) (i : Fin 256) (k : Fin 1024) :
    iblk m c 4 t (ix2 i k) = V m c main_v48 (ix2 (place t i) k) := by
  have h := index4 t
  unfold place tok
  blk_ext [iblk, h.1, h.2]
  exact congrArg (· + i.val) (Nat.mul_comm _ _)

theorem block5 (c : Dev nD) (t : Fin cfg0.N) (i : Fin 256) (k : Fin 1024) :
    iblk m c 5 t (ix2 i k) = V m c main_v23 (ix2 (place t i) k) := by
  have h := index5 t
  unfold place tok
  blk_ext [iblk, h.1, h.2]
  exact congrArg (· + i.val) (Nat.mul_comm _ _)

theorem block6 (c : Dev nD) (t : Fin cfg0.N) (i : Fin 256) (k : Fin 1) :
    iblk m c 6 t (ix2 i k) = V m c main_v21 (ix2 (place t i) k) := by
  have h := index6 t
  unfold place tok
  blk_ext [iblk, h.1, h.2]
  exact congrArg (· + i.val) (Nat.mul_comm _ _)

theorem block7 (c : Dev nD) (t : Fin cfg0.N) (k : Fin 1024) : iblk m c 7 t (ix2 0 k) = V m c main_arg5 (ix2 0 k) := by
  have h := index7 t
  blk_ext [iblk, h.1, h.2]

/-- What the launch finds of token `t`. -/
def tokenOf (c : Dev nD) (t : Fin 4096) : Token where
  dz d := V m c main_arg4 (ix2 t d)
  zh d := V m c main_v23 (ix2 t d)
  pg d := V m c main_v47 (ix2 t d)
  ple d := V m c main_v48 (ix2 t d)
  g e := V m c main_v39 (ix2 t e)
  u e := V m c main_v40 (ix2 t e)
  r := V m c main_v21 (ix2 t 0)

/-- The weights as the launch finds them. -/
def weightsOf (c : Dev nD) : Weights where
  wg e d := V m c main_v28 (ix2 e d)
  wu e d := V m c main_v29 (ix2 e d)
  wd e d := V m c main_v30 (ix2 e d)
  wpg a b := V m c main_arg12 (ix2 a b)
  wo a b := V m c main_arg7 (ix2 a b)
  gain d := V m c main_arg5 (ix2 0 d)

theorem point_token (c : Dev nD) (t : Fin cfg0.N) (i : Fin 256) : (point m c t).token i = tokenOf m c (place t i) := by
  have h0 := fun d => block0 m c t i d
  have h1 := fun d => block1 m c t i d
  have h2 := fun d => block2 m c t i d
  have h3 := fun d => block3 m c t i d
  have h4 := fun d => block4 m c t i d
  have h5 := fun d => block5 m c t i d
  have h6 := block6 m c t i 0
  simp only [Blocks.token, tokenOf, point, blocks, h0, h1, h2, h3, h4, h5, h6]

theorem point_weights (c : Dev nD) (t : Fin cfg0.N) : (point m c t).weights = weightsOf m c := by
  have h := fun d => block7 m c t d
  simp only [Blocks.weights, weightsOf, point, blocks, h]

end Cert.KernelIdeal.Run
-- ==== Proof.Fold.lean ====
module

public import proofs.«01_k».proof.Proof.PointA
public import proofs.«01_k».proof.Proof.PointB
public import proofs.«01_k».proof.Proof.Places

@[expose] public section

set_option maxRecDepth 65536
set_option maxHeartbeats 1600000

noncomputable section

namespace Cert.KernelIdeal.Run
open Cert.KernelIdeal.Gen Cert.KernelIdeal.Tile Cert.KernelIdeal.Loads Cert.Row
open Idealize.ShloMosaic Idealize.ShloMosaic.TcCoe Idealize.ShloMosaic.Tactic

variable (m : (ℓ : Loc nD τ sig) → Buf (Elt Ideal) ℓ) (c : Dev nD)

/-- Every point leaves the weights in the scratch. -/
theorem scratch_after (n : ℕ) (hn : n < cfg0.N) : (outsAt0 m c n hn).2.2.2.2.2.2.2.2.2
    = (V m c main_v28, V m c main_v29, V m c main_v30, V m c main_arg12, V m c main_arg7) := by
  induction n with
  | zero =>
    rw [outsAt0_A m c ⟨0, hn⟩ (Nat.zero_mod _) (Nat.zero_mod _)]
    simp only [sout_A_0, sout_A_1, sout_A_2, sout_A_3, sout_A_4]
  | succ n ih =>
    have h : ¬(n + 1) % 16 = 0 := by have hN : n + 1 < 16 := lt_of_lt_of_eq hn N_0; omega
    rw [outsAt0_B m c ⟨n + 1, hn⟩ h h]
    exact ih (Nat.lt_of_succ_lt hn)

theorem left_8 (t : Fin cfg0.N) (i : Fin 256) (e : Fin 2816) :
    (outsAt0 m c t.val t.isLt).1 (ix2 i e) = dg (weightsOf m c) (tokenOf m c (place t i)) e := by
  rw [← point_token, ← point_weights m c t]
  by_cases h : t.val % 16 = 0
  · rw [outsAt0_A m c t h h]
    exact out_A_8 m c t h h (ix2 i e)
  · rw [outsAt0_B m c t h h]
    dsimp only
    rw [scratch_after m c (t.val - 1)]
    exact out_B_8 m c t h h _ _ _ _ _ _ _ (ix2 i e)

theorem left_9 (t : Fin cfg0.N) (i : Fin 256) (e : Fin 2816) :
    (outsAt0 m c t.val t.isLt).2.1 (ix2 i e) = du (weightsOf m c) (tokenOf m c (place t i)) e := by
  rw [← point_token, ← point_weights m c t]
  by_cases h : t.val % 16 = 0
  · rw [outsAt0_A m c t h h]
    exact out_A_9 m c t h h (ix2 i e)
  · rw [outsAt0_B m c t h h]
    dsimp only
    rw [scratch_after m c (t.val - 1)]
    exact out_B_9 m c t h h _ _ _ _ _ _ _ (ix2 i e)

theorem left_10 (t : Fin cfg0.N) (i : Fin 256) (d : Fin 1024) :
    (outsAt0 m c t.val t.isLt).2.2.1 (ix2 i d) = ds (tokenOf m c (place t i)) d := by
  rw [← point_token]
  by_cases h : t.val % 16 = 0
  · rw [outsAt0_A m c t h h]
    dsimp only
    rw [out_A_10 m c t h h]
    exact Cert.KernelIdeal.Payload.ds_apply _ _ _ i d
  · rw [outsAt0_B m c t h h]
    dsimp only
    rw [scratch_after m c (t.val - 1), out_B_10 m c t h h]
    exact Cert.KernelIdeal.Payload.ds_apply _ _ _ i d

theorem left_11 (t : Fin cfg0.N) (i : Fin 256) (d : Fin 1024) :
    (outsAt0 m c t.val t.isLt).2.2.2.1 (ix2 i d) = dple (tokenOf m c (place t i)) d := by
  rw [← point_token]
  by_cases h : t.val % 16 = 0
  · rw [outsAt0_A m c t h h]
    dsimp only
    rw [out_A_11 m c t h h]
    exact Cert.KernelIdeal.Payload.dple_apply _ _ i d
  · rw [outsAt0_B m c t h h]
    dsimp only
    rw [scratch_after m c (t.val - 1), out_B_11 m c t h h]
    exact Cert.KernelIdeal.Payload.dple_apply _ _ i d

theorem left_12 (t : Fin cfg0.N) (i : Fin 256) (d : Fin 1024) :
    (outsAt0 m c t.val t.isLt).2.2.2.2.1 (ix2 i d) = dz1 (weightsOf m c) (tokenOf m c (place t i)) d := by
  rw [← point_token, ← point_weights m c t]
  by_cases h : t.val % 16 = 0
  · rw [outsAt0_A m c t h h]
    dsimp only
    rw [out_A_12 m c t h h]
    exact norm_tile _ _ _
  · rw [outsAt0_B m c t h h]
    dsimp only
    rw [scratch_after m c (t.val - 1), out_B_12 m c t h h]
    exact norm_tile _ _ _

theorem left_13 (t : Fin cfg0.N) (i : Fin 256) (d : Fin 512) :
    (outsAt0 m c t.val t.isLt).2.2.2.2.2.1 (ix2 i d) = dy (weightsOf m c) (tokenOf m c (place t i)) ⟨d, by omega⟩ := by
  rw [← point_token, ← point_weights m c t]
  by_cases h : t.val % 16 = 0
  · rw [outsAt0_A m c t h h]
    dsimp only
    rw [out_A_13 m c t h h]
    exact left_tile _ _ _
  · rw [outsAt0_B m c t h h]
    dsimp only
    rw [scratch_after m c (t.val - 1), out_B_13 m c t h h]
    exact left_tile _ _ _

theorem left_14 (t : Fin cfg0.N) (i : Fin 256) (d : Fin 512) :
    (outsAt0 m c t.val t.isLt).2.2.2.2.2.2.1 (ix2 i d) = dy (weightsOf m c) (tokenOf m c (place t i)) ⟨512 + d, by omega⟩ := by
  rw [← point_token, ← point_weights m c t]
  by_cases h : t.val % 16 = 0
  · rw [outsAt0_A m c t h h]
    dsimp only
    rw [out_A_14 m c t h h]
    exact right_tile _ _ _
  · rw [outsAt0_B m c t h h]
    dsimp only
    rw [scratch_after m c (t.val - 1), out_B_14 m c t h h]
    exact right_tile _ _ _

theorem zero_15 (d : Fin 1024) : k0_pay4 (F := Ideal) (ix2 0 d) = 0 := by pointwise [k0_pay4]

theorem left_15 (t : Fin cfg0.N) (ht : t.val + 1 = cfg0.N) (d : Fin 1024) :
    (outsAt0 m c t.val t.isLt).2.2.2.2.2.2.2.1 (ix2 0 d) = ∑ t, dh (weightsOf m c) (tokenOf m c (t)) d * (tokenOf m c (t)).zh d := by
  have h := Pipeline.eq_sum_fin_of_reset_step_apply_last (fun n hn (d : Fin 1024) => (outsAt0 m c n hn).2.2.2.2.2.2.2.1 (ix2 0 d)) 16
    (fun _ => 0) (fun t d => ∑ i : Fin 256, dh (weightsOf m c) (tokenOf m c (place t i)) d * (tokenOf m c (place t i)).zh d)
    (fun t h d => by
      simp only [← point_token, ← point_weights m c t]
      rw [outsAt0_A m c t h h]
      dsimp only
      rw [out_A_15 m c t h h]
      exact (gain_tile (point m c t) _ d).trans (congrArg (· + _) (zero_15 d)))
    (fun t h d => by
      simp only [← point_token, ← point_weights m c t]
      rw [outsAt0_B m c t h h]
      dsimp only
      rw [scratch_after m c (t.val - 1), out_B_15 m c t h h]
      exact gain_tile (point m c t) _ d) (le_of_eq N_0) t ht d
  refine h.trans ((zero_add _).trans ?_)
  rw [sum_tiles]
  rfl

theorem zero_16 (d : Fin 1024) : k0_pay5 (F := Ideal) (ix2 0 d) = 0 := by pointwise [k0_pay5]

theorem left_16 (t : Fin cfg0.N) (ht : t.val + 1 = cfg0.N) (d : Fin 1024) :
    (outsAt0 m c t.val t.isLt).2.2.2.2.2.2.2.2.1 (ix2 0 d) = ∑ t, dh (weightsOf m c) (tokenOf m c (t)) d := by
  have h := Pipeline.eq_sum_fin_of_reset_step_apply_last (fun n hn (d : Fin 1024) => (outsAt0 m c n hn).2.2.2.2.2.2.2.2.1 (ix2 0 d)) 16
    (fun _ => 0) (fun t d => ∑ i : Fin 256, dh (weightsOf m c) (tokenOf m c (place t i)) d)
    (fun t h d => by
      simp only [← point_token, ← point_weights m c t]
      rw [outsAt0_A m c t h h]
      dsimp only
      rw [out_A_16 m c t h h]
      exact (bias_tile (point m c t) _ d).trans (congrArg (· + _) (zero_16 d)))
    (fun t h d => by
      simp only [← point_token, ← point_weights m c t]
      rw [outsAt0_B m c t h h]
      dsimp only
      rw [scratch_after m c (t.val - 1), out_B_16 m c t h h]
      exact bias_tile (point m c t) _ d) (le_of_eq N_0) t ht d
  refine h.trans ((zero_add _).trans ?_)
  rw [sum_tiles]
  rfl

end Cert.KernelIdeal.Run
-- ==== Proof.Inputs.lean ====
module

public import proofs.«01_k».proof.Proof.Places
public import proofs.«01_k».proof.Proof.Ref
public import Idealize.ShloMosaic.Lib.Claim

@[expose] public section

set_option maxRecDepth 65536
set_option maxHeartbeats 1600000

noncomputable section

namespace Cert.KernelIdeal.Run
open Cert.KernelIdeal.Gen Cert.KernelIdeal.Tile Cert.KernelIdeal.Loads Cert.Row
open Idealize.ShloMosaic Idealize.ShloMosaic.TcCoe Idealize.ShloMosaic.Tactic

variable (m : (ℓ : Loc nD τ sig) → Buf (Elt Ideal) ℓ) (c : Dev nD)

/-! What the launch finds is what the reference's forward lines compute of the same arrays. -/

/-- The arrays the program takes. -/
def args : Ref.Args where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)
  x6 := m ((c : Thread nD τ).loc main_arg6)
  x7 := m ((c : Thread nD τ).loc main_arg7)
  x8 := m ((c : Thread nD τ).loc main_arg8)
  x9 := m ((c : Thread nD τ).loc main_arg9)
  x10 := m ((c : Thread nD τ).loc main_arg10)
  x11 := m ((c : Thread nD τ).loc main_arg11)
  x12 := m ((c : Thread nD τ).loc main_arg12)

theorem entry_v21 : V m c main_v21 = Cert.ReferenceIdeal.Read.val_main_v25 (F := Ideal) (args m c).x0 (args m c).x1 (args m c).x2 (args m c).x7 := by
  entry_read
  rfl

theorem entry_v23 : V m c main_v23 = Cert.ReferenceIdeal.Read.val_main_v30 (F := Ideal) (args m c).x0 (args m c).x1 (args m c).x2 (args m c).x7 := by
  entry_read
  rfl

theorem entry_v28 : V m c main_v28 = Cert.ReferenceIdeal.Read.val_main_v35 (F := Ideal) (args m c).x8 := by
  entry_read
  rfl

theorem entry_v29 : V m c main_v29 = Cert.ReferenceIdeal.Read.val_main_v36 (F := Ideal) (args m c).x9 := by
  entry_read
  rfl

theorem entry_v30 : V m c main_v30 = Cert.ReferenceIdeal.Read.val_main_v45 (F := Ideal) (args m c).x10 := by
  entry_read
  rfl

theorem entry_v39 : V m c main_v39 = Cert.ReferenceIdeal.Read.val_main_v38 (F := Ideal) (args m c).x0 (args m c).x1 (args m c).x2 (args m c).x5 (args m c).x6 (args m c).x7 (args m c).x8 := by
  entry_read
  rfl

theorem entry_v40 : V m c main_v40 = Cert.ReferenceIdeal.Read.val_main_v40 (F := Ideal) (args m c).x0 (args m c).x1 (args m c).x2 (args m c).x5 (args m c).x6 (args m c).x7 (args m c).x9 := by
  entry_read
  rfl

theorem entry_v47 : V m c main_v47 = Cert.ReferenceIdeal.Read.val_main_v58 (F := Ideal) (args m c).x0 (args m c).x1 (args m c).x2 (args m c).x5 (args m c).x6 (args m c).x7 (args m c).x12 := by
  entry_read
  rfl

theorem entry_v48 : V m c main_v48 = Cert.ReferenceIdeal.Read.val_main_v44 (F := Ideal) (args m c).x3 (args m c).x11 := by
  entry_read
  rfl

theorem token_eq (t : Fin 4096) : tokenOf m c t = (args m c).token t := by
  simp only [tokenOf, Ref.Args.token, entry_v21, entry_v23, entry_v39, entry_v40, entry_v47, entry_v48, V_main_arg4]
  rfl

theorem weights_eq : weightsOf m c = (args m c).weights := by
  simp only [weightsOf, Ref.Args.weights, entry_v28, entry_v29, entry_v30, V_main_arg5, V_main_arg7, V_main_arg12]
  rfl

end Cert.KernelIdeal.Run
-- ==== Proof.Final.lean ====
module

public import proofs.«01_k».proof.Proof.Fold
public import proofs.«01_k».proof.Proof.Inputs

@[expose] public section

set_option maxRecDepth 65536
set_option maxHeartbeats 1600000

noncomputable section

namespace Cert.KernelIdeal.Run
open Cert.KernelIdeal.Gen Cert.KernelIdeal.Tile Cert.KernelIdeal.Loads Cert.Row
open Idealize.ShloMosaic Idealize.ShloMosaic.TcCoe Idealize.ShloMosaic.Tactic

variable (m : (ℓ : Loc nD τ sig) → Buf (Elt Ideal) ℓ) (c : Dev nD)

/-! The arrays after the run. -/

theorem final_8 : (dats m 0 c).arrAt 8 cfg0.N = fun x : S4096x2816.Idx => dg (args m c).weights ((args m c).token (x 0)) (x 1) := by
  refine (dats m 0 c).arrAt_eq_of_covers 8 _ (by decide +kernel) fun t _ y => ?_
  rw [after0_8]
  have hi := index8 t
  have e : ((cfg0.win 8).blk t).view.emb y = (ix2 (place t (y 0)) (y 1) : S4096x2816.Idx) := by
    unfold place tok
    blk_ext [hi.1, hi.2]
    exact congrArg (· + (y 0).val) (Nat.mul_comm _ _)
  refine Eq.trans ?_ (congrArg (fun x : S4096x2816.Idx => dg (args m c).weights ((args m c).token (x 0)) (x 1)) e.symm)
  refine (congrArg (outsAt0 m c t.val t.isLt).1 (eq_ix2 y)).trans ((left_8 m c t (y 0) (y 1)).trans ?_)
  rw [weights_eq, token_eq]
  rfl

theorem final_9 : (dats m 0 c).arrAt 9 cfg0.N = fun x : S4096x2816.Idx => du (args m c).weights ((args m c).token (x 0)) (x 1) := by
  refine (dats m 0 c).arrAt_eq_of_covers 9 _ (by decide +kernel) fun t _ y => ?_
  rw [after0_9]
  have hi := index9 t
  have e : ((cfg0.win 9).blk t).view.emb y = (ix2 (place t (y 0)) (y 1) : S4096x2816.Idx) := by
    unfold place tok
    blk_ext [hi.1, hi.2]
    exact congrArg (· + (y 0).val) (Nat.mul_comm _ _)
  refine Eq.trans ?_ (congrArg (fun x : S4096x2816.Idx => du (args m c).weights ((args m c).token (x 0)) (x 1)) e.symm)
  refine (congrArg (outsAt0 m c t.val t.isLt).2.1 (eq_ix2 y)).trans ((left_9 m c t (y 0) (y 1)).trans ?_)
  rw [weights_eq, token_eq]
  rfl

theorem final_10 : (dats m 0 c).arrAt 10 cfg0.N = fun x : S4096x1024.Idx => ds ((args m c).token (x 0)) (x 1) := by
  refine (dats m 0 c).arrAt_eq_of_covers 10 _ (by decide +kernel) fun t _ y => ?_
  rw [after0_10]
  have hi := index10 t
  have e : ((cfg0.win 10).blk t).view.emb y = (ix2 (place t (y 0)) (y 1) : S4096x1024.Idx) := by
    unfold place tok
    blk_ext [hi.1, hi.2]
    exact congrArg (· + (y 0).val) (Nat.mul_comm _ _)
  refine Eq.trans ?_ (congrArg (fun x : S4096x1024.Idx => ds ((args m c).token (x 0)) (x 1)) e.symm)
  refine (congrArg (outsAt0 m c t.val t.isLt).2.2.1 (eq_ix2 y)).trans ((left_10 m c t (y 0) (y 1)).trans ?_)
  rw [token_eq]
  rfl

theorem final_11 : (dats m 0 c).arrAt 11 cfg0.N = fun x : S4096x1024.Idx => dple ((args m c).token (x 0)) (x 1) := by
  refine (dats m 0 c).arrAt_eq_of_covers 11 _ (by decide +kernel) fun t _ y => ?_
  rw [after0_11]
  have hi := index11 t
  have e : ((cfg0.win 11).blk t).view.emb y = (ix2 (place t (y 0)) (y 1) : S4096x1024.Idx) := by
    unfold place tok
    blk_ext [hi.1, hi.2]
    exact congrArg (· + (y 0).val) (Nat.mul_comm _ _)
  refine Eq.trans ?_ (congrArg (fun x : S4096x1024.Idx => dple ((args m c).token (x 0)) (x 1)) e.symm)
  refine (congrArg (outsAt0 m c t.val t.isLt).2.2.2.1 (eq_ix2 y)).trans ((left_11 m c t (y 0) (y 1)).trans ?_)
  rw [token_eq]
  rfl

theorem final_12 : (dats m 0 c).arrAt 12 cfg0.N = fun x : S4096x1024.Idx => dz1 (args m c).weights ((args m c).token (x 0)) (x 1) := by
  refine (dats m 0 c).arrAt_eq_of_covers 12 _ (by decide +kernel) fun t _ y => ?_
  rw [after0_12]
  have hi := index12 t
  have e : ((cfg0.win 12).blk t).view.emb y = (ix2 (place t (y 0)) (y 1) : S4096x1024.Idx) := by
    unfold place tok
    blk_ext [hi.1, hi.2]
    exact congrArg (· + (y 0).val) (Nat.mul_comm _ _)
  refine Eq.trans ?_ (congrArg (fun x : S4096x1024.Idx => dz1 (args m c).weights ((args m c).token (x 0)) (x 1)) e.symm)
  refine (congrArg (outsAt0 m c t.val t.isLt).2.2.2.2.1 (eq_ix2 y)).trans ((left_12 m c t (y 0) (y 1)).trans ?_)
  rw [weights_eq, token_eq]
  rfl

theorem final_13 : (dats m 0 c).arrAt 13 cfg0.N = fun x : S4096x512.Idx => dy (args m c).weights ((args m c).token (x 0)) ⟨(x 1).val, lt_of_lt_of_le (x 1).isLt (by decide)⟩ := by
  refine (dats m 0 c).arrAt_eq_of_covers 13 _ (by decide +kernel) fun t _ y => ?_
  rw [after0_13]
  have hi := index13 t
  have e : ((cfg0.win 13).blk t).view.emb y = (ix2 (place t (y 0)) (y 1) : S4096x512.Idx) := by
    unfold place tok
    blk_ext [hi.1, hi.2]
    exact congrArg (· + (y 0).val) (Nat.mul_comm _ _)
  refine Eq.trans ?_ (congrArg (fun x : S4096x512.Idx => dy (args m c).weights ((args m c).token (x 0)) ⟨(x 1).val, lt_of_lt_of_le (x 1).isLt (by decide)⟩) e.symm)
  refine (congrArg (outsAt0 m c t.val t.isLt).2.2.2.2.2.1 (eq_ix2 y)).trans ((left_13 m c t (y 0) (y 1)).trans ?_)
  rw [weights_eq, token_eq]
  rfl

theorem final_14 : (dats m 0 c).arrAt 14 cfg0.N = fun x : S4096x512.Idx => dy (args m c).weights ((args m c).token (x 0)) ⟨512 + (x 1).val, Nat.add_lt_add_left (x 1).isLt 512⟩ := by
  refine (dats m 0 c).arrAt_eq_of_covers 14 _ (by decide +kernel) fun t _ y => ?_
  rw [after0_14]
  have hi := index14 t
  have e : ((cfg0.win 14).blk t).view.emb y = (ix2 (place t (y 0)) (y 1) : S4096x512.Idx) := by
    unfold place tok
    blk_ext [hi.1, hi.2]
    exact congrArg (· + (y 0).val) (Nat.mul_comm _ _)
  refine Eq.trans ?_ (congrArg (fun x : S4096x512.Idx => dy (args m c).weights ((args m c).token (x 0)) ⟨512 + (x 1).val, Nat.add_lt_add_left (x 1).isLt 512⟩) e.symm)
  refine (congrArg (outsAt0 m c t.val t.isLt).2.2.2.2.2.2.1 (eq_ix2 y)).trans ((left_14 m c t (y 0) (y 1)).trans ?_)
  rw [weights_eq, token_eq]
  rfl

theorem final_15 : (dats m 0 c).arrAt 15 cfg0.N = fun x : S1x1024.Idx => ∑ t, dh (args m c).weights ((args m c).token t) (x 1) * ((args m c).token t).zh (x 1) := by
  refine (dats m 0 c).arrAt_eq_of_after_last 15 t0_15 (by decide +kernel) _ fun x => ?_
  rw [after0_15]
  have e : x = ix2 0 (x 1) := (eq_ix2 x).trans (congrArg (fun i : Fin 1 => (ix2 i (x 1) : S1x1024.Idx)) (Subsingleton.elim _ _))
  refine (congrArg (outsAt0 m c t0_15.val t0_15.isLt).2.2.2.2.2.2.2.1 e).trans ((left_15 m c t0_15 rfl (x 1)).trans ?_)
  simp only [weights_eq, token_eq]
  rfl

theorem final_16 : (dats m 0 c).arrAt 16 cfg0.N = fun x : S1x1024.Idx => ∑ t, dh (args m c).weights ((args m c).token t) (x 1) := by
  refine (dats m 0 c).arrAt_eq_of_after_last 16 t0_15 (by decide +kernel) _ fun x => ?_
  rw [after0_16]
  have e : x = ix2 0 (x 1) := (eq_ix2 x).trans (congrArg (fun i : Fin 1 => (ix2 i (x 1) : S1x1024.Idx)) (Subsingleton.elim _ _))
  refine (congrArg (outsAt0 m c t0_15.val t0_15.isLt).2.2.2.2.2.2.2.2.1 e).trans ((left_16 m c t0_15 rfl (x 1)).trans ?_)
  simp only [weights_eq, token_eq]
  rfl

end Cert.KernelIdeal.Run
-- ==== Proof.Result.lean ====
module

public import proofs.«01_k».proof.Proof.Ref
public import proofs.«01_k».proof.Proof.Final

/-! The two programs' results meet: each of the reference's nine results, as an array of real arguments, is the row
formula that the kernel's array of the same number holds at the end of its run. -/

@[expose] public section

set_option maxRecDepth 65536
set_option maxHeartbeats 1600000

noncomputable section

namespace Cert.KernelIdeal.Run

open Cert.KernelIdeal.Gen
open Idealize.ShloMosaic Idealize.ShloMosaic.TcCoe Idealize.SL.Sem

/-- The run with its nine result arrays named. -/
theorem run_results (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v49_0) = (dats m 0 c).arrAt 8 cfg0.N
      ∧ r.2.mem ((c.tc : Thread nD τ).loc main_v49_1) = (dats m 0 c).arrAt 9 cfg0.N
      ∧ r.2.mem ((c.tc : Thread nD τ).loc main_v49_2) = (dats m 0 c).arrAt 10 cfg0.N
      ∧ r.2.mem ((c.tc : Thread nD τ).loc main_v49_3) = (dats m 0 c).arrAt 11 cfg0.N
      ∧ r.2.mem ((c.tc : Thread nD τ).loc main_v49_4) = (dats m 0 c).arrAt 12 cfg0.N
      ∧ r.2.mem ((c.tc : Thread nD τ).loc main_v49_5) = (dats m 0 c).arrAt 13 cfg0.N
      ∧ r.2.mem ((c.tc : Thread nD τ).loc main_v49_6) = (dats m 0 c).arrAt 14 cfg0.N
      ∧ r.2.mem ((c.tc : Thread nD τ).loc main_v49_7) = (dats m 0 c).arrAt 15 cfg0.N
      ∧ r.2.mem ((c.tc : Thread nD τ).loc main_v49_8) = (dats m 0 c).arrAt 16 cfg0.N) :=
  (θ_run defs _ _).mono (fun _ h c => ⟨(h c).1 8, (h c).1 9, (h c).1 10, (h c).1 11, (h c).1 12, (h c).1 13, (h c).1 14, (h c).1 15, (h c).1 16⟩) (run_main m ρ)

end Cert.KernelIdeal.Run

namespace Cert.Result

open Cert.Reals Cert.Ref Cert.Row Cert.KernelIdeal.Run Cert.ReferenceIdeal.Read
open Idealize.ShloMosaic Idealize.ShloMosaic.TcCoe Idealize.ShloMosaic.Tactic

/-- The arguments of the reference's program on a device. -/
def refArgs (m : (ℓ : Loc Cert.ReferenceIdeal.nD Cert.ReferenceIdeal.τ Cert.ReferenceIdeal.sig) → Buf (Elt Ideal) ℓ)
    (c : Dev Cert.ReferenceIdeal.nD) : Ref.Args where
  x0 := m ((c : Thread Cert.ReferenceIdeal.nD Cert.ReferenceIdeal.τ).loc Cert.ReferenceIdeal.main_arg0)
  x1 := m ((c : Thread Cert.ReferenceIdeal.nD Cert.ReferenceIdeal.τ).loc Cert.ReferenceIdeal.main_arg1)
  x2 := m ((c : Thread Cert.ReferenceIdeal.nD Cert.ReferenceIdeal.τ).loc Cert.ReferenceIdeal.main_arg2)
  x3 := m ((c : Thread Cert.ReferenceIdeal.nD Cert.ReferenceIdeal.τ).loc Cert.ReferenceIdeal.main_arg3)
  x4 := m ((c : Thread Cert.ReferenceIdeal.nD Cert.ReferenceIdeal.τ).loc Cert.ReferenceIdeal.main_arg4)
  x5 := m ((c : Thread Cert.ReferenceIdeal.nD Cert.ReferenceIdeal.τ).loc Cert.ReferenceIdeal.main_arg5)
  x6 := m ((c : Thread Cert.ReferenceIdeal.nD Cert.ReferenceIdeal.τ).loc Cert.ReferenceIdeal.main_arg6)
  x7 := m ((c : Thread Cert.ReferenceIdeal.nD Cert.ReferenceIdeal.τ).loc Cert.ReferenceIdeal.main_arg7)
  x8 := m ((c : Thread Cert.ReferenceIdeal.nD Cert.ReferenceIdeal.τ).loc Cert.ReferenceIdeal.main_arg8)
  x9 := m ((c : Thread Cert.ReferenceIdeal.nD Cert.ReferenceIdeal.τ).loc Cert.ReferenceIdeal.main_arg9)
  x10 := m ((c : Thread Cert.ReferenceIdeal.nD Cert.ReferenceIdeal.τ).loc Cert.ReferenceIdeal.main_arg10)
  x11 := m ((c : Thread Cert.ReferenceIdeal.nD Cert.ReferenceIdeal.τ).loc Cert.ReferenceIdeal.main_arg11)
  x12 := m ((c : Thread Cert.ReferenceIdeal.nD Cert.ReferenceIdeal.τ).loc Cert.ReferenceIdeal.main_arg12)

/-- An index of a one-row array lies in row 0. -/
theorem index_row (x : Cert.KernelIdeal.S1x1024.Idx) : x = ix2 0 (x 1) :=
  (eq_ix2 x).trans (congrArg (fun i : Fin 1 => (ix2 i (x 1) : Cert.KernelIdeal.S1x1024.Idx)) (Subsingleton.elim _ _))

section
variable {A : Ref.Args} (hA : A.Real)
include hA

theorem dg_array : val_main_v117 (F := Ideal) A.x0 A.x1 A.x2 A.x4 A.x5 A.x6 A.x7 A.x8 A.x9 A.x10
    = fun x : Cert.KernelIdeal.S4096x2816.Idx => dg A.weights (A.token (x 0)) (x 1) :=
  funext fun x => (congrArg (val_main_v117 (F := Ideal) A.x0 A.x1 A.x2 A.x4 A.x5 A.x6 A.x7 A.x8 A.x9 A.x10) (eq_ix2 x)).trans (dg_apply hA (x 0) (x 1))

theorem du_array : val_main_v118 (F := Ideal) A.x0 A.x1 A.x2 A.x4 A.x5 A.x6 A.x7 A.x8 A.x10
    = fun x : Cert.KernelIdeal.S4096x2816.Idx => du A.weights (A.token (x 0)) (x 1) :=
  funext fun x => (congrArg (val_main_v118 (F := Ideal) A.x0 A.x1 A.x2 A.x4 A.x5 A.x6 A.x7 A.x8 A.x10) (eq_ix2 x)).trans (du_apply A (x 0) (x 1))

theorem ds_array : val_main_v119 (F := Ideal) A.x0 A.x1 A.x2 A.x3 A.x4 A.x5 A.x6 A.x7 A.x11 A.x12
    = fun x : Cert.KernelIdeal.S4096x1024.Idx => ds (A.token (x 0)) (x 1) :=
  funext fun x => (congrArg (val_main_v119 (F := Ideal) A.x0 A.x1 A.x2 A.x3 A.x4 A.x5 A.x6 A.x7 A.x11 A.x12) (eq_ix2 x)).trans (ds_apply A (x 0) (x 1))

theorem dple_array : val_main_v120 (F := Ideal) A.x0 A.x1 A.x2 A.x4 A.x5 A.x6 A.x7 A.x12
    = fun x : Cert.KernelIdeal.S4096x1024.Idx => dple (A.token (x 0)) (x 1) :=
  funext fun x => (congrArg (val_main_v120 (F := Ideal) A.x0 A.x1 A.x2 A.x4 A.x5 A.x6 A.x7 A.x12) (eq_ix2 x)).trans (dple_apply A (x 0) (x 1))

theorem dz1_array : val_main_v111 (F := Ideal) A.x0 A.x1 A.x2 A.x3 A.x4 A.x5 A.x6 A.x7 A.x8 A.x9 A.x10 A.x11 A.x12
    = fun x : Cert.KernelIdeal.S4096x1024.Idx => dz1 A.weights (A.token (x 0)) (x 1) :=
  funext fun x => (congrArg (val_main_v111 (F := Ideal) A.x0 A.x1 A.x2 A.x3 A.x4 A.x5 A.x6 A.x7 A.x8 A.x9 A.x10 A.x11 A.x12) (eq_ix2 x)).trans (dz1_apply hA (x 0) (x 1))

theorem dyr_array : val_main_v116 (F := Ideal) A.x0 A.x1 A.x2 A.x3 A.x4 A.x5 A.x6 A.x7 A.x8 A.x9 A.x10 A.x11 A.x12
    = fun x : Cert.KernelIdeal.S4096x512.Idx => dy A.weights (A.token (x 0)) ⟨(x 1).val, lt_of_lt_of_le (x 1).isLt (by decide)⟩ :=
  funext fun x => (congrArg (val_main_v116 (F := Ideal) A.x0 A.x1 A.x2 A.x3 A.x4 A.x5 A.x6 A.x7 A.x8 A.x9 A.x10 A.x11 A.x12) (eq_ix2 x)).trans (dyr_apply hA (x 0) (x 1))

theorem dya_array : val_main_v115 (F := Ideal) A.x0 A.x1 A.x2 A.x3 A.x4 A.x5 A.x6 A.x7 A.x8 A.x9 A.x10 A.x11 A.x12
    = fun x : Cert.KernelIdeal.S4096x512.Idx => dy A.weights (A.token (x 0)) ⟨512 + (x 1).val, Nat.add_lt_add_left (x 1).isLt 512⟩ :=
  funext fun x => (congrArg (val_main_v115 (F := Ideal) A.x0 A.x1 A.x2 A.x3 A.x4 A.x5 A.x6 A.x7 A.x8 A.x9 A.x10 A.x11 A.x12) (eq_ix2 x)).trans (dya_apply hA (x 0) (x 1))

theorem gain_array : val_main_v85 (F := Ideal) A.x0 A.x1 A.x2 A.x3 A.x4 A.x5 A.x6 A.x7 A.x8 A.x9 A.x10 A.x11 A.x12
    = fun x : Cert.KernelIdeal.S1x1024.Idx => ∑ t, dh A.weights (A.token t) (x 1) * (A.token t).zh (x 1) :=
  funext fun x => (congrArg (val_main_v85 (F := Ideal) A.x0 A.x1 A.x2 A.x3 A.x4 A.x5 A.x6 A.x7 A.x8 A.x9 A.x10 A.x11 A.x12) (index_row x)).trans (gain_apply hA (x 1))

theorem bias_array : val_main_v82 (F := Ideal) A.x0 A.x1 A.x2 A.x3 A.x4 A.x5 A.x6 A.x7 A.x8 A.x9 A.x10 A.x11 A.x12
    = fun x : Cert.KernelIdeal.S1x1024.Idx => ∑ t, dh A.weights (A.token t) (x 1) :=
  funext fun x => (congrArg (val_main_v82 (F := Ideal) A.x0 A.x1 A.x2 A.x3 A.x4 A.x5 A.x6 A.x7 A.x8 A.x9 A.x10 A.x11 A.x12) (index_row x)).trans (bias_apply hA (x 1))

end

end Cert.Result
-- ==== Proof.Same.lean ====
module

public import proofs.«01_k».proof.Defs
public import proofs.«01_k».proof.Proof.Frame
public import proofs.«01_k».proof.Proof.Gen.Kernel

/-! The frame of the kernel as printed. Its program and the idealized one are one text under two names (no operation was
rewritten), and `frame` holds over any values: the claim about the kernel at the bits is `frame` at the bits. -/

@[expose] public section

set_option maxRecDepth 65536

noncomputable section

namespace Cert.KernelIdeal.Run

open Idealize.ShloMosaic Idealize.ShloMosaic.TcCoe Idealize.ShloMosaic.Tactic Idealize.SL.Sem

/-- `frame` at the bits, as a proposition. -/
def FrameAtBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0)

theorem quiescent_eq : Cert.quiescent_Kernel = FrameAtBits := by sl_kernel_rfl

/-- The kernel as printed. -/
theorem frame_kernel : Cert.quiescent_Kernel := quiescent_eq.mpr fun m ρ _ => frame (F := Bits) m ρ

end Cert.KernelIdeal.Run
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Gen.Wgrad
public import proofs.«01_k».proof.Proof.Gen.Wgrad.Frame
public import proofs.«01_k».proof.Proof.Gen.WgradIdeal
public import proofs.«01_k».proof.Proof.Gen.WgradIdeal.Frame
public import proofs.«01_k».proof.Proof.Gen.WgradIdeal.Value
public import proofs.«01_k».proof.Proof.Gen.WgradReferenceIdeal
public import proofs.«01_k».proof.Proof.Gen.WgradReferenceIdeal.Run
public import proofs.«01_k».proof.Proof.Gen.WgradReferenceIdeal.Read
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojIdeal.Value
public import proofs.«01_k».proof.Proof.Gen.InprojReferenceIdeal
public import proofs.«01_k».proof.Proof.Gen.InprojReferenceIdeal.Run
public import proofs.«01_k».proof.Proof.Gen.InprojReferenceIdeal.Read
public import proofs.«01_k».proof.Proof.Gen.Win
public import proofs.«01_k».proof.Proof.Gen.Win.Frame
public import proofs.«01_k».proof.Proof.Gen.WinIdeal
public import proofs.«01_k».proof.Proof.Gen.WinIdeal.Frame
public import proofs.«01_k».proof.Proof.Gen.WinIdeal.Value
public import proofs.«01_k».proof.Proof.Gen.WinReferenceIdeal
public import proofs.«01_k».proof.Proof.Gen.WinReferenceIdeal.Run
public import proofs.«01_k».proof.Proof.Gen.WinReferenceIdeal.Read
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.Misc
public import proofs.«01_k».proof.Proof.Gen.Misc.Frame
public import proofs.«01_k».proof.Proof.Gen.MiscIdeal
public import proofs.«01_k».proof.Proof.Gen.MiscIdeal.Frame
public import proofs.«01_k».proof.Proof.Gen.MiscIdeal.Value
public import proofs.«01_k».proof.Proof.Gen.MiscReferenceIdeal
public import proofs.«01_k».proof.Proof.Gen.MiscReferenceIdeal.Run
public import proofs.«01_k».proof.Proof.Gen.MiscReferenceIdeal.Read
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.NormReferenceIdeal.Read
public import proofs.«01_k».proof.Proof.WgradClaim
public import proofs.«01_k».proof.Proof.InprojClaim
public import proofs.«01_k».proof.Proof.WinClaim
public import proofs.«01_k».proof.Proof.ProjClaim
public import proofs.«01_k».proof.Proof.MiscClaim
public import proofs.«01_k».proof.Proof.NormClaim
public import proofs.«01_k».proof.Proof.Finite
public import proofs.«01_k».proof.Proof.Result
public import proofs.«01_k».proof.Proof.Same
public import Idealize.ShloMosaic.Adequacy
public import Idealize.ShloMosaic.Init

@[expose] public section

set_option maxRecDepth 65536

noncomputable section

namespace Cert.Proof

open Idealize.ShloMosaic Idealize.SL.Sem Cert.KernelIdeal.Run Cert.ReferenceIdeal.Read

/-- The reference's arguments end as they began and its counters stay at zero: the last part of its run. -/
theorem frame_reference : Cert.quiescent_ReferenceIdeal := fun m ρ _ =>
  (θ_run Cert.ReferenceIdeal.defs _ _).mono
    (fun r h => ⟨fun c => (h c).2.2.2.2.2.2.2.2.2, sem_eq_zero_of_no_sems (by decide) r.2⟩)
    (Cert.ReferenceIdeal.Value.run (F := Ideal) m ρ)

/-- The reference's arguments are the kernel's where the two memories agree. -/
theorem args_agree {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Result.refArgs m' c = args m c := by
  unfold Result.refArgs args
  rw [Ref.Args.mk.injEq]
  exact ⟨h0, h1, h2, h3, h4, h5, h6, h7, h8, h9, h10, h11, h12⟩

set_option maxHeartbeats 1600000 in
theorem algebraic : Cert.algebraic_KernelIdeal_ReferenceIdeal_pre_finite := by
  intro m ρ m' ρ' hpre hagree
  have agree : ∀ c, Result.refArgs m' c = args m c := fun c => by
    obtain ⟨h0, h1, h2, h3, h4, h5, h6, h7, h8, h9, h10, h11, h12⟩ := hagree c
    exact args_agree c h0 h1 h2 h3 h4 h5 h6 h7 h8 h9 h10 h11 h12
  have real : ∀ c, (args m c).Real := fun c => Finite.real (args m c) (hpre c)
  have real' : ∀ c, (Result.refArgs m' c).Real := fun c => (agree c).symm ▸ real c
  refine ⟨fun c => (dats m 0 c).arrAt 8 Cert.KernelIdeal.cfg0.N, fun c => (dats m 0 c).arrAt 9 Cert.KernelIdeal.cfg0.N, fun c => (dats m 0 c).arrAt 10 Cert.KernelIdeal.cfg0.N, fun c => (dats m 0 c).arrAt 11 Cert.KernelIdeal.cfg0.N, fun c => (dats m 0 c).arrAt 12 Cert.KernelIdeal.cfg0.N, fun c => (dats m 0 c).arrAt 13 Cert.KernelIdeal.cfg0.N, fun c => (dats m 0 c).arrAt 14 Cert.KernelIdeal.cfg0.N, fun c => (dats m 0 c).arrAt 15 Cert.KernelIdeal.cfg0.N, fun c => (dats m 0 c).arrAt 16 Cert.KernelIdeal.cfg0.N,
    (θ_run Cert.KernelIdeal.defs _ _).mono (fun r h c => ?_) (θ_run_and (run_results m ρ) (unchanged (F := Ideal) m ρ)), ?_⟩
  · obtain ⟨e8, e9, e10, e11, e12, e13, e14, e15, e16⟩ := h.1 c
    exact ⟨e8, e9, e10, e11, e12, e13, e14, e15, e16, h.2 c⟩
  · refine (θ_run Cert.ReferenceIdeal.defs _ _).mono (fun r h c => ?_) (Cert.ReferenceIdeal.Value.run (F := Ideal) m' ρ')
    obtain ⟨e8, e9, e10, e11, e12, e13, e14, e15, e16, kept⟩ := h c
    refine ⟨e8.trans ((val_main_v117_eq _).trans ((Result.dg_array (real' c)).trans ?_)), e9.trans ((val_main_v118_eq _).trans ((Result.du_array (real' c)).trans ?_)), e10.trans ((val_main_v119_eq _).trans ((Result.ds_array (real' c)).trans ?_)), e11.trans ((val_main_v120_eq _).trans ((Result.dple_array (real' c)).trans ?_)), e12.trans ((val_main_v111_eq _).trans ((Result.dz1_array (real' c)).trans ?_)), e13.trans ((val_main_v116_eq _).trans ((Result.dyr_array (real' c)).trans ?_)), e14.trans ((val_main_v115_eq _).trans ((Result.dya_array (real' c)).trans ?_)), e15.trans ((val_main_v85_eq _).trans ((Result.gain_array (real' c)).trans ?_)), e16.trans ((val_main_v82_eq _).trans ((Result.bias_array (real' c)).trans ?_)), kept⟩
    · rw [agree c]; exact (final_8 m c).symm
    · rw [agree c]; exact (final_9 m c).symm
    · rw [agree c]; exact (final_10 m c).symm
    · rw [agree c]; exact (final_11 m c).symm
    · rw [agree c]; exact (final_12 m c).symm
    · rw [agree c]; exact (final_13 m c).symm
    · rw [agree c]; exact (final_14 m c).symm
    · rw [agree c]; exact (final_15 m c).symm
    · rw [agree c]; exact (final_16 m c).symm

theorem claim : Cert.Claim := ⟨Cert.Kernel.Gen.facts, Cert.KernelIdeal.Gen.facts, Cert.ReferenceIdeal.Gen.facts,
  Cert.Wgrad.Gen.facts, Cert.WgradIdeal.Gen.facts, Cert.WgradReferenceIdeal.Gen.facts,
  Cert.Inproj.Gen.facts, Cert.InprojIdeal.Gen.facts, Cert.InprojReferenceIdeal.Gen.facts,
  Cert.Win.Gen.facts, Cert.WinIdeal.Gen.facts, Cert.WinReferenceIdeal.Gen.facts,
  Cert.Proj.Gen.facts, Cert.ProjIdeal.Gen.facts, Cert.ProjReferenceIdeal.Gen.facts,
  Cert.Misc.Gen.facts, Cert.MiscIdeal.Gen.facts, Cert.MiscReferenceIdeal.Gen.facts,
  Cert.Norm.Gen.facts, Cert.NormIdeal.Gen.facts, Cert.NormReferenceIdeal.Gen.facts,
  Cert.Pre_finite.Gen.facts,
  frame_kernel, fun m ρ _ => Cert.KernelIdeal.Run.frame (F := Ideal) m ρ, fun m ρ _ => Cert.KernelIdeal.Run.frame (F := Ideal) m ρ,
  frame_reference, fun m ρ _ => frame_reference m ρ trivial,
  fun m ρ _ => Cert.Wgrad.Gen.frame m ρ, fun m ρ _ => Cert.WgradIdeal.Gen.frame m ρ, Cert.WgradIdeal.Sums.frame_reference,
  fun m ρ _ => Cert.Inproj.Gen.frame m ρ, fun m ρ _ => Cert.InprojIdeal.Gen.frame m ρ, Cert.InprojIdeal.Sums.frame_reference,
  fun m ρ _ => Cert.Win.Gen.frame m ρ, fun m ρ _ => Cert.WinIdeal.Gen.frame m ρ, Cert.WinIdeal.Sums.frame_reference,
  fun m ρ _ => Cert.Proj.Gen.frame m ρ, fun m ρ _ => Cert.ProjIdeal.Gen.frame m ρ, Cert.ProjIdeal.Sums.frame_reference,
  fun m ρ _ => Cert.Misc.Gen.frame m ρ, fun m ρ _ => Cert.MiscIdeal.Gen.frame m ρ, Cert.MiscIdeal.Sums.frame_reference,
  fun m ρ _ => Cert.Norm.Gen.frame m ρ, fun m ρ _ => Cert.NormIdeal.Gen.frame m ρ, Cert.NormIdeal.Rows.frame_reference,
  trivial, algebraic, trivial, Cert.WgradIdeal.Sums.algebraic, trivial, Cert.InprojIdeal.Sums.algebraic,
  trivial, Cert.WinIdeal.Sums.algebraic, trivial, Cert.ProjIdeal.Sums.algebraic, trivial, Cert.MiscIdeal.Sums.algebraic,
  trivial, Cert.NormIdeal.Rows.algebraic⟩

end Cert.Proof

end
